-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_OutAIdeal_finite_scores [hPre_finite_scores : Cert.Pre_finite_scores.Facts] (m : (ℓ : Loc Cert.OutAIdeal.nD Cert.OutAIdeal.τ Cert.OutAIdeal.sig) → Buf (Elt Ideal) ℓ) : Prop :=
  ∀ c : Dev Cert.OutAIdeal.nD,
    (Cert.Pre_finite_scores.fn (F := Ideal) (m ((c.tc : Thread Cert.OutAIdeal.nD Cert.OutAIdeal.τ).loc Cert.OutAIdeal.main_arg0)) (m ((c.tc : Thread Cert.OutAIdeal.nD Cert.OutAIdeal.τ).loc Cert.OutAIdeal.main_arg1)) (m ((c.tc : Thread Cert.OutAIdeal.nD Cert.OutAIdeal.τ).loc Cert.OutAIdeal.main_arg2)) (m ((c.tc : Thread Cert.OutAIdeal.nD Cert.OutAIdeal.τ).loc Cert.OutAIdeal.main_arg3)) (m ((c.tc : Thread Cert.OutAIdeal.nD Cert.OutAIdeal.τ).loc Cert.OutAIdeal.main_arg4)) (m ((c.tc : Thread Cert.OutAIdeal.nD Cert.OutAIdeal.τ).loc Cert.OutAIdeal.main_arg5)) (m ((c.tc : Thread Cert.OutAIdeal.nD Cert.OutAIdeal.τ).loc Cert.OutAIdeal.main_arg6))).1 = (fun _ => 1#1)
    ∧ (Cert.Pre_finite_scores.fn (F := Ideal) (m ((c.tc : Thread Cert.OutAIdeal.nD Cert.OutAIdeal.τ).loc Cert.OutAIdeal.main_arg0)) (m ((c.tc : Thread Cert.OutAIdeal.nD Cert.OutAIdeal.τ).loc Cert.OutAIdeal.main_arg1)) (m ((c.tc : Thread Cert.OutAIdeal.nD Cert.OutAIdeal.τ).loc Cert.OutAIdeal.main_arg2)) (m ((c.tc : Thread Cert.OutAIdeal.nD Cert.OutAIdeal.τ).loc Cert.OutAIdeal.main_arg3)) (m ((c.tc : Thread Cert.OutAIdeal.nD Cert.OutAIdeal.τ).loc Cert.OutAIdeal.main_arg4)) (m ((c.tc : Thread Cert.OutAIdeal.nD Cert.OutAIdeal.τ).loc Cert.OutAIdeal.main_arg5)) (m ((c.tc : Thread Cert.OutAIdeal.nD Cert.OutAIdeal.τ).loc Cert.OutAIdeal.main_arg6))).2 = (fun _ => 1#1)

def Pre_OutAReferenceIdeal (m : (ℓ : Loc Cert.OutAReferenceIdeal.nD Cert.OutAReferenceIdeal.τ Cert.OutAReferenceIdeal.sig) → Buf (Elt Ideal) ℓ) : Prop :=
  True

def Pre_OutAReferenceIdeal_finite_scores [hPre_finite_scores : Cert.Pre_finite_scores.Facts] (m : (ℓ : Loc Cert.OutAReferenceIdeal.nD Cert.OutAReferenceIdeal.τ Cert.OutAReferenceIdeal.sig) → Buf (Elt Ideal) ℓ) : Prop :=
  ∀ c : Dev Cert.OutAReferenceIdeal.nD,
    (Cert.Pre_finite_scores.fn (F := Ideal) (m ((c.tc : Thread Cert.OutAReferenceIdeal.nD Cert.OutAReferenceIdeal.τ).loc Cert.OutAReferenceIdeal.main_arg0)) (m ((c.tc : Thread Cert.OutAReferenceIdeal.nD Cert.OutAReferenceIdeal.τ).loc Cert.OutAReferenceIdeal.main_arg1)) (m ((c.tc : Thread Cert.OutAReferenceIdeal.nD Cert.OutAReferenceIdeal.τ).loc Cert.OutAReferenceIdeal.main_arg2)) (m ((c.tc : Thread Cert.OutAReferenceIdeal.nD Cert.OutAReferenceIdeal.τ).loc Cert.OutAReferenceIdeal.main_arg3)) (m ((c.tc : Thread Cert.OutAReferenceIdeal.nD Cert.OutAReferenceIdeal.τ).loc Cert.OutAReferenceIdeal.main_arg4)) (m ((c.tc : Thread Cert.OutAReferenceIdeal.nD Cert.OutAReferenceIdeal.τ).loc Cert.OutAReferenceIdeal.main_arg5)) (m ((c.tc : Thread Cert.OutAReferenceIdeal.nD Cert.OutAReferenceIdeal.τ).loc Cert.OutAReferenceIdeal.main_arg6))).1 = (fun _ => 1#1)
    ∧ (Cert.Pre_finite_scores.fn (F := Ideal) (m ((c.tc : Thread Cert.OutAReferenceIdeal.nD Cert.OutAReferenceIdeal.τ).loc Cert.OutAReferenceIdeal.main_arg0)) (m ((c.tc : Thread Cert.OutAReferenceIdeal.nD Cert.OutAReferenceIdeal.τ).loc Cert.OutAReferenceIdeal.main_arg1)) (m ((c.tc : Thread Cert.OutAReferenceIdeal.nD Cert.OutAReferenceIdeal.τ).loc Cert.OutAReferenceIdeal.main_arg2)) (m ((c.tc : Thread Cert.OutAReferenceIdeal.nD Cert.OutAReferenceIdeal.τ).loc Cert.OutAReferenceIdeal.main_arg3)) (m ((c.tc : Thread Cert.OutAReferenceIdeal.nD Cert.OutAReferenceIdeal.τ).loc Cert.OutAReferenceIdeal.main_arg4)) (m ((c.tc : Thread Cert.OutAReferenceIdeal.nD Cert.OutAReferenceIdeal.τ).loc Cert.OutAReferenceIdeal.main_arg5)) (m ((c.tc : Thread Cert.OutAReferenceIdeal.nD Cert.OutAReferenceIdeal.τ).loc Cert.OutAReferenceIdeal.main_arg6))).2 = (fun _ => 1#1)

def Pre_ProjQ (m : (ℓ : Loc Cert.ProjQ.nD Cert.ProjQ.τ Cert.ProjQ.sig) → Buf (Elt Bits) ℓ) : Prop :=
  True

def Pre_ProjQIdeal (m : (ℓ : Loc Cert.ProjQIdeal.nD Cert.ProjQIdeal.τ Cert.ProjQIdeal.sig) → Buf (Elt Ideal) ℓ) : Prop :=
  True

def Pre_ProjQReferenceIdeal (m : (ℓ : Loc Cert.ProjQReferenceIdeal.nD Cert.ProjQReferenceIdeal.τ Cert.ProjQReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1)
      ∧ r.2.mem ((c.tc : Thread Cert.OutA.nD Cert.OutA.τ).loc Cert.OutA.main_arg2) = m ((c.tc : Thread Cert.OutA.nD Cert.OutA.τ).loc Cert.OutA.main_arg2)
      ∧ r.2.mem ((c.tc : Thread Cert.OutA.nD Cert.OutA.τ).loc Cert.OutA.main_arg3) = m ((c.tc : Thread Cert.OutA.nD Cert.OutA.τ).loc Cert.OutA.main_arg3)
      ∧ r.2.mem ((c.tc : Thread Cert.OutA.nD Cert.OutA.τ).loc Cert.OutA.main_arg4) = m ((c.tc : Thread Cert.OutA.nD Cert.OutA.τ).loc Cert.OutA.main_arg4)
      ∧ r.2.mem ((c.tc : Thread Cert.OutA.nD Cert.OutA.τ).loc Cert.OutA.main_arg5) = m ((c.tc : Thread Cert.OutA.nD Cert.OutA.τ).loc Cert.OutA.main_arg5)
      ∧ r.2.mem ((c.tc : Thread Cert.OutA.nD Cert.OutA.τ).loc Cert.OutA.main_arg6) = m ((c.tc : Thread Cert.OutA.nD Cert.OutA.τ).loc Cert.OutA.main_arg6))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
      ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
      ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3)
      ∧ r.2.mem ((c.tc : Thread Cert.OutAIdeal.nD Cert.OutAIdeal.τ).loc Cert.OutAIdeal.main_arg4) = m ((c.tc : Thread Cert.OutAIdeal.nD Cert.OutAIdeal.τ).loc Cert.OutAIdeal.main_arg4)
      ∧ r.2.mem ((c.tc : Thread Cert.OutAIdeal.nD Cert.OutAIdeal.τ).loc Cert.OutAIdeal.main_arg5) = m ((c.tc : Thread Cert.OutAIdeal.nD Cert.OutAIdeal.τ).loc Cert.OutAIdeal.main_arg5)
      ∧ r.2.mem ((c.tc : Thread Cert.OutAIdeal.nD Cert.OutAIdeal.τ).loc Cert.OutAIdeal.main_arg6) = m ((c.tc : Thread Cert.OutAIdeal.nD Cert.OutAIdeal.τ).loc Cert.OutAIdeal.main_arg6))
      ∧ r.2.sem = fun _ => 0)

def quiescent_OutAIdeal_pre_finite_scores [hOutAIdeal : Cert.OutAIdeal.Facts] [hPre_finite_scores : Cert.Pre_finite_scores.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal_finite_scores m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
      ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
      ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3)
      ∧ r.2.mem ((c.tc : Thread Cert.OutAIdeal.nD Cert.OutAIdeal.τ).loc Cert.OutAIdeal.main_arg4) = m ((c.tc : Thread Cert.OutAIdeal.nD Cert.OutAIdeal.τ).loc Cert.OutAIdeal.main_arg4)
      ∧ r.2.mem ((c.tc : Thread Cert.OutAIdeal.nD Cert.OutAIdeal.τ).loc Cert.OutAIdeal.main_arg5) = m ((c.tc : Thread Cert.OutAIdeal.nD Cert.OutAIdeal.τ).loc Cert.OutAIdeal.main_arg5)
      ∧ r.2.mem ((c.tc : Thread Cert.OutAIdeal.nD Cert.OutAIdeal.τ).loc Cert.OutAIdeal.main_arg6) = m ((c.tc : Thread Cert.OutAIdeal.nD Cert.OutAIdeal.τ).loc Cert.OutAIdeal.main_arg6))
      ∧ r.2.sem = fun _ => 0)

def quiescent_OutAReferenceIdeal [hOutAReferenceIdeal : Cert.OutAReferenceIdeal.Facts] : Prop :=
  ∀ (m : (ℓ : Loc Cert.OutAReferenceIdeal.nD Cert.OutAReferenceIdeal.τ Cert.OutAReferenceIdeal.sig) → Buf (Elt Ideal) ℓ) (g : Dev Cert.OutAReferenceIdeal.nD → PrngReg), Pre_OutAReferenceIdeal m →
    θ_run (Cert.OutAReferenceIdeal.defs (F := Ideal)) (onTc (τ := Cert.OutAReferenceIdeal.τ) (Cert.OutAReferenceIdeal.main (F := Ideal))) ⟨m, fun _ => 0, g⟩ (fun r => (∀ c : Dev Cert.OutAReferenceIdeal.nD,
      r.2.mem ((c.tc : Thread Cert.OutAReferenceIdeal.nD Cert.OutAReferenceIdeal.τ).loc Cert.OutAReferenceIdeal.main_arg0) = m ((c.tc : Thread Cert.OutAReferenceIdeal.nD Cert.OutAReferenceIdeal.τ).loc Cert.OutAReferenceIdeal.main_arg0)
      ∧ r.2.mem ((c.tc : Thread Cert.OutAReferenceIdeal.nD Cert.OutAReferenceIdeal.τ).loc Cert.OutAReferenceIdeal.main_arg1) = m ((c.tc : Thread Cert.OutAReferenceIdeal.nD Cert.OutAReferenceIdeal.τ).loc Cert.OutAReferenceIdeal.main_arg1)
      ∧ r.2.mem ((c.tc : Thread Cert.OutAReferenceIdeal.nD Cert.OutAReferenceIdeal.τ).loc Cert.OutAReferenceIdeal.main_arg2) = m ((c.tc : Thread Cert.OutAReferenceIdeal.nD Cert.OutAReferenceIdeal.τ).loc Cert.OutAReferenceIdeal.main_arg2)
      ∧ r.2.mem ((c.tc : Thread Cert.OutAReferenceIdeal.nD Cert.OutAReferenceIdeal.τ).loc Cert.OutAReferenceIdeal.main_arg3) = m ((c.tc : Thread Cert.OutAReferenceIdeal.nD Cert.OutAReferenceIdeal.τ).loc Cert.OutAReferenceIdeal.main_arg3)
      ∧ r.2.mem ((c.tc : Thread Cert.OutAReferenceIdeal.nD Cert.OutAReferenceIdeal.τ).loc Cert.OutAReferenceIdeal.main_arg4) = m ((c.tc : Thread Cert.OutAReferenceIdeal.nD Cert.OutAReferenceIdeal.τ).loc Cert.OutAReferenceIdeal.main_arg4)
      ∧ r.2.mem ((c.tc : Thread Cert.OutAReferenceIdeal.nD Cert.OutAReferenceIdeal.τ).loc Cert.OutAReferenceIdeal.main_arg5) = m ((c.tc : Thread Cert.OutAReferenceIdeal.nD Cert.OutAReferenceIdeal.τ).loc Cert.OutAReferenceIdeal.main_arg5)
      ∧ r.2.mem ((c.tc : Thread Cert.OutAReferenceIdeal.nD Cert.OutAReferenceIdeal.τ).loc Cert.OutAReferenceIdeal.main_arg6) = m ((c.tc : Thread Cert.OutAReferenceIdeal.nD Cert.OutAReferenceIdeal.τ).loc Cert.OutAReferenceIdeal.main_arg6))
      ∧ r.2.sem = fun _ => 0)

def quiescent_OutAReferenceIdeal_pre_finite_scores [hOutAReferenceIdeal : Cert.OutAReferenceIdeal.Facts] [hPre_finite_scores : Cert.Pre_finite_scores.Facts] : Prop :=
  ∀ (m : (ℓ : Loc Cert.OutAReferenceIdeal.nD Cert.OutAReferenceIdeal.τ Cert.OutAReferenceIdeal.sig) → Buf (Elt Ideal) ℓ) (g : Dev Cert.OutAReferenceIdeal.nD → PrngReg), Pre_OutAReferenceIdeal_finite_scores m →
    θ_run (Cert.OutAReferenceIdeal.defs (F := Ideal)) (onTc (τ := Cert.OutAReferenceIdeal.τ) (Cert.OutAReferenceIdeal.main (F := Ideal))) ⟨m, fun _ => 0, g⟩ (fun r => (∀ c : Dev Cert.OutAReferenceIdeal.nD,
      r.2.mem ((c.tc : Thread Cert.OutAReferenceIdeal.nD Cert.OutAReferenceIdeal.τ).loc Cert.OutAReferenceIdeal.main_arg0) = m ((c.tc : Thread Cert.OutAReferenceIdeal.nD Cert.OutAReferenceIdeal.τ).loc Cert.OutAReferenceIdeal.main_arg0)
      ∧ r.2.mem ((c.tc : Thread Cert.OutAReferenceIdeal.nD Cert.OutAReferenceIdeal.τ).loc Cert.OutAReferenceIdeal.main_arg1) = m ((c.tc : Thread Cert.OutAReferenceIdeal.nD Cert.OutAReferenceIdeal.τ).loc Cert.OutAReferenceIdeal.main_arg1)
      ∧ r.2.mem ((c.tc : Thread Cert.OutAReferenceIdeal.nD Cert.OutAReferenceIdeal.τ).loc Cert.OutAReferenceIdeal.main_arg2) = m ((c.tc : Thread Cert.OutAReferenceIdeal.nD Cert.OutAReferenceIdeal.τ).loc Cert.OutAReferenceIdeal.main_arg2)
      ∧ r.2.mem ((c.tc : Thread Cert.OutAReferenceIdeal.nD Cert.OutAReferenceIdeal.τ).loc Cert.OutAReferenceIdeal.main_arg3) = m ((c.tc : Thread Cert.OutAReferenceIdeal.nD Cert.OutAReferenceIdeal.τ).loc Cert.OutAReferenceIdeal.main_arg3)
      ∧ r.2.mem ((c.tc : Thread Cert.OutAReferenceIdeal.nD Cert.OutAReferenceIdeal.τ).loc Cert.OutAReferenceIdeal.main_arg4) = m ((c.tc : Thread Cert.OutAReferenceIdeal.nD Cert.OutAReferenceIdeal.τ).loc Cert.OutAReferenceIdeal.main_arg4)
      ∧ r.2.mem ((c.tc : Thread Cert.OutAReferenceIdeal.nD Cert.OutAReferenceIdeal.τ).loc Cert.OutAReferenceIdeal.main_arg5) = m ((c.tc : Thread Cert.OutAReferenceIdeal.nD Cert.OutAReferenceIdeal.τ).loc Cert.OutAReferenceIdeal.main_arg5)
      ∧ r.2.mem ((c.tc : Thread Cert.OutAReferenceIdeal.nD Cert.OutAReferenceIdeal.τ).loc Cert.OutAReferenceIdeal.main_arg6) = m ((c.tc : Thread Cert.OutAReferenceIdeal.nD Cert.OutAReferenceIdeal.τ).loc Cert.OutAReferenceIdeal.main_arg6))
      ∧ r.2.sem = fun _ => 0)

def quiescent_ProjQ [hProjQ : Cert.ProjQ.Facts] : Prop :=
  ∀ (m : (ℓ : Loc Cert.ProjQ.nD Cert.ProjQ.τ Cert.ProjQ.sig) → Buf (Elt Bits) ℓ) (g : Dev Cert.ProjQ.nD → PrngReg), Pre_ProjQ m →
    θ_run (Cert.ProjQ.defs (F := Bits)) (onTc (τ := Cert.ProjQ.τ) (Cert.ProjQ.main (F := Bits))) ⟨m, fun _ => 0, g⟩ (fun r => (∀ c : Dev Cert.ProjQ.nD,
      r.2.mem ((c.tc : Thread Cert.ProjQ.nD Cert.ProjQ.τ).loc Cert.ProjQ.main_arg0) = m ((c.tc : Thread Cert.ProjQ.nD Cert.ProjQ.τ).loc Cert.ProjQ.main_arg0)
      ∧ r.2.mem ((c.tc : Thread Cert.ProjQ.nD Cert.ProjQ.τ).loc Cert.ProjQ.main_arg1) = m ((c.tc : Thread Cert.ProjQ.nD Cert.ProjQ.τ).loc Cert.ProjQ.main_arg1)
      ∧ r.2.mem ((c.tc : Thread Cert.ProjQ.nD Cert.ProjQ.τ).loc Cert.ProjQ.main_arg2) = m ((c.tc : Thread Cert.ProjQ.nD Cert.ProjQ.τ).loc Cert.ProjQ.main_arg2)
      ∧ r.2.mem ((c.tc : Thread Cert.ProjQ.nD Cert.ProjQ.τ).loc Cert.ProjQ.main_arg3) = m ((c.tc : Thread Cert.ProjQ.nD Cert.ProjQ.τ).loc Cert.ProjQ.main_arg3)
      ∧ r.2.mem ((c.tc : Thread Cert.ProjQ.nD Cert.ProjQ.τ).loc Cert.ProjQ.main_arg4) = m ((c.tc : Thread Cert.ProjQ.nD Cert.ProjQ.τ).loc Cert.ProjQ.main_arg4))
      ∧ r.2.sem = fun _ => 0)

def quiescent_ProjQIdeal [hProjQIdeal : Cert.ProjQIdeal.Facts] : Prop :=
  ∀ (m : (ℓ : Loc Cert.ProjQIdeal.nD Cert.ProjQIdeal.τ Cert.ProjQIdeal.sig) → Buf (Elt Ideal) ℓ) (g : Dev Cert.ProjQIdeal.nD → PrngReg), Pre_ProjQIdeal m →
    θ_run (Cert.ProjQIdeal.defs (F := Ideal)) (onTc (τ := Cert.ProjQIdeal.τ) (Cert.ProjQIdeal.main (F := Ideal))) ⟨m, fun _ => 0, g⟩ (fun r => (∀ c : Dev Cert.ProjQIdeal.nD,
      r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
      ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1)
      ∧ r.2.mem ((c.tc : Thread Cert.ProjQIdeal.nD Cert.ProjQIdeal.τ).loc Cert.ProjQIdeal.main_arg2) = m ((c.tc : Thread Cert.ProjQIdeal.nD Cert.ProjQIdeal.τ).loc Cert.ProjQIdeal.main_arg2)
      ∧ r.2.mem ((c.tc : Thread Cert.ProjQIdeal.nD Cert.ProjQIdeal.τ).loc Cert.ProjQIdeal.main_arg3) = m ((c.tc : Thread Cert.ProjQIdeal.nD Cert.ProjQIdeal.τ).loc Cert.ProjQIdeal.main_arg3)
      ∧ r.2.mem ((c.tc : Thread Cert.ProjQIdeal.nD Cert.ProjQIdeal.τ).loc Cert.ProjQIdeal.main_arg4) = m ((c.tc : Thread Cert.ProjQIdeal.nD Cert.ProjQIdeal.τ).loc Cert.ProjQIdeal.main_arg4))
      ∧ r.2.sem = fun _ => 0)

def quiescent_ProjQReferenceIdeal [hProjQReferenceIdeal : Cert.ProjQReferenceIdeal.Facts] : Prop :=
  ∀ (m : (ℓ : Loc Cert.ProjQReferenceIdeal.nD Cert.ProjQReferenceIdeal.τ Cert.ProjQReferenceIdeal.sig) → Buf (Elt Ideal) ℓ) (g : Dev Cert.ProjQReferenceIdeal.nD → PrngReg), Pre_ProjQReferenceIdeal m →
    θ_run (Cert.ProjQReferenceIdeal.defs (F := Ideal)) (onTc (τ := Cert.ProjQReferenceIdeal.τ) (Cert.ProjQReferenceIdeal.main (F := Ideal))) ⟨m, fun _ => 0, g⟩ (fun r => (∀ c : Dev Cert.ProjQReferenceIdeal.nD,
      r.2.mem ((c.tc : Thread Cert.ProjQReferenceIdeal.nD Cert.ProjQReferenceIdeal.τ).loc Cert.ProjQReferenceIdeal.main_arg0) = m ((c.tc : Thread Cert.ProjQReferenceIdeal.nD Cert.ProjQReferenceIdeal.τ).loc Cert.ProjQReferenceIdeal.main_arg0)
      ∧ r.2.mem ((c.tc : Thread Cert.ProjQReferenceIdeal.nD Cert.ProjQReferenceIdeal.τ).loc Cert.ProjQReferenceIdeal.main_arg1) = m ((c.tc : Thread Cert.ProjQReferenceIdeal.nD Cert.ProjQReferenceIdeal.τ).loc Cert.ProjQReferenceIdeal.main_arg1)
      ∧ r.2.mem ((c.tc : Thread Cert.ProjQReferenceIdeal.nD Cert.ProjQReferenceIdeal.τ).loc Cert.ProjQReferenceIdeal.main_arg2) = m ((c.tc : Thread Cert.ProjQReferenceIdeal.nD Cert.ProjQReferenceIdeal.τ).loc Cert.ProjQReferenceIdeal.main_arg2)
      ∧ r.2.mem ((c.tc : Thread Cert.ProjQReferenceIdeal.nD Cert.ProjQReferenceIdeal.τ).loc Cert.ProjQReferenceIdeal.main_arg3) = m ((c.tc : Thread Cert.ProjQReferenceIdeal.nD Cert.ProjQReferenceIdeal.τ).loc Cert.ProjQReferenceIdeal.main_arg3)
      ∧ r.2.mem ((c.tc : Thread Cert.ProjQReferenceIdeal.nD Cert.ProjQReferenceIdeal.τ).loc Cert.ProjQReferenceIdeal.main_arg4) = m ((c.tc : Thread Cert.ProjQReferenceIdeal.nD Cert.ProjQReferenceIdeal.τ).loc Cert.ProjQReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)
      ∧ m' ((c.tc : Thread Cert.MlpReferenceIdeal.nD Cert.MlpReferenceIdeal.τ).loc Cert.MlpReferenceIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v1_0)) (v1 : (c : Dev Cert.MlpIdeal.nD) → Buf (Elt Ideal) ((c.tc : Thread Cert.MlpIdeal.nD Cert.MlpIdeal.τ).loc Cert.MlpIdeal.main_v1_1)) (v2 : (c : Dev Cert.MlpIdeal.nD) → Buf (Elt Ideal) ((c.tc : Thread Cert.MlpIdeal.nD Cert.MlpIdeal.τ).loc Cert.MlpIdeal.main_v1_2)) (v3 : (c : Dev Cert.MlpIdeal.nD) → Buf (Elt Ideal) ((c.tc : Thread Cert.MlpIdeal.nD Cert.MlpIdeal.τ).loc Cert.MlpIdeal.main_v1_3)) (v4 : (c : Dev Cert.MlpIdeal.nD) → Buf (Elt Ideal) ((c.tc : Thread Cert.MlpIdeal.nD Cert.MlpIdeal.τ).loc Cert.MlpIdeal.main_v1_4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v1_0) = v0 c
          ∧ r.2.mem ((c.tc : Thread Cert.MlpIdeal.nD Cert.MlpIdeal.τ).loc Cert.MlpIdeal.main_v1_1) = v1 c
          ∧ r.2.mem ((c.tc : Thread Cert.MlpIdeal.nD Cert.MlpIdeal.τ).loc Cert.MlpIdeal.main_v1_2) = v2 c
          ∧ r.2.mem ((c.tc : Thread Cert.MlpIdeal.nD Cert.MlpIdeal.τ).loc Cert.MlpIdeal.main_v1_3) = v3 c
          ∧ r.2.mem ((c.tc : Thread Cert.MlpIdeal.nD Cert.MlpIdeal.τ).loc Cert.MlpIdeal.main_v1_4) = v4 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v20) = v0 c
          ∧ r.2.mem ((c.tc : Thread Cert.MlpReferenceIdeal.nD Cert.MlpReferenceIdeal.τ).loc Cert.MlpReferenceIdeal.main_v23) = v1 c
          ∧ r.2.mem ((c.tc : Thread Cert.MlpReferenceIdeal.nD Cert.MlpReferenceIdeal.τ).loc Cert.MlpReferenceIdeal.main_v26) = v2 c
          ∧ r.2.mem ((c.tc : Thread Cert.MlpReferenceIdeal.nD Cert.MlpReferenceIdeal.τ).loc Cert.MlpReferenceIdeal.main_v29) = v3 c
          ∧ r.2.mem ((c.tc : Thread Cert.MlpReferenceIdeal.nD Cert.MlpReferenceIdeal.τ).loc Cert.MlpReferenceIdeal.main_v32) = v4 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7))

def preserves_OutA_OutAIdeal : Prop :=
  True

def algebraic_OutAIdeal_OutAReferenceIdeal_pre_finite_scores [hOutAIdeal : Cert.OutAIdeal.Facts] [hOutAReferenceIdeal : Cert.OutAReferenceIdeal.Facts] [hPre_finite_scores : Cert.Pre_finite_scores.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.OutAReferenceIdeal.nD Cert.OutAReferenceIdeal.τ Cert.OutAReferenceIdeal.sig) → Buf (Elt Ideal) ℓ) (g' : Dev Cert.OutAReferenceIdeal.nD → PrngReg), Pre_OutAIdeal_finite_scores m →
    (∀ c : Dev Cert.OutAIdeal.nD,
      m' ((c.tc : Thread Cert.OutAReferenceIdeal.nD Cert.OutAReferenceIdeal.τ).loc Cert.OutAReferenceIdeal.main_arg0) = m ((c.tc : Thread Cert.OutAIdeal.nD Cert.OutAIdeal.τ).loc Cert.OutAIdeal.main_arg0)
      ∧ m' ((c.tc : Thread Cert.OutAReferenceIdeal.nD Cert.OutAReferenceIdeal.τ).loc Cert.OutAReferenceIdeal.main_arg1) = m ((c.tc : Thread Cert.OutAIdeal.nD Cert.OutAIdeal.τ).loc Cert.OutAIdeal.main_arg1)
      ∧ m' ((c.tc : Thread Cert.OutAReferenceIdeal.nD Cert.OutAReferenceIdeal.τ).loc Cert.OutAReferenceIdeal.main_arg2) = m ((c.tc : Thread Cert.OutAIdeal.nD Cert.OutAIdeal.τ).loc Cert.OutAIdeal.main_arg2)
      ∧ m' ((c.tc : Thread Cert.OutAReferenceIdeal.nD Cert.OutAReferenceIdeal.τ).loc Cert.OutAReferenceIdeal.main_arg3) = m ((c.tc : Thread Cert.OutAIdeal.nD Cert.OutAIdeal.τ).loc Cert.OutAIdeal.main_arg3)
      ∧ m' ((c.tc : Thread Cert.OutAReferenceIdeal.nD Cert.OutAReferenceIdeal.τ).loc Cert.OutAReferenceIdeal.main_arg4) = m ((c.tc : Thread Cert.OutAIdeal.nD Cert.OutAIdeal.τ).loc Cert.OutAIdeal.main_arg4)
      ∧ m' ((c.tc : Thread Cert.OutAReferenceIdeal.nD Cert.OutAReferenceIdeal.τ).loc Cert.OutAReferenceIdeal.main_arg5) = m ((c.tc : Thread Cert.OutAIdeal.nD Cert.OutAIdeal.τ).loc Cert.OutAIdeal.main_arg5)
      ∧ m' ((c.tc : Thread Cert.OutAReferenceIdeal.nD Cert.OutAReferenceIdeal.τ).loc Cert.OutAReferenceIdeal.main_arg6) = m ((c.tc : Thread Cert.OutAIdeal.nD Cert.OutAIdeal.τ).loc Cert.OutAIdeal.main_arg6)) →
    ∃ (v0 : (c : Dev Cert.OutAIdeal.nD) → Buf (Elt Ideal) ((c.tc : Thread Cert.OutAIdeal.nD Cert.OutAIdeal.τ).loc Cert.OutAIdeal.main_v0_0)) (v1 : (c : Dev Cert.OutAIdeal.nD) → Buf (Elt Ideal) ((c.tc : Thread Cert.OutAIdeal.nD Cert.OutAIdeal.τ).loc Cert.OutAIdeal.main_v0_1)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v0_0) = v0 c
          ∧ r.2.mem ((c.tc : Thread Cert.OutAIdeal.nD Cert.OutAIdeal.τ).loc Cert.OutAIdeal.main_v0_1) = v1 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
          ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
          ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3)
          ∧ r.2.mem ((c.tc : Thread Cert.OutAIdeal.nD Cert.OutAIdeal.τ).loc Cert.OutAIdeal.main_arg4) = m ((c.tc : Thread Cert.OutAIdeal.nD Cert.OutAIdeal.τ).loc Cert.OutAIdeal.main_arg4)
          ∧ r.2.mem ((c.tc : Thread Cert.OutAIdeal.nD Cert.OutAIdeal.τ).loc Cert.OutAIdeal.main_arg5) = m ((c.tc : Thread Cert.OutAIdeal.nD Cert.OutAIdeal.τ).loc Cert.OutAIdeal.main_arg5)
          ∧ r.2.mem ((c.tc : Thread Cert.OutAIdeal.nD Cert.OutAIdeal.τ).loc Cert.OutAIdeal.main_arg6) = m ((c.tc : Thread Cert.OutAIdeal.nD Cert.OutAIdeal.τ).loc Cert.OutAIdeal.main_arg6))
      ∧ θ_run (Cert.OutAReferenceIdeal.defs (F := Ideal)) (onTc (τ := Cert.OutAReferenceIdeal.τ) (Cert.OutAReferenceIdeal.main (F := Ideal))) ⟨m', fun _ => 0, g'⟩ (fun r => ∀ c : Dev Cert.OutAReferenceIdeal.nD,
          r.2.mem ((c.tc : Thread Cert.OutAReferenceIdeal.nD Cert.OutAReferenceIdeal.τ).loc Cert.OutAReferenceIdeal.main_v29) = v0 c
          ∧ r.2.mem ((c.tc : Thread Cert.OutAReferenceIdeal.nD Cert.OutAReferenceIdeal.τ).loc Cert.OutAReferenceIdeal.main_v32) = v1 c
          ∧ r.2.mem ((c.tc : Thread Cert.OutAReferenceIdeal.nD Cert.OutAReferenceIdeal.τ).loc Cert.OutAReferenceIdeal.main_arg0) = m' ((c.tc : Thread Cert.OutAReferenceIdeal.nD Cert.OutAReferenceIdeal.τ).loc Cert.OutAReferenceIdeal.main_arg0)
          ∧ r.2.mem ((c.tc : Thread Cert.OutAReferenceIdeal.nD Cert.OutAReferenceIdeal.τ).loc Cert.OutAReferenceIdeal.main_arg1) = m' ((c.tc : Thread Cert.OutAReferenceIdeal.nD Cert.OutAReferenceIdeal.τ).loc Cert.OutAReferenceIdeal.main_arg1)
          ∧ r.2.mem ((c.tc : Thread Cert.OutAReferenceIdeal.nD Cert.OutAReferenceIdeal.τ).loc Cert.OutAReferenceIdeal.main_arg2) = m' ((c.tc : Thread Cert.OutAReferenceIdeal.nD Cert.OutAReferenceIdeal.τ).loc Cert.OutAReferenceIdeal.main_arg2)
          ∧ r.2.mem ((c.tc : Thread Cert.OutAReferenceIdeal.nD Cert.OutAReferenceIdeal.τ).loc Cert.OutAReferenceIdeal.main_arg3) = m' ((c.tc : Thread Cert.OutAReferenceIdeal.nD Cert.OutAReferenceIdeal.τ).loc Cert.OutAReferenceIdeal.main_arg3)
          ∧ r.2.mem ((c.tc : Thread Cert.OutAReferenceIdeal.nD Cert.OutAReferenceIdeal.τ).loc Cert.OutAReferenceIdeal.main_arg4) = m' ((c.tc : Thread Cert.OutAReferenceIdeal.nD Cert.OutAReferenceIdeal.τ).loc Cert.OutAReferenceIdeal.main_arg4)
          ∧ r.2.mem ((c.tc : Thread Cert.OutAReferenceIdeal.nD Cert.OutAReferenceIdeal.τ).loc Cert.OutAReferenceIdeal.main_arg5) = m' ((c.tc : Thread Cert.OutAReferenceIdeal.nD Cert.OutAReferenceIdeal.τ).loc Cert.OutAReferenceIdeal.main_arg5)
          ∧ r.2.mem ((c.tc : Thread Cert.OutAReferenceIdeal.nD Cert.OutAReferenceIdeal.τ).loc Cert.OutAReferenceIdeal.main_arg6) = m' ((c.tc : Thread Cert.OutAReferenceIdeal.nD Cert.OutAReferenceIdeal.τ).loc Cert.OutAReferenceIdeal.main_arg6))

def preserves_ProjQ_ProjQIdeal : Prop :=
  True

def algebraic_ProjQIdeal_ProjQReferenceIdeal [hProjQIdeal : Cert.ProjQIdeal.Facts] [hProjQReferenceIdeal : Cert.ProjQReferenceIdeal.Facts] : Prop :=
  ∀ (m : (ℓ : Loc Cert.ProjQIdeal.nD Cert.ProjQIdeal.τ Cert.ProjQIdeal.sig) → Buf (Elt Ideal) ℓ) (g : Dev Cert.ProjQIdeal.nD → PrngReg)
    (m' : (ℓ : Loc Cert.ProjQReferenceIdeal.nD Cert.ProjQReferenceIdeal.τ Cert.ProjQReferenceIdeal.sig) → Buf (Elt Ideal) ℓ) (g' : Dev Cert.ProjQReferenceIdeal.nD → PrngReg), Pre_ProjQIdeal m →
    (∀ c : Dev Cert.ProjQIdeal.nD,
      m' ((c.tc : Thread Cert.ProjQReferenceIdeal.nD Cert.ProjQReferenceIdeal.τ).loc Cert.ProjQReferenceIdeal.main_arg0) = m ((c.tc : Thread Cert.ProjQIdeal.nD Cert.ProjQIdeal.τ).loc Cert.ProjQIdeal.main_arg0)
      ∧ m' ((c.tc : Thread Cert.ProjQReferenceIdeal.nD Cert.ProjQReferenceIdeal.τ).loc Cert.ProjQReferenceIdeal.main_arg1) = m ((c.tc : Thread Cert.ProjQIdeal.nD Cert.ProjQIdeal.τ).loc Cert.ProjQIdeal.main_arg1)
      ∧ m' ((c.tc : Thread Cert.ProjQReferenceIdeal.nD Cert.ProjQReferenceIdeal.τ).loc Cert.ProjQReferenceIdeal.main_arg2) = m ((c.tc : Thread Cert.ProjQIdeal.nD Cert.ProjQIdeal.τ).loc Cert.ProjQIdeal.main_arg2)
      ∧ m' ((c.tc : Thread Cert.ProjQReferenceIdeal.nD Cert.ProjQReferenceIdeal.τ).loc Cert.ProjQReferenceIdeal.main_arg3) = m ((c.tc : Thread Cert.ProjQIdeal.nD Cert.ProjQIdeal.τ).loc Cert.ProjQIdeal.main_arg3)
      ∧ m' ((c.tc : Thread Cert.ProjQReferenceIdeal.nD Cert.ProjQReferenceIdeal.τ).loc Cert.ProjQReferenceIdeal.main_arg4) = m ((c.tc : Thread Cert.ProjQIdeal.nD Cert.ProjQIdeal.τ).loc Cert.ProjQIdeal.main_arg4)) →
    ∃ (v0 : (c : Dev Cert.ProjQIdeal.nD) → Buf (Elt Ideal) ((c.tc : Thread Cert.ProjQIdeal.nD Cert.ProjQIdeal.τ).loc Cert.ProjQIdeal.main_v3_0)) (v1 : (c : Dev Cert.ProjQIdeal.nD) → Buf (Elt Ideal) ((c.tc : Thread Cert.ProjQIdeal.nD Cert.ProjQIdeal.τ).loc Cert.ProjQIdeal.main_v3_1)) (v2 : (c : Dev Cert.ProjQIdeal.nD) → Buf (Elt Ideal) ((c.tc : Thread Cert.ProjQIdeal.nD Cert.ProjQIdeal.τ).loc Cert.ProjQIdeal.main_v3_2)) (v3 : (c : Dev Cert.ProjQIdeal.nD) → Buf (Elt Ideal) ((c.tc : Thread Cert.ProjQIdeal.nD Cert.ProjQIdeal.τ).loc Cert.ProjQIdeal.main_v3_3)),
      θ_run (Cert.ProjQIdeal.defs (F := Ideal)) (onTc (τ := Cert.ProjQIdeal.τ) (Cert.ProjQIdeal.main (F := Ideal))) ⟨m, fun _ => 0, g⟩ (fun r => ∀ c : Dev Cert.ProjQIdeal.nD,
          r.2.mem ((c.tc : Thread Cert.ProjQIdeal.nD Cert.ProjQIdeal.τ).loc Cert.ProjQIdeal.main_v3_0) = v0 c
          ∧ r.2.mem ((c.tc : Thread Cert.ProjQIdeal.nD Cert.ProjQIdeal.τ).loc Cert.ProjQIdeal.main_v3_1) = v1 c
          ∧ r.2.mem ((c.tc : Thread Cert.ProjQIdeal.nD Cert.ProjQIdeal.τ).loc Cert.ProjQIdeal.main_v3_2) = v2 c
          ∧ r.2.mem ((c.tc : Thread Cert.ProjQIdeal.nD Cert.ProjQIdeal.τ).loc Cert.ProjQIdeal.main_v3_3) = v3 c
          ∧ r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
          ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1)
          ∧ r.2.mem ((c.tc : Thread Cert.ProjQIdeal.nD Cert.ProjQIdeal.τ).loc Cert.ProjQIdeal.main_arg2) = m ((c.tc : Thread Cert.ProjQIdeal.nD Cert.ProjQIdeal.τ).loc Cert.ProjQIdeal.main_arg2)
          ∧ r.2.mem ((c.tc : Thread Cert.ProjQIdeal.nD Cert.ProjQIdeal.τ).loc Cert.ProjQIdeal.main_arg3) = m ((c.tc : Thread Cert.ProjQIdeal.nD Cert.ProjQIdeal.τ).loc Cert.ProjQIdeal.main_arg3)
          ∧ r.2.mem ((c.tc : Thread Cert.ProjQIdeal.nD Cert.ProjQIdeal.τ).loc Cert.ProjQIdeal.main_arg4) = m ((c.tc : Thread Cert.ProjQIdeal.nD Cert.ProjQIdeal.τ).loc Cert.ProjQIdeal.main_arg4))
      ∧ θ_run (Cert.ProjQReferenceIdeal.defs (F := Ideal)) (onTc (τ := Cert.ProjQReferenceIdeal.τ) (Cert.ProjQReferenceIdeal.main (F := Ideal))) ⟨m', fun _ => 0, g'⟩ (fun r => ∀ c : Dev Cert.ProjQReferenceIdeal.nD,
          r.2.mem ((c.tc : Thread Cert.ProjQReferenceIdeal.nD Cert.ProjQReferenceIdeal.τ).loc Cert.ProjQReferenceIdeal.main_v54) = v0 c
          ∧ r.2.mem ((c.tc : Thread Cert.ProjQReferenceIdeal.nD Cert.ProjQReferenceIdeal.τ).loc Cert.ProjQReferenceIdeal.main_v59) = v1 c
          ∧ r.2.mem ((c.tc : Thread Cert.ProjQReferenceIdeal.nD Cert.ProjQReferenceIdeal.τ).loc Cert.ProjQReferenceIdeal.main_v64) = v2 c
          ∧ r.2.mem ((c.tc : Thread Cert.ProjQReferenceIdeal.nD Cert.ProjQReferenceIdeal.τ).loc Cert.ProjQReferenceIdeal.main_v66) = v3 c
          ∧ r.2.mem ((c.tc : Thread Cert.ProjQReferenceIdeal.nD Cert.ProjQReferenceIdeal.τ).loc Cert.ProjQReferenceIdeal.main_arg0) = m' ((c.tc : Thread Cert.ProjQReferenceIdeal.nD Cert.ProjQReferenceIdeal.τ).loc Cert.ProjQReferenceIdeal.main_arg0)
          ∧ r.2.mem ((c.tc : Thread Cert.ProjQReferenceIdeal.nD Cert.ProjQReferenceIdeal.τ).loc Cert.ProjQReferenceIdeal.main_arg1) = m' ((c.tc : Thread Cert.ProjQReferenceIdeal.nD Cert.ProjQReferenceIdeal.τ).loc Cert.ProjQReferenceIdeal.main_arg1)
          ∧ r.2.mem ((c.tc : Thread Cert.ProjQReferenceIdeal.nD Cert.ProjQReferenceIdeal.τ).loc Cert.ProjQReferenceIdeal.main_arg2) = m' ((c.tc : Thread Cert.ProjQReferenceIdeal.nD Cert.ProjQReferenceIdeal.τ).loc Cert.ProjQReferenceIdeal.main_arg2)
          ∧ r.2.mem ((c.tc : Thread Cert.ProjQReferenceIdeal.nD Cert.ProjQReferenceIdeal.τ).loc Cert.ProjQReferenceIdeal.main_arg3) = m' ((c.tc : Thread Cert.ProjQReferenceIdeal.nD Cert.ProjQReferenceIdeal.τ).loc Cert.ProjQReferenceIdeal.main_arg3)
          ∧ r.2.mem ((c.tc : Thread Cert.ProjQReferenceIdeal.nD Cert.ProjQReferenceIdeal.τ).loc Cert.ProjQReferenceIdeal.main_arg4) = m' ((c.tc : Thread Cert.ProjQReferenceIdeal.nD Cert.ProjQReferenceIdeal.τ).loc Cert.ProjQReferenceIdeal.main_arg4))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v9_0)) (v1 : (c : Dev Cert.ProjIdeal.nD) → Buf (Elt Ideal) ((c.tc : Thread Cert.ProjIdeal.nD Cert.ProjIdeal.τ).loc Cert.ProjIdeal.main_v9_1)) (v2 : (c : Dev Cert.ProjIdeal.nD) → Buf (Elt Ideal) ((c.tc : Thread Cert.ProjIdeal.nD Cert.ProjIdeal.τ).loc Cert.ProjIdeal.main_v9_2)) (v3 : (c : Dev Cert.ProjIdeal.nD) → Buf (Elt Ideal) ((c.tc : Thread Cert.ProjIdeal.nD Cert.ProjIdeal.τ).loc Cert.ProjIdeal.main_v9_3)) (v4 : (c : Dev Cert.ProjIdeal.nD) → Buf (Elt Ideal) ((c.tc : Thread Cert.ProjIdeal.nD Cert.ProjIdeal.τ).loc Cert.ProjIdeal.main_v9_4)) (v5 : (c : Dev Cert.ProjIdeal.nD) → Buf (Elt Ideal) ((c.tc : Thread Cert.ProjIdeal.nD Cert.ProjIdeal.τ).loc Cert.ProjIdeal.main_v9_5)) (v6 : (c : Dev Cert.ProjIdeal.nD) → Buf (Elt Ideal) ((c.tc : Thread Cert.ProjIdeal.nD Cert.ProjIdeal.τ).loc Cert.ProjIdeal.main_v9_6)) (v7 : (c : Dev Cert.ProjIdeal.nD) → Buf (Elt Ideal) ((c.tc : Thread Cert.ProjIdeal.nD Cert.ProjIdeal.τ).loc Cert.ProjIdeal.main_v9_7)) (v8 : (c : Dev Cert.ProjIdeal.nD) → Buf (Elt Ideal) ((c.tc : Thread Cert.ProjIdeal.nD Cert.ProjIdeal.τ).loc Cert.ProjIdeal.main_v9_8)) (v9 : (c : Dev Cert.ProjIdeal.nD) → Buf (Elt Ideal) ((c.tc : Thread Cert.ProjIdeal.nD Cert.ProjIdeal.τ).loc Cert.ProjIdeal.main_v9_9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9_0) = v0 c
          ∧ r.2.mem ((c.tc : Thread Cert.ProjIdeal.nD Cert.ProjIdeal.τ).loc Cert.ProjIdeal.main_v9_1) = v1 c
          ∧ r.2.mem ((c.tc : Thread Cert.ProjIdeal.nD Cert.ProjIdeal.τ).loc Cert.ProjIdeal.main_v9_2) = v2 c
          ∧ r.2.mem ((c.tc : Thread Cert.ProjIdeal.nD Cert.ProjIdeal.τ).loc Cert.ProjIdeal.main_v9_3) = v3 c
          ∧ r.2.mem ((c.tc : Thread Cert.ProjIdeal.nD Cert.ProjIdeal.τ).loc Cert.ProjIdeal.main_v9_4) = v4 c
          ∧ r.2.mem ((c.tc : Thread Cert.ProjIdeal.nD Cert.ProjIdeal.τ).loc Cert.ProjIdeal.main_v9_5) = v5 c
          ∧ r.2.mem ((c.tc : Thread Cert.ProjIdeal.nD Cert.ProjIdeal.τ).loc Cert.ProjIdeal.main_v9_6) = v6 c
          ∧ r.2.mem ((c.tc : Thread Cert.ProjIdeal.nD Cert.ProjIdeal.τ).loc Cert.ProjIdeal.main_v9_7) = v7 c
          ∧ r.2.mem ((c.tc : Thread Cert.ProjIdeal.nD Cert.ProjIdeal.τ).loc Cert.ProjIdeal.main_v9_8) = v8 c
          ∧ r.2.mem ((c.tc : Thread Cert.ProjIdeal.nD Cert.ProjIdeal.τ).loc Cert.ProjIdeal.main_v9_9) = v9 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v37) = v0 c
          ∧ r.2.mem ((c.tc : Thread Cert.ProjReferenceIdeal.nD Cert.ProjReferenceIdeal.τ).loc Cert.ProjReferenceIdeal.main_v42) = v1 c
          ∧ r.2.mem ((c.tc : Thread Cert.ProjReferenceIdeal.nD Cert.ProjReferenceIdeal.τ).loc Cert.ProjReferenceIdeal.main_v47) = v2 c
          ∧ r.2.mem ((c.tc : Thread Cert.ProjReferenceIdeal.nD Cert.ProjReferenceIdeal.τ).loc Cert.ProjReferenceIdeal.main_v52) = v3 c
          ∧ r.2.mem ((c.tc : Thread Cert.ProjReferenceIdeal.nD Cert.ProjReferenceIdeal.τ).loc Cert.ProjReferenceIdeal.main_v57) = v4 c
          ∧ r.2.mem ((c.tc : Thread Cert.ProjReferenceIdeal.nD Cert.ProjReferenceIdeal.τ).loc Cert.ProjReferenceIdeal.main_v62) = v5 c
          ∧ r.2.mem ((c.tc : Thread Cert.ProjReferenceIdeal.nD Cert.ProjReferenceIdeal.τ).loc Cert.ProjReferenceIdeal.main_v117) = v6 c
          ∧ r.2.mem ((c.tc : Thread Cert.ProjReferenceIdeal.nD Cert.ProjReferenceIdeal.τ).loc Cert.ProjReferenceIdeal.main_v122) = v7 c
          ∧ r.2.mem ((c.tc : Thread Cert.ProjReferenceIdeal.nD Cert.ProjReferenceIdeal.τ).loc Cert.ProjReferenceIdeal.main_v127) = v8 c
          ∧ r.2.mem ((c.tc : Thread Cert.ProjReferenceIdeal.nD Cert.ProjReferenceIdeal.τ).loc Cert.ProjReferenceIdeal.main_v129) = v9 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hOutA : Cert.OutA.Facts) (hOutAIdeal : Cert.OutAIdeal.Facts) (hOutAReferenceIdeal : Cert.OutAReferenceIdeal.Facts) (hProjQ : Cert.ProjQ.Facts) (hProjQIdeal : Cert.ProjQIdeal.Facts) (hProjQReferenceIdeal : Cert.ProjQReferenceIdeal.Facts) (hProj : Cert.Proj.Facts) (hProjIdeal : Cert.ProjIdeal.Facts) (hProjReferenceIdeal : Cert.ProjReferenceIdeal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Mlp (hMlp := hMlp)
    ∧ quiescent_MlpIdeal (hMlpIdeal := hMlpIdeal)
    ∧ quiescent_MlpReferenceIdeal (hMlpReferenceIdeal := hMlpReferenceIdeal)
    ∧ quiescent_OutA (hOutA := hOutA)
    ∧ quiescent_OutAIdeal (hOutAIdeal := hOutAIdeal)
    ∧ quiescent_OutAIdeal_pre_finite_scores (hOutAIdeal := hOutAIdeal) (hPre_finite_scores := hPre_finite_scores)
    ∧ quiescent_OutAReferenceIdeal (hOutAReferenceIdeal := hOutAReferenceIdeal)
    ∧ quiescent_OutAReferenceIdeal_pre_finite_scores (hOutAReferenceIdeal := hOutAReferenceIdeal) (hPre_finite_scores := hPre_finite_scores)
    ∧ quiescent_ProjQ (hProjQ := hProjQ)
    ∧ quiescent_ProjQIdeal (hProjQIdeal := hProjQIdeal)
    ∧ quiescent_ProjQReferenceIdeal (hProjQReferenceIdeal := hProjQReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal (hKernelIdeal := hKernelIdeal) (hReferenceIdeal := hReferenceIdeal)
    ∧ preserves_Mlp_MlpIdeal
    ∧ algebraic_MlpIdeal_MlpReferenceIdeal (hMlpIdeal := hMlpIdeal) (hMlpReferenceIdeal := hMlpReferenceIdeal)
    ∧ preserves_OutA_OutAIdeal
    ∧ algebraic_OutAIdeal_OutAReferenceIdeal_pre_finite_scores (hOutAIdeal := hOutAIdeal) (hOutAReferenceIdeal := hOutAReferenceIdeal) (hPre_finite_scores := hPre_finite_scores)
    ∧ preserves_ProjQ_ProjQIdeal
    ∧ algebraic_ProjQIdeal_ProjQReferenceIdeal (hProjQIdeal := hProjQIdeal) (hProjQReferenceIdeal := hProjQReferenceIdeal)
    ∧ preserves_Proj_ProjIdeal
    ∧ algebraic_ProjIdeal_ProjReferenceIdeal (hProjIdeal := hProjIdeal) (hProjReferenceIdeal := hProjReferenceIdeal)
-- ==== Pre_finite_scores.lean ====
abbrev S8192x2048 : Shape := ⟨2, ![8192, 2048]⟩
abbrev S8192x1536 : Shape := ⟨2, ![8192, 1536]⟩
abbrev S8192x512 : Shape := ⟨2, ![8192, 512]⟩
abbrev S4x256x512 : Shape := ⟨3, ![4, 256, 512]⟩
abbrev S2048x2048 : Shape := ⟨2, ![2048, 2048]⟩
abbrev S4x8192x2048 : Shape := ⟨3, ![4, 8192, 2048]⟩
abbrev S1x256x512 : Shape := ⟨3, ![1, 256, 512]⟩
abbrev S256x512 : Shape := ⟨2, ![256, 512]⟩
abbrev S_ : Shape := ⟨0, ![]⟩

class Facts : Prop where
  bitsLt_bf16_f32 : FTy.bits .bf16 < FTy.bits .f32
  slices_S4x256x512_S1x256x512_0_0_0 : S4x256x512.Slices ![0, 0, 0] S1x256x512
  shapeCasts_S1x256x512_S256x512 : S1x256x512.ShapeCasts S256x512
  bcast_S_S8192x512 : S_.BroadcastsInDim S8192x512 (![] : Fin 0 → Fin S8192x512.rank)
  bcast_S_S256x512 : S_.BroadcastsInDim S256x512 (![] : Fin 0 → Fin S256x512.rank)

variable [Facts]

def fn {F : FTy → Type} [FloatOps F] (main_arg0 : FVec F S8192x2048 .f32) (main_arg1 : FVec F S8192x1536 .bf16) (main_arg2 : FVec F S8192x512 .bf16) (main_arg3 : FVec F S4x256x512 .bf16) (main_arg4 : FVec F S4x256x512 .bf16) (main_arg5 : FVec F S2048x2048 .bf16) (main_arg6 : FVec F S4x8192x2048 .f32) : IVec S8192x512 1 × IVec S256x512 1 :=
  let main_v0 : FVec F S8192x512 .f32 := (extf .f32 · bitsLt_bf16_f32) main_arg2
  let main_v1 : FVec F S1x256x512 .bf16 := (extractStridedSlice S1x256x512 ![0, 0, 0] · slices_S4x256x512_S1x256x512_0_0_0) main_arg3
  let main_v2 : FVec F S256x512 .bf16 := shapeCast S256x512 main_v1 shapeCasts_S1x256x512_S256x512
  let main_v3 : FVec F S256x512 .f32 := (extf .f32 · bitsLt_bf16_f32) main_v2
  let main_cst : FVec F S_ .f32 := constant S_ .f32 0xFF800000#32
  let main_v4 : FVec F S8192x512 .f32 := broadcastInDim S8192x512 ![] bcast_S_S8192x512 main_cst
  let main_v5 : IVec S8192x512 1 := cmpf .ogt main_v0 main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v0 main_v6
  let main_v8 : IVec S8192x512 1 := andi main_v5 main_v7
  let main_cst_1 : FVec F S_ .f32 := constant S_ .f32 0xFF800000#32
  let main_v9 : FVec F S256x512 .f32 := broadcastInDim S256x512 ![] bcast_S_S256x512 main_cst_1
  let main_v10 : IVec S256x512 1 := cmpf .ogt main_v3 main_v9
  let main_cst_2 : FVec F S_ .f32 := constant S_ .f32 0x7F800000#32
  let main_v11 : FVec F S256x512 .f32 := broadcastInDim S256x512 ![] bcast_S_S256x512 main_cst_2
  let main_v12 : IVec S256x512 1 := cmpf .olt main_v3 main_v11
  let main_v13 : IVec S256x512 1 := andi main_v10 main_v12
  (main_v8, main_v13)
-- ==== Kernel.lean ====
abbrev S1x8192x512 : Shape := ⟨3, ![1, 8192, 512]⟩
abbrev S12x128x256 : Shape := ⟨3, ![12, 128, 256]⟩
abbrev S1x2048x512 : Shape := ⟨3, ![1, 2048, 512]⟩
abbrev S1x128x512 : Shape := ⟨3, ![1, 128, 512]⟩
abbrev S4x128x256 : Shape := ⟨3, ![4, 128, 256]⟩
abbrev S1x128x128 : Shape := ⟨3, ![1, 128, 128]⟩
abbrev S128x128 : Shape := ⟨2, ![128, 128]⟩
abbrev S256x128 : Shape := ⟨2, ![256, 128]⟩
abbrev S128x256 : Shape := ⟨2, ![128, 256]⟩
abbrev S1x128x256 : Shape := ⟨3, ![1, 128, 256]⟩
abbrev S128 : Shape := ⟨1, ![128]⟩
abbrev S128x1 : Shape := ⟨2, ![128, 1]⟩
abbrev S1x256x128 : Shape := ⟨3, ![1, 256, 128]⟩

abbrev nBuf : Space → Nat
  | .hbm => 6
  | .vmem => 15
  | .smem => 0
  | _ => 0

abbrev bufTy : (tb : Table) → Fin (tcTables nBuf tb) → BufTy
  | .hbm, ⟨0, _⟩ => ⟨S1x8192x512, .bf16⟩
  | .hbm, ⟨1, _⟩ => ⟨S1x8192x512, .bf16⟩
  | .hbm, ⟨2, _⟩ => ⟨S1x8192x512, .bf16⟩
  | .hbm, ⟨3, _⟩ => ⟨S12x128x256, .f32⟩
  | .hbm, ⟨4, _⟩ => ⟨S1x8192x512, .bf16⟩
  | .hbm, ⟨5, _⟩ => ⟨S1x8192x512, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x128x512, .bf16⟩
  | .local _ .vmem, ⟨9, _⟩ => ⟨S1x128x512, .bf16⟩
  | .local _ .vmem, ⟨10, _⟩ => ⟨S4x128x256, .f32⟩
  | .local _ .vmem, ⟨11, _⟩ => ⟨S1x2048x512, .bf16⟩
  | .local _ .vmem, ⟨12, _⟩ => ⟨S1x2048x512, .bf16⟩
  | .local _ .vmem, ⟨13, _⟩ => ⟨S1x2048x512, .f32⟩
  | .local _ .vmem, ⟨14, _⟩ => ⟨S1x2048x512, .f32⟩
  | _, _ => ⟨S1x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x8192x512 : Shape := ⟨3, ![1, 8192, 512]⟩
abbrev S12x128x256 : Shape := ⟨3, ![12, 128, 256]⟩
abbrev S1x64x128x4x128 : Shape := ⟨5, ![1, 64, 128, 4, 128]⟩
abbrev S_ : Shape := ⟨0, ![]⟩
abbrev S1x65x128x4x128 : Shape := ⟨5, ![1, 65, 128, 4, 128]⟩
abbrev S1x64x256x4x128 : Shape := ⟨5, ![1, 64, 256, 4, 128]⟩
abbrev S1x64x4x128x256 : Shape := ⟨5, ![1, 64, 4, 128, 256]⟩
abbrev S256 : Shape := ⟨1, ![256]⟩
abbrev S1x256 : Shape := ⟨2, ![1, 256]⟩
abbrev S64 : Shape := ⟨1, ![64]⟩
abbrev S64x1 : Shape := ⟨2, ![64, 1]⟩
abbrev S64x256 : Shape := ⟨2, ![64, 256]⟩
abbrev S4x128x256 : Shape := ⟨3, ![4, 128, 256]⟩
abbrev S1x1x4x128x256 : Shape := ⟨5, ![1, 1, 4, 128, 256]⟩
abbrev S1x64x1x1x256 : Shape := ⟨5, ![1, 64, 1, 1, 256]⟩
abbrev S1x64x4x128 : Shape := ⟨4, ![1, 64, 4, 128]⟩
abbrev S1x64x4x128x1 : Shape := ⟨5, ![1, 64, 4, 128, 1]⟩
abbrev S1x64x4x128x128 : Shape := ⟨5, ![1, 64, 4, 128, 128]⟩
abbrev S1x64x128x4 : Shape := ⟨4, ![1, 64, 128, 4]⟩
abbrev S1x64x128x4x1 : Shape := ⟨5, ![1, 64, 128, 4, 1]⟩

abbrev nBuf : Space → Nat
  | .hbm => 70
  | .vmem => 0
  | .smem => 0
  | _ => 0

abbrev bufTy : (tb : Table) → Fin (tcTables nBuf tb) → BufTy
  | .hbm, ⟨0, _⟩ => ⟨S1x8192x512, .bf16⟩
  | .hbm, ⟨1, _⟩ => ⟨S1x8192x512, .bf16⟩
  | .hbm, ⟨2, _⟩ => ⟨S1x8192x512, .bf16⟩
  | .hbm, ⟨3, _⟩ => ⟨S12x128x256, .f32⟩
  | .hbm, ⟨4, _⟩ => ⟨S1x8192x512, .f32⟩
  | .hbm, ⟨5, _⟩ => ⟨S1x8192x512, .f32⟩
  | .hbm, ⟨6, _⟩ => ⟨S1x8192x512, .f32⟩
  | .hbm, ⟨7, _⟩ => ⟨S1x64x128x4x128, .f32⟩
  | .hbm, ⟨8, _⟩ => ⟨S1x64x128x4x128, .f32⟩
  | .hbm, ⟨9, _⟩ => ⟨S_, .i32⟩
  | .hbm, ⟨10, _⟩ => ⟨S_, .f32⟩
  | .hbm, ⟨11, _⟩ => ⟨S1x65x128x4x128, .f32⟩
  | .hbm, ⟨12, _⟩ => ⟨S1x64x128x4x128, .f32⟩
  | .hbm, ⟨13, _⟩ => ⟨S1x64x256x4x128, .f32⟩
  | .hbm, ⟨14, _⟩ => ⟨S1x64x128x4x128, .f32⟩
  | .hbm, ⟨15, _⟩ => ⟨S_, .i32⟩
  | .hbm, ⟨16, _⟩ => ⟨S_, .f32⟩
  | .hbm, ⟨17, _⟩ => ⟨S1x65x128x4x128, .f32⟩
  | .hbm, ⟨18, _⟩ => ⟨S1x64x128x4x128, .f32⟩
  | .hbm, ⟨19, _⟩ => ⟨S1x64x256x4x128, .f32⟩
  | .hbm, ⟨20, _⟩ => ⟨S1x64x4x128x256, .f32⟩
  | .hbm, ⟨21, _⟩ => ⟨S256, .i32⟩
  | .hbm, ⟨22, _⟩ => ⟨S1x256, .i32⟩
  | .hbm, ⟨23, _⟩ => ⟨S64, .i32⟩
  | .hbm, ⟨24, _⟩ => ⟨S64x1, .i32⟩
  | .hbm, ⟨25, _⟩ => ⟨S_, .i32⟩
  | .hbm, ⟨26, _⟩ => ⟨S64x1, .i32⟩
  | .hbm, ⟨27, _⟩ => ⟨S64x1, .i32⟩
  | .hbm, ⟨28, _⟩ => ⟨S64x256, .i32⟩
  | .hbm, ⟨29, _⟩ => ⟨S64x256, .i32⟩
  | .hbm, ⟨30, _⟩ => ⟨S64x256, .i32⟩
  | .hbm, ⟨31, _⟩ => ⟨S_, .i32⟩
  | .hbm, ⟨32, _⟩ => ⟨S64x256, .i32⟩
  | .hbm, ⟨33, _⟩ => ⟨S64x256, .i32⟩
  | .hbm, ⟨34, _⟩ => ⟨S_, .i32⟩
  | .hbm, ⟨35, _⟩ => ⟨S64x256, .i32⟩
  | .hbm, ⟨36, _⟩ => ⟨S64x256, .i1⟩
  | .hbm, ⟨37, _⟩ => ⟨S4x128x256, .f32⟩
  | .hbm, ⟨38, _⟩ => ⟨S1x1x4x128x256, .f32⟩
  | .hbm, ⟨39, _⟩ => ⟨S1x64x4x128x256, .f32⟩
  | .hbm, ⟨40, _⟩ => ⟨S1x64x4x128x256, .f32⟩
  | .hbm, ⟨41, _⟩ => ⟨S1x64x1x1x256, .i1⟩
  | .hbm, ⟨42, _⟩ => ⟨S_, .f32⟩
  | .hbm, ⟨43, _⟩ => ⟨S_, .f32⟩
  | .hbm, ⟨44, _⟩ => ⟨S1x64x4x128x256, .i1⟩
  | .hbm, ⟨45, _⟩ => ⟨S1x64x4x128x256, .f32⟩
  | .hbm, ⟨46, _⟩ => ⟨S1x64x4x128x256, .f32⟩
  | .hbm, ⟨47, _⟩ => ⟨S_, .f32⟩
  | .hbm, ⟨48, _⟩ => ⟨S1x64x4x128, .f32⟩
  | .hbm, ⟨49, _⟩ => ⟨S1x64x4x128x1, .f32⟩
  | .hbm, ⟨50, _⟩ => ⟨S1x64x4x128x256, .f32⟩
  | .hbm, ⟨51, _⟩ => ⟨S1x64x4x128x256, .f32⟩
  | .hbm, ⟨52, _⟩ => ⟨S1x64x4x128x256, .f32⟩
  | .hbm, ⟨53, _⟩ => ⟨S_, .f32⟩
  | .hbm, ⟨54, _⟩ => ⟨S1x64x4x128, .f32⟩
  | .hbm, ⟨55, _⟩ => ⟨S1x64x4x128x128, .f32⟩
  | .hbm, ⟨56, _⟩ => ⟨S1x64x128x4x128, .f32⟩
  | .hbm, ⟨57, _⟩ => ⟨S1x64x128x4, .f32⟩
  | .hbm, ⟨58, _⟩ => ⟨S1x64x128x4x1, .f32⟩
  | .hbm, ⟨59, _⟩ => ⟨S1x64x128x4x128, .f32⟩
  | .hbm, ⟨60, _⟩ => ⟨S1x64x128x4x128, .f32⟩
  | .hbm, ⟨61, _⟩ => ⟨S1x64x4x128, .f32⟩
  | .hbm, ⟨62, _⟩ => ⟨S1x64x4x128, .f32⟩
  | .hbm, ⟨63, _⟩ => ⟨S1x64x4x128, .f32⟩
  | .hbm, ⟨64, _⟩ => ⟨S1x64x128x4, .f32⟩
  | .hbm, ⟨65, _⟩ => ⟨S1x8192x512, .f32⟩
  | .hbm, ⟨66, _⟩ => ⟨S1x8192x512, .bf16⟩
  | .hbm, ⟨67, _⟩ => ⟨S1x64x128x4x1, .f32⟩
  | .hbm, ⟨68, _⟩ => ⟨S1x64x128x4x128, .f32⟩
  | .hbm, ⟨69, _⟩ => ⟨S1x8192x512, .f32⟩
  | _, _ => ⟨S1x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Mlp.lean ====
abbrev S8192x2048 : Shape := ⟨2, ![8192, 2048]⟩
abbrev S2048 : Shape := ⟨1, ![2048]⟩
abbrev S2048x8192 : Shape := ⟨2, ![2048, 8192]⟩
abbrev S4x2048x8192 : Shape := ⟨3, ![4, 2048, 8192]⟩
abbrev S4x8192x2048 : Shape := ⟨3, ![4, 8192, 2048]⟩
abbrev S2x2048x3584 : Shape := ⟨3, ![2, 2048, 3584]⟩
abbrev S2x2048x2048 : Shape := ⟨3, ![2, 2048, 2048]⟩
abbrev S1x2048 : Shape := ⟨2, ![1, 2048]⟩
abbrev S2048x3584 : Shape := ⟨2, ![2048, 3584]⟩
abbrev S2048x2048 : Shape := ⟨2, ![2048, 2048]⟩
abbrev S1024x2048 : Shape := ⟨2, ![1024, 2048]⟩
abbrev S2048x512 : Shape := ⟨2, ![2048, 512]⟩
abbrev S512x2048 : Shape := ⟨2, ![512, 2048]⟩
abbrev S1x16x8192 : Shape := ⟨3, ![1, 16, 8192]⟩
abbrev S1x64x2048 : Shape := ⟨3, ![1, 64, 2048]⟩
abbrev S1x16x3584 : Shape := ⟨3, ![1, 16, 3584]⟩
abbrev S1x16x2048 : Shape := ⟨3, ![1, 16, 2048]⟩
abbrev S16x8192 : Shape := ⟨2, ![16, 8192]⟩
abbrev S64x2048 : Shape := ⟨2, ![64, 2048]⟩
abbrev S16x3584 : Shape := ⟨2, ![16, 3584]⟩
abbrev S16x2048 : Shape := ⟨2, ![16, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 14
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .bf16⟩
  | .hbm, ⟨3, _⟩ => ⟨S8192x2048, .bf16⟩
  | .hbm, ⟨4, _⟩ => ⟨S4x2048x8192, .f32⟩
  | .hbm, ⟨5, _⟩ => ⟨S4x8192x2048, .f32⟩
  | .hbm, ⟨6, _⟩ => ⟨S2x2048x3584, .f32⟩
  | .hbm, ⟨7, _⟩ => ⟨S2x2048x2048, .f32⟩
  | .hbm, ⟨8, _⟩ => ⟨S1x2048, .f32⟩
  | .hbm, ⟨9, _⟩ => ⟨S8192x2048, .f32⟩
  | .hbm, ⟨10, _⟩ => ⟨S2048x8192, .bf16⟩
  | .hbm, ⟨11, _⟩ => ⟨S8192x2048, .bf16⟩
  | .hbm, ⟨12, _⟩ => ⟨S2048x3584, .bf16⟩
  | .hbm, ⟨13, _⟩ => ⟨S2048x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x16x8192, .f32⟩
  | .local _ .vmem, ⟨8, _⟩ => ⟨S1x16x8192, .f32⟩
  | .local _ .vmem, ⟨9, _⟩ => ⟨S1x64x2048, .f32⟩
  | .local _ .vmem, ⟨10, _⟩ => ⟨S1x64x2048, .f32⟩
  | .local _ .vmem, ⟨11, _⟩ => ⟨S1x16x3584, .f32⟩
  | .local _ .vmem, ⟨12, _⟩ => ⟨S1x16x3584, .f32⟩
  | .local _ .vmem, ⟨13, _⟩ => ⟨S1x16x2048, .f32⟩
  | .local _ .vmem, ⟨14, _⟩ => ⟨S1x16x2048, .f32⟩
  | .local _ .vmem, ⟨15, _⟩ => ⟨S1024x2048, .f32⟩
  | .local _ .vmem, ⟨16, _⟩ => ⟨S1024x2048, .f32⟩
  | .local _ .vmem, ⟨17, _⟩ => ⟨S16x8192, .bf16⟩
  | .local _ .vmem, ⟨18, _⟩ => ⟨S16x8192, .bf16⟩
  | .local _ .vmem, ⟨19, _⟩ => ⟨S64x2048, .bf16⟩
  | .local _ .vmem, ⟨20, _⟩ => ⟨S64x2048, .bf16⟩
  | .local _ .vmem, ⟨21, _⟩ => ⟨S16x3584, .bf16⟩
  | .local _ .vmem, ⟨22, _⟩ => ⟨S16x3584, .bf16⟩
  | .local _ .vmem, ⟨23, _⟩ => ⟨S16x2048, .bf16⟩
  | .local _ .vmem, ⟨24, _⟩ => ⟨S16x2048, .bf16⟩
  | .local _ .vmem, ⟨25, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x16x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x3584 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S16x8192 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x3584 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MlpReferenceIdeal.lean ====
abbrev S8192x2048 : Shape := ⟨2, ![8192, 2048]⟩
abbrev S2048 : Shape := ⟨1, ![2048]⟩
abbrev S2048x8192 : Shape := ⟨2, ![2048, 8192]⟩
abbrev S4x2048x8192 : Shape := ⟨3, ![4, 2048, 8192]⟩
abbrev S4x8192x2048 : Shape := ⟨3, ![4, 8192, 2048]⟩
abbrev S2x2048x3584 : Shape := ⟨3, ![2, 2048, 3584]⟩
abbrev S2x2048x2048 : Shape := ⟨3, ![2, 2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x8192 : Shape := ⟨2, ![8192, 8192]⟩
abbrev S1x2048x8192 : Shape := ⟨3, ![1, 2048, 8192]⟩
abbrev S1x8192x2048 : Shape := ⟨3, ![1, 8192, 2048]⟩
abbrev S1x2048x3584 : Shape := ⟨3, ![1, 2048, 3584]⟩
abbrev S2048x3584 : Shape := ⟨2, ![2048, 3584]⟩
abbrev S1x2048x2048 : Shape := ⟨3, ![1, 2048, 2048]⟩
abbrev S2048x2048 : Shape := ⟨2, ![2048, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .bf16⟩
  | .hbm, ⟨3, _⟩ => ⟨S8192x2048, .bf16⟩
  | .hbm, ⟨4, _⟩ => ⟨S4x2048x8192, .f32⟩
  | .hbm, ⟨5, _⟩ => ⟨S4x8192x2048, .f32⟩
  | .hbm, ⟨6, _⟩ => ⟨S2x2048x3584, .f32⟩
  | .hbm, ⟨7, _⟩ => ⟨S2x2048x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S2048x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S1x2048x8192, .f32⟩
  | .hbm, ⟨34, _⟩ => ⟨S2048x8192, .f32⟩
  | .hbm, ⟨35, _⟩ => ⟨S2048x8192, .bf16⟩
  | .hbm, ⟨36, _⟩ => ⟨S1x8192x2048, .f32⟩
  | .hbm, ⟨37, _⟩ => ⟨S8192x2048, .f32⟩
  | .hbm, ⟨38, _⟩ => ⟨S8192x2048, .bf16⟩
  | .hbm, ⟨39, _⟩ => ⟨S1x2048x3584, .f32⟩
  | .hbm, ⟨40, _⟩ => ⟨S2048x3584, .f32⟩
  | .hbm, ⟨41, _⟩ => ⟨S2048x3584, .bf16⟩
  | .hbm, ⟨42, _⟩ => ⟨S1x2048x2048, .f32⟩
  | .hbm, ⟨43, _⟩ => ⟨S2048x2048, .f32⟩
  | .hbm, ⟨44, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== OutA.lean ====
abbrev S8192x2048 : Shape := ⟨2, ![8192, 2048]⟩
abbrev S8192x1536 : Shape := ⟨2, ![8192, 1536]⟩
abbrev S8192x512 : Shape := ⟨2, ![8192, 512]⟩
abbrev S4x256x512 : Shape := ⟨3, ![4, 256, 512]⟩
abbrev S2048x2048 : Shape := ⟨2, ![2048, 2048]⟩
abbrev S4x8192x2048 : Shape := ⟨3, ![4, 8192, 2048]⟩
abbrev S512x2048 : Shape := ⟨2, ![512, 2048]⟩
abbrev S512x1536 : Shape := ⟨2, ![512, 1536]⟩
abbrev S512x512 : Shape := ⟨2, ![512, 512]⟩
abbrev S1x256x512 : Shape := ⟨3, ![1, 256, 512]⟩
abbrev S1x512x2048 : Shape := ⟨3, ![1, 512, 2048]⟩
abbrev S1536x2048 : Shape := ⟨2, ![1536, 2048]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x1536, .bf16⟩
  | .hbm, ⟨2, _⟩ => ⟨S8192x512, .bf16⟩
  | .hbm, ⟨3, _⟩ => ⟨S4x256x512, .bf16⟩
  | .hbm, ⟨4, _⟩ => ⟨S4x256x512, .bf16⟩
  | .hbm, ⟨5, _⟩ => ⟨S2048x2048, .bf16⟩
  | .hbm, ⟨6, _⟩ => ⟨S4x8192x2048, .f32⟩
  | .hbm, ⟨7, _⟩ => ⟨S8192x2048, .f32⟩
  | .hbm, ⟨8, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x1536, .bf16⟩
  | .local _ .vmem, ⟨3, _⟩ => ⟨S512x1536, .bf16⟩
  | .local _ .vmem, ⟨4, _⟩ => ⟨S512x512, .bf16⟩
  | .local _ .vmem, ⟨5, _⟩ => ⟨S512x512, .bf16⟩
  | .local _ .vmem, ⟨6, _⟩ => ⟨S1x256x512, .bf16⟩
  | .local _ .vmem, ⟨7, _⟩ => ⟨S1x256x512, .bf16⟩
  | .local _ .vmem, ⟨8, _⟩ => ⟨S2048x2048, .bf16⟩
  | .local _ .vmem, ⟨9, _⟩ => ⟨S1x512x2048, .f32⟩
  | .local _ .vmem, ⟨10, _⟩ => ⟨S1x512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutAReferenceIdeal.lean ====
abbrev S8192x2048 : Shape := ⟨2, ![8192, 2048]⟩
abbrev S8192x1536 : Shape := ⟨2, ![8192, 1536]⟩
abbrev S8192x512 : Shape := ⟨2, ![8192, 512]⟩
abbrev S4x256x512 : Shape := ⟨3, ![4, 256, 512]⟩
abbrev S2048x2048 : Shape := ⟨2, ![2048, 2048]⟩
abbrev S4x8192x2048 : Shape := ⟨3, ![4, 8192, 2048]⟩
abbrev S8192x4x128 : Shape := ⟨3, ![8192, 4, 128]⟩
abbrev S1x256x512 : Shape := ⟨3, ![1, 256, 512]⟩
abbrev S256x512 : Shape := ⟨2, ![256, 512]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S1x8192x2048 : Shape := ⟨3, ![1, 8192, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1536, .bf16⟩
  | .hbm, ⟨2, _⟩ => ⟨S8192x512, .bf16⟩
  | .hbm, ⟨3, _⟩ => ⟨S4x256x512, .bf16⟩
  | .hbm, ⟨4, _⟩ => ⟨S4x256x512, .bf16⟩
  | .hbm, ⟨5, _⟩ => ⟨S2048x2048, .bf16⟩
  | .hbm, ⟨6, _⟩ => ⟨S4x8192x2048, .f32⟩
  | .hbm, ⟨7, _⟩ => ⟨S8192x512, .f32⟩
  | .hbm, ⟨8, _⟩ => ⟨S8192x4x128, .f32⟩
  | .hbm, ⟨9, _⟩ => ⟨S1x256x512, .bf16⟩
  | .hbm, ⟨10, _⟩ => ⟨S256x512, .bf16⟩
  | .hbm, ⟨11, _⟩ => ⟨S256x512, .f32⟩
  | .hbm, ⟨12, _⟩ => ⟨S256x4x128, .f32⟩
  | .hbm, ⟨13, _⟩ => ⟨S1x256x512, .bf16⟩
  | .hbm, ⟨14, _⟩ => ⟨S256x512, .bf16⟩
  | .hbm, ⟨15, _⟩ => ⟨S256x512, .f32⟩
  | .hbm, ⟨16, _⟩ => ⟨S256x4x128, .f32⟩
  | .hbm, ⟨17, _⟩ => ⟨S4x8192x256, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S4x8192, .f32⟩
  | .hbm, ⟨23, _⟩ => ⟨S4x8192x1, .f32⟩
  | .hbm, ⟨24, _⟩ => ⟨S4x8192x256, .f32⟩
  | .hbm, ⟨25, _⟩ => ⟨S4x8192x256, .f32⟩
  | .hbm, ⟨26, _⟩ => ⟨S4x8192x256, .f32⟩
  | .hbm, ⟨27, _⟩ => ⟨S_, .f32⟩
  | .hbm, ⟨28, _⟩ => ⟨S4x8192, .f32⟩
  | .hbm, ⟨29, _⟩ => ⟨S4x8192x1, .f32⟩
  | .hbm, ⟨30, _⟩ => ⟨S4x8192x256, .f32⟩
  | .hbm, ⟨31, _⟩ => ⟨S4x8192x256, .f32⟩
  | .hbm, ⟨32, _⟩ => ⟨S4x128x8192, .f32⟩
  | .hbm, ⟨33, _⟩ => ⟨S8192x4x128, .f32⟩
  | .hbm, ⟨34, _⟩ => ⟨S8192x512, .f32⟩
  | .hbm, ⟨35, _⟩ => ⟨S8192x1536, .f32⟩
  | .hbm, ⟨36, _⟩ => ⟨S8192x2048, .f32⟩
  | .hbm, ⟨37, _⟩ => ⟨S2048x2048, .f32⟩
  | .hbm, ⟨38, _⟩ => ⟨S8192x2048, .f32⟩
  | .hbm, ⟨39, _⟩ => ⟨S8192x2048, .f32⟩
  | .hbm, ⟨40, _⟩ => ⟨S1x8192x2048, .f32⟩
  | .hbm, ⟨41, _⟩ => ⟨S8192x2048, .f32⟩
  | .hbm, ⟨42, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== ProjQ.lean ====
abbrev S8192x2048 : Shape := ⟨2, ![8192, 2048]⟩
abbrev S2048 : Shape := ⟨1, ![2048]⟩
abbrev S2048x2048 : Shape := ⟨2, ![2048, 2048]⟩
abbrev S3x128 : Shape := ⟨2, ![3, 128]⟩
abbrev S128 : Shape := ⟨1, ![128]⟩
abbrev S1x128 : Shape := ⟨2, ![1, 128]⟩
abbrev S4x128 : Shape := ⟨2, ![4, 128]⟩
abbrev S1x2048 : Shape := ⟨2, ![1, 2048]⟩
abbrev S1x8192x512 : Shape := ⟨3, ![1, 8192, 512]⟩
abbrev S4x2048x512 : Shape := ⟨3, ![4, 2048, 512]⟩
abbrev S16x512x512 : Shape := ⟨3, ![16, 512, 512]⟩
abbrev S1024x2048 : Shape := ⟨2, ![1024, 2048]⟩
abbrev S1x1024x512 : Shape := ⟨3, ![1, 1024, 512]⟩
abbrev S4x256x512 : Shape := ⟨3, ![4, 256, 512]⟩
abbrev S16x64x512 : Shape := ⟨3, ![16, 64, 512]⟩
abbrev S4x1024x128 : Shape := ⟨3, ![4, 1024, 128]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x64x128 : Shape := ⟨3, ![1, 64, 128]⟩
abbrev S64x128 : Shape := ⟨2, ![64, 128]⟩

abbrev nBuf : Space → Nat
  | .hbm => 12
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .bf16⟩
  | .hbm, ⟨3, _⟩ => ⟨S3x128, .f32⟩
  | .hbm, ⟨4, _⟩ => ⟨S128, .f32⟩
  | .hbm, ⟨5, _⟩ => ⟨S1x128, .f32⟩
  | .hbm, ⟨6, _⟩ => ⟨S4x128, .f32⟩
  | .hbm, ⟨7, _⟩ => ⟨S1x2048, .f32⟩
  | .hbm, ⟨8, _⟩ => ⟨S1x8192x512, .bf16⟩
  | .hbm, ⟨9, _⟩ => ⟨S4x2048x512, .bf16⟩
  | .hbm, ⟨10, _⟩ => ⟨S16x512x512, .bf16⟩
  | .hbm, ⟨11, _⟩ => ⟨S1x8192x512, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S4x128, .f32⟩
  | .local _ .vmem, ⟨5, _⟩ => ⟨S1x1024x512, .bf16⟩
  | .local _ .vmem, ⟨6, _⟩ => ⟨S1x1024x512, .bf16⟩
  | .local _ .vmem, ⟨7, _⟩ => ⟨S4x256x512, .bf16⟩
  | .local _ .vmem, ⟨8, _⟩ => ⟨S4x256x512, .bf16⟩
  | .local _ .vmem, ⟨9, _⟩ => ⟨S16x64x512, .bf16⟩
  | .local _ .vmem, ⟨10, _⟩ => ⟨S16x64x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1024x2048, .bf16⟩
  | .local _ .vmem, ⟨14, _⟩ => ⟨S4x1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjQReferenceIdeal.lean ====
abbrev S8192x2048 : Shape := ⟨2, ![8192, 2048]⟩
abbrev S2048 : Shape := ⟨1, ![2048]⟩
abbrev S2048x2048 : Shape := ⟨2, ![2048, 2048]⟩
abbrev S3x128 : Shape := ⟨2, ![3, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x512 : Shape := ⟨2, ![8192, 512]⟩
abbrev S8192x4x128 : Shape := ⟨3, ![8192, 4, 128]⟩
abbrev S8192x4 : Shape := ⟨2, ![8192, 4]⟩
abbrev S8192x4x1 : Shape := ⟨3, ![8192, 4, 1]⟩
abbrev S1x1x128 : Shape := ⟨3, ![1, 1, 128]⟩
abbrev S8192x1536 : Shape := ⟨2, ![8192, 1536]⟩
abbrev S8192x3x4x128 : Shape := ⟨4, ![8192, 3, 4, 128]⟩
abbrev S3x1x128 : Shape := ⟨3, ![3, 1, 128]⟩
abbrev S8192x3x4 : Shape := ⟨3, ![8192, 3, 4]⟩
abbrev S8192x3x4x1 : Shape := ⟨4, ![8192, 3, 4, 1]⟩
abbrev S1x3x1x128 : Shape := ⟨4, ![1, 3, 1, 128]⟩
abbrev S8192x1x4x128 : Shape := ⟨4, ![8192, 1, 4, 128]⟩
abbrev S8192x1x512 : Shape := ⟨3, ![8192, 1, 512]⟩
abbrev S1x8192x512 : Shape := ⟨3, ![1, 8192, 512]⟩
abbrev S2048x4x512 : Shape := ⟨3, ![2048, 4, 512]⟩
abbrev S4x2048x512 : Shape := ⟨3, ![4, 2048, 512]⟩
abbrev S512x16x512 : Shape := ⟨3, ![512, 16, 512]⟩
abbrev S16x512x512 : Shape := ⟨3, ![16, 512, 512]⟩

abbrev nBuf : Space → Nat
  | .hbm => 83
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .bf16⟩
  | .hbm, ⟨3, _⟩ => ⟨S3x128, .f32⟩
  | .hbm, ⟨4, _⟩ => ⟨S128, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x2048, .f32⟩
  | .hbm, ⟨22, _⟩ => ⟨S8192x2048, .f32⟩
  | .hbm, ⟨23, _⟩ => ⟨S8192x512, .f32⟩
  | .hbm, ⟨24, _⟩ => ⟨S8192x4x128, .f32⟩
  | .hbm, ⟨25, _⟩ => ⟨S8192x4x128, .f32⟩
  | .hbm, ⟨26, _⟩ => ⟨S_, .f32⟩
  | .hbm, ⟨27, _⟩ => ⟨S8192x4, .f32⟩
  | .hbm, ⟨28, _⟩ => ⟨S8192x4x1, .f32⟩
  | .hbm, ⟨29, _⟩ => ⟨S_, .f32⟩
  | .hbm, ⟨30, _⟩ => ⟨S8192x4x1, .f32⟩
  | .hbm, ⟨31, _⟩ => ⟨S8192x4x1, .f32⟩
  | .hbm, ⟨32, _⟩ => ⟨S_, .f32⟩
  | .hbm, ⟨33, _⟩ => ⟨S8192x4x1, .f32⟩
  | .hbm, ⟨34, _⟩ => ⟨S8192x4x1, .f32⟩
  | .hbm, ⟨35, _⟩ => ⟨S8192x4x1, .f32⟩
  | .hbm, ⟨36, _⟩ => ⟨S8192x4x128, .f32⟩
  | .hbm, ⟨37, _⟩ => ⟨S8192x4x128, .f32⟩
  | .hbm, ⟨38, _⟩ => ⟨S1x1x128, .f32⟩
  | .hbm, ⟨39, _⟩ => ⟨S8192x4x128, .f32⟩
  | .hbm, ⟨40, _⟩ => ⟨S8192x4x128, .f32⟩
  | .hbm, ⟨41, _⟩ => ⟨S_, .f32⟩
  | .hbm, ⟨42, _⟩ => ⟨S8192x4x128, .f32⟩
  | .hbm, ⟨43, _⟩ => ⟨S8192x4x128, .f32⟩
  | .hbm, ⟨44, _⟩ => ⟨S8192x1536, .f32⟩
  | .hbm, ⟨45, _⟩ => ⟨S8192x3x4x128, .f32⟩
  | .hbm, ⟨46, _⟩ => ⟨S3x1x128, .f32⟩
  | .hbm, ⟨47, _⟩ => ⟨S8192x3x4x128, .f32⟩
  | .hbm, ⟨48, _⟩ => ⟨S_, .f32⟩
  | .hbm, ⟨49, _⟩ => ⟨S8192x3x4, .f32⟩
  | .hbm, ⟨50, _⟩ => ⟨S8192x3x4x1, .f32⟩
  | .hbm, ⟨51, _⟩ => ⟨S_, .f32⟩
  | .hbm, ⟨52, _⟩ => ⟨S8192x3x4x1, .f32⟩
  | .hbm, ⟨53, _⟩ => ⟨S8192x3x4x1, .f32⟩
  | .hbm, ⟨54, _⟩ => ⟨S_, .f32⟩
  | .hbm, ⟨55, _⟩ => ⟨S8192x3x4x1, .f32⟩
  | .hbm, ⟨56, _⟩ => ⟨S8192x3x4x1, .f32⟩
  | .hbm, ⟨57, _⟩ => ⟨S8192x3x4x1, .f32⟩
  | .hbm, ⟨58, _⟩ => ⟨S8192x3x4x128, .f32⟩
  | .hbm, ⟨59, _⟩ => ⟨S8192x3x4x128, .f32⟩
  | .hbm, ⟨60, _⟩ => ⟨S1x3x1x128, .f32⟩
  | .hbm, ⟨61, _⟩ => ⟨S8192x3x4x128, .f32⟩
  | .hbm, ⟨62, _⟩ => ⟨S8192x3x4x128, .f32⟩
  | .hbm, ⟨63, _⟩ => ⟨S_, .f32⟩
  | .hbm, ⟨64, _⟩ => ⟨S8192x3x4x128, .f32⟩
  | .hbm, ⟨65, _⟩ => ⟨S8192x3x4x128, .f32⟩
  | .hbm, ⟨66, _⟩ => ⟨S8192x1x4x128, .f32⟩
  | .hbm, ⟨67, _⟩ => ⟨S8192x4x128, .f32⟩
  | .hbm, ⟨68, _⟩ => ⟨S8192x1x512, .f32⟩
  | .hbm, ⟨69, _⟩ => ⟨S1x8192x512, .f32⟩
  | .hbm, ⟨70, _⟩ => ⟨S1x8192x512, .bf16⟩
  | .hbm, ⟨71, _⟩ => ⟨S8192x1x4x128, .f32⟩
  | .hbm, ⟨72, _⟩ => ⟨S8192x4x128, .f32⟩
  | .hbm, ⟨73, _⟩ => ⟨S2048x4x512, .f32⟩
  | .hbm, ⟨74, _⟩ => ⟨S4x2048x512, .f32⟩
  | .hbm, ⟨75, _⟩ => ⟨S4x2048x512, .bf16⟩
  | .hbm, ⟨76, _⟩ => ⟨S8192x1x4x128, .f32⟩
  | .hbm, ⟨77, _⟩ => ⟨S8192x4x128, .f32⟩
  | .hbm, ⟨78, _⟩ => ⟨S512x16x512, .f32⟩
  | .hbm, ⟨79, _⟩ => ⟨S16x512x512, .f32⟩
  | .hbm, ⟨80, _⟩ => ⟨S16x512x512, .bf16⟩
  | .hbm, ⟨81, _⟩ => ⟨S1x8192x512, .f32⟩
  | .hbm, ⟨82, _⟩ => ⟨S1x8192x512, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩

abbrev nD : Nat := 1
abbrev τ : Topo := Topo.v7x

variable {F : FTy → Type} [FloatOps F]
-- ==== Proj.lean ====
abbrev S8192x2048 : Shape := ⟨2, ![8192, 2048]⟩
abbrev S2048 : Shape := ⟨1, ![2048]⟩
abbrev S2048x3072 : Shape := ⟨2, ![2048, 3072]⟩
abbrev S3x128 : Shape := ⟨2, ![3, 128]⟩
abbrev S2048x2048 : Shape := ⟨2, ![2048, 2048]⟩
abbrev S128 : Shape := ⟨1, ![128]⟩
abbrev S_ : Shape := ⟨0, ![]⟩
abbrev S1x128 : Shape := ⟨2, ![1, 128]⟩
abbrev S4x128 : Shape := ⟨2, ![4, 128]⟩
abbrev S1x1x1x128 : Shape := ⟨4, ![1, 1, 1, 128]⟩
abbrev S3x1x1x128 : Shape := ⟨4, ![3, 1, 1, 128]⟩
abbrev S6x128 : Shape := ⟨2, ![6, 128]⟩
abbrev S1x2048 : Shape := ⟨2, ![1, 2048]⟩
abbrev S1x8192x512 : Shape := ⟨3, ![1, 8192, 512]⟩
abbrev S4x2048x512 : Shape := ⟨3, ![4, 2048, 512]⟩
abbrev S16x512x512 : Shape := ⟨3, ![16, 512, 512]⟩
abbrev S512x2048 : Shape := ⟨2, ![512, 2048]⟩
abbrev S1x512x512 : Shape := ⟨3, ![1, 512, 512]⟩
abbrev S4x128x512 : Shape := ⟨3, ![4, 128, 512]⟩
abbrev S16x32x512 : Shape := ⟨3, ![16, 32, 512]⟩
abbrev S4x512x128 : Shape := ⟨3, ![4, 512, 128]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩

abbrev nBuf : Space → Nat
  | .hbm => 28
  | .vmem => 30
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3072, .bf16⟩
  | .hbm, ⟨3, _⟩ => ⟨S3x128, .f32⟩
  | .hbm, ⟨4, _⟩ => ⟨S2048, .f32⟩
  | .hbm, ⟨5, _⟩ => ⟨S2048x2048, .bf16⟩
  | .hbm, ⟨6, _⟩ => ⟨S3x128, .f32⟩
  | .hbm, ⟨7, _⟩ => ⟨S128, .f32⟩
  | .hbm, ⟨8, _⟩ => ⟨S_, .f32⟩
  | .hbm, ⟨9, _⟩ => ⟨S1x128, .f32⟩
  | .hbm, ⟨10, _⟩ => ⟨S1x128, .f32⟩
  | .hbm, ⟨11, _⟩ => ⟨S4x128, .f32⟩
  | .hbm, ⟨12, _⟩ => ⟨S1x1x1x128, .f32⟩
  | .hbm, ⟨13, _⟩ => ⟨S3x1x1x128, .f32⟩
  | .hbm, ⟨14, _⟩ => ⟨S3x128, .f32⟩
  | .hbm, ⟨15, _⟩ => ⟨S6x128, .f32⟩
  | .hbm, ⟨16, _⟩ => ⟨S1x2048, .f32⟩
  | .hbm, ⟨17, _⟩ => ⟨S1x2048, .f32⟩
  | .hbm, ⟨18, _⟩ => ⟨S1x8192x512, .bf16⟩
  | .hbm, ⟨19, _⟩ => ⟨S4x2048x512, .bf16⟩
  | .hbm, ⟨20, _⟩ => ⟨S16x512x512, .bf16⟩
  | .hbm, ⟨21, _⟩ => ⟨S1x8192x512, .bf16⟩
  | .hbm, ⟨22, _⟩ => ⟨S4x2048x512, .bf16⟩
  | .hbm, ⟨23, _⟩ => ⟨S16x512x512, .bf16⟩
  | .hbm, ⟨24, _⟩ => ⟨S1x8192x512, .bf16⟩
  | .hbm, ⟨25, _⟩ => ⟨S4x2048x512, .bf16⟩
  | .hbm, ⟨26, _⟩ => ⟨S16x512x512, .bf16⟩
  | .hbm, ⟨27, _⟩ => ⟨S1x8192x512, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3072, .bf16⟩
  | .local _ .vmem, ⟨4, _⟩ => ⟨S6x128, .f32⟩
  | .local _ .vmem, ⟨5, _⟩ => ⟨S1x2048, .f32⟩
  | .local _ .vmem, ⟨6, _⟩ => ⟨S2048x2048, .bf16⟩
  | .local _ .vmem, ⟨7, _⟩ => ⟨S4x128, .f32⟩
  | .local _ .vmem, ⟨8, _⟩ => ⟨S1x512x512, .bf16⟩
  | .local _ .vmem, ⟨9, _⟩ => ⟨S1x512x512, .bf16⟩
  | .local _ .vmem, ⟨10, _⟩ => ⟨S4x128x512, .bf16⟩
  | .local _ .vmem, ⟨11, _⟩ => ⟨S4x128x512, .bf16⟩
  | .local _ .vmem, ⟨12, _⟩ => ⟨S16x32x512, .bf16⟩
  | .local _ .vmem, ⟨13, _⟩ => ⟨S16x32x512, .bf16⟩
  | .local _ .vmem, ⟨14, _⟩ => ⟨S1x512x512, .bf16⟩
  | .local _ .vmem, ⟨15, _⟩ => ⟨S1x512x512, .bf16⟩
  | .local _ .vmem, ⟨16, _⟩ => ⟨S4x128x512, .bf16⟩
  | .local _ .vmem, ⟨17, _⟩ => ⟨S4x128x512, .bf16⟩
  | .local _ .vmem, ⟨18, _⟩ => ⟨S16x32x512, .bf16⟩
  | .local _ .vmem, ⟨19, _⟩ => ⟨S16x32x512, .bf16⟩
  | .local _ .vmem, ⟨20, _⟩ => ⟨S1x512x512, .bf16⟩
  | .local _ .vmem, ⟨21, _⟩ => ⟨S1x512x512, .bf16⟩
  | .local _ .vmem, ⟨22, _⟩ => ⟨S4x128x512, .bf16⟩
  | .local _ .vmem, ⟨23, _⟩ => ⟨S4x128x512, .bf16⟩
  | .local _ .vmem, ⟨24, _⟩ => ⟨S16x32x512, .bf16⟩
  | .local _ .vmem, ⟨25, _⟩ => ⟨S16x32x512, .bf16⟩
  | .local _ .vmem, ⟨26, _⟩ => ⟨S1x512x512, .bf16⟩
  | .local _ .vmem, ⟨27, _⟩ => ⟨S1x512x512, .bf16⟩
  | .local _ .vmem, ⟨28, _⟩ => ⟨S512x2048, .bf16⟩
  | .local _ .vmem, ⟨29, _⟩ => ⟨S4x512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v9_5 : Ref sig .tc := ⟨.hbm, 23, rfl⟩
abbrev main_v9_6 : Ref sig .tc := ⟨.hbm, 24, rfl⟩
abbrev main_v9_7 : Ref sig .tc := ⟨.hbm, 25, rfl⟩
abbrev main_v9_8 : Ref sig .tc := ⟨.hbm, 26, rfl⟩
abbrev main_v9_9 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x32x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x32x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x32x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjReferenceIdeal.lean ====
abbrev S8192x2048 : Shape := ⟨2, ![8192, 2048]⟩
abbrev S2048 : Shape := ⟨1, ![2048]⟩
abbrev S2048x3072 : Shape := ⟨2, ![2048, 3072]⟩
abbrev S3x128 : Shape := ⟨2, ![3, 128]⟩
abbrev S2048x2048 : Shape := ⟨2, ![2048, 2048]⟩
abbrev S128 : Shape := ⟨1, ![128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x3072 : Shape := ⟨2, ![8192, 3072]⟩
abbrev S8192x1536 : Shape := ⟨2, ![8192, 1536]⟩
abbrev S8192x3x4x128 : Shape := ⟨4, ![8192, 3, 4, 128]⟩
abbrev S3x1x128 : Shape := ⟨3, ![3, 1, 128]⟩
abbrev S8192x3x4 : Shape := ⟨3, ![8192, 3, 4]⟩
abbrev S8192x3x4x1 : Shape := ⟨4, ![8192, 3, 4, 1]⟩
abbrev S1x3x1x128 : Shape := ⟨4, ![1, 3, 1, 128]⟩
abbrev S8192x1x4x128 : Shape := ⟨4, ![8192, 1, 4, 128]⟩
abbrev S8192x4x128 : Shape := ⟨3, ![8192, 4, 128]⟩
abbrev S8192x1x512 : Shape := ⟨3, ![8192, 1, 512]⟩
abbrev S1x8192x512 : Shape := ⟨3, ![1, 8192, 512]⟩
abbrev S2048x4x512 : Shape := ⟨3, ![2048, 4, 512]⟩
abbrev S4x2048x512 : Shape := ⟨3, ![4, 2048, 512]⟩
abbrev S512x16x512 : Shape := ⟨3, ![512, 16, 512]⟩
abbrev S16x512x512 : Shape := ⟨3, ![16, 512, 512]⟩
abbrev S8192x512 : Shape := ⟨2, ![8192, 512]⟩
abbrev S8192x4 : Shape := ⟨2, ![8192, 4]⟩
abbrev S8192x4x1 : Shape := ⟨3, ![8192, 4, 1]⟩
abbrev S1x1x128 : Shape := ⟨3, ![1, 1, 128]⟩

abbrev nBuf : Space → Nat
  | .hbm => 155
  | .vmem => 0
  | .smem => 0
  | _ => 0

abbrev hbmTy0_0 (i : Nat) : BufTy := match i % 128 with
  | 0 => ⟨S8192x2048, .f32⟩
  | 1 => ⟨S2048, .f32⟩
  | 2 => ⟨S2048x3072, .bf16⟩
  | 3 => ⟨S3x128, .f32⟩
  | 4 => ⟨S2048, .f32⟩
  | 5 => ⟨S2048x2048, .bf16⟩
  | 6 => ⟨S3x128, .f32⟩
  | 7 => ⟨S128, .f32⟩
  | 8 => ⟨S8192x2048, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x2048, .f32⟩
  | 20 => ⟨S8192x2048, .f32⟩
  | 21 => ⟨S1x2048, .f32⟩
  | 22 => ⟨S8192x2048, .f32⟩
  | 23 => ⟨S8192x2048, .f32⟩
  | 24 => ⟨S2048x3072, .f32⟩
  | 25 => ⟨S8192x3072, .f32⟩
  | 26 => ⟨S8192x1536, .f32⟩
  | 27 => ⟨S8192x3x4x128, .f32⟩
  | 28 => ⟨S8192x1536, .f32⟩
  | 29 => ⟨S8192x3x4x128, .f32⟩
  | 30 => ⟨S3x1x128, .f32⟩
  | 31 => ⟨S8192x3x4x128, .f32⟩
  | 32 => ⟨S_, .f32⟩
  | 33 => ⟨S8192x3x4, .f32⟩
  | 34 => ⟨S8192x3x4x1, .f32⟩
  | 35 => ⟨S_, .f32⟩
  | 36 => ⟨S8192x3x4x1, .f32⟩
  | 37 => ⟨S8192x3x4x1, .f32⟩
  | 38 => ⟨S_, .f32⟩
  | 39 => ⟨S8192x3x4x1, .f32⟩
  | 40 => ⟨S8192x3x4x1, .f32⟩
  | 41 => ⟨S8192x3x4x1, .f32⟩
  | 42 => ⟨S8192x3x4x128, .f32⟩
  | 43 => ⟨S8192x3x4x128, .f32⟩
  | 44 => ⟨S1x3x1x128, .f32⟩
  | 45 => ⟨S8192x3x4x128, .f32⟩
  | 46 => ⟨S8192x3x4x128, .f32⟩
  | 47 => ⟨S8192x1x4x128, .f32⟩
  | 48 => ⟨S8192x4x128, .f32⟩
  | 49 => ⟨S8192x1x512, .f32⟩
  | 50 => ⟨S1x8192x512, .f32⟩
  | 51 => ⟨S1x8192x512, .bf16⟩
  | 52 => ⟨S8192x1x4x128, .f32⟩
  | 53 => ⟨S8192x4x128, .f32⟩
  | 54 => ⟨S2048x4x512, .f32⟩
  | 55 => ⟨S4x2048x512, .f32⟩
  | 56 => ⟨S4x2048x512, .bf16⟩
  | 57 => ⟨S8192x1x4x128, .f32⟩
  | 58 => ⟨S8192x4x128, .f32⟩
  | 59 => ⟨S512x16x512, .f32⟩
  | 60 => ⟨S16x512x512, .f32⟩
  | 61 => ⟨S16x512x512, .bf16⟩
  | 62 => ⟨S8192x1x4x128, .f32⟩
  | 63 => ⟨S8192x4x128, .f32⟩
  | 64 => ⟨S8192x1x512, .f32⟩
  | 65 => ⟨S1x8192x512, .f32⟩
  | 66 => ⟨S1x8192x512, .bf16⟩
  | 67 => ⟨S8192x1x4x128, .f32⟩
  | 68 => ⟨S8192x4x128, .f32⟩
  | 69 => ⟨S2048x4x512, .f32⟩
  | 70 => ⟨S4x2048x512, .f32⟩
  | 71 => ⟨S4x2048x512, .bf16⟩
  | 72 => ⟨S8192x1x4x128, .f32⟩
  | 73 => ⟨S8192x4x128, .f32⟩
  | 74 => ⟨S512x16x512, .f32⟩
  | 75 => ⟨S16x512x512, .f32⟩
  | 76 => ⟨S16x512x512, .bf16⟩
  | 77 => ⟨S8192x2048, .f32⟩
  | 78 => ⟨S_, .f32⟩
  | 79 => ⟨S8192, .f32⟩
  | 80 => ⟨S8192x1, .f32⟩
  | 81 => ⟨S_, .f32⟩
  | 82 => ⟨S8192x1, .f32⟩
  | 83 => ⟨S8192x1, .f32⟩
  | 84 => ⟨S_, .f32⟩
  | 85 => ⟨S8192x1, .f32⟩
  | 86 => ⟨S8192x1, .f32⟩
  | 87 => ⟨S8192x1, .f32⟩
  | 88 => ⟨S8192x2048, .f32⟩
  | 89 => ⟨S8192x2048, .f32⟩
  | 90 => ⟨S1x2048, .f32⟩
  | 91 => ⟨S8192x2048, .f32⟩
  | 92 => ⟨S8192x2048, .f32⟩
  | 93 => ⟨S2048x2048, .f32⟩
  | 94 => ⟨S8192x2048, .f32⟩
  | 95 => ⟨S8192x512, .f32⟩
  | 96 => ⟨S8192x4x128, .f32⟩
  | 97 => ⟨S8192x4x128, .f32⟩
  | 98 => ⟨S_, .f32⟩
  | 99 => ⟨S8192x4, .f32⟩
  | 100 => ⟨S8192x4x1, .f32⟩
  | 101 => ⟨S_, .f32⟩
  | 102 => ⟨S8192x4x1, .f32⟩
  | 103 => ⟨S8192x4x1, .f32⟩
  | 104 => ⟨S_, .f32⟩
  | 105 => ⟨S8192x4x1, .f32⟩
  | 106 => ⟨S8192x4x1, .f32⟩
  | 107 => ⟨S8192x4x1, .f32⟩
  | 108 => ⟨S8192x4x128, .f32⟩
  | 109 => ⟨S8192x4x128, .f32⟩
  | 110 => ⟨S1x1x128, .f32⟩
  | 111 => ⟨S8192x4x128, .f32⟩
  | 112 => ⟨S8192x4x128, .f32⟩
  | 113 => ⟨S_, .f32⟩
  | 114 => ⟨S8192x4x128, .f32⟩
  | 115 => ⟨S8192x4x128, .f32⟩
  | 116 => ⟨S8192x1536, .f32⟩
  | 117 => ⟨S8192x3x4x128, .f32⟩
  | 118 => ⟨S3x1x128, .f32⟩
  | 119 => ⟨S8192x3x4x128, .f32⟩
  | 120 => ⟨S_, .f32⟩
  | 121 => ⟨S8192x3x4, .f32⟩
  | 122 => ⟨S8192x3x4x1, .f32⟩
  | 123 => ⟨S_, .f32⟩
  | 124 => ⟨S8192x3x4x1, .f32⟩
  | 125 => ⟨S8192x3x4x1, .f32⟩
  | 126 => ⟨S_, .f32⟩
  | 127 => ⟨S8192x3x4x1, .f32⟩
  | _ => ⟨S8192x2048, .f32⟩

abbrev hbmTy0_1 (i : Nat) : BufTy := match i % 128 with
  | 0 => ⟨S8192x3x4x1, .f32⟩
  | 1 => ⟨S8192x3x4x1, .f32⟩
  | 2 => ⟨S8192x3x4x128, .f32⟩
  | 3 => ⟨S8192x3x4x128, .f32⟩
  | 4 => ⟨S1x3x1x128, .f32⟩
  | 5 => ⟨S8192x3x4x128, .f32⟩
  | 6 => ⟨S8192x3x4x128, .f32⟩
  | 7 => ⟨S_, .f32⟩
  | 8 => ⟨S8192x3x4x128, .f32⟩
  | 9 => ⟨S8192x3x4x128, .f32⟩
  | 10 => ⟨S8192x1x4x128, .f32⟩
  | 11 => ⟨S8192x4x128, .f32⟩
  | 12 => ⟨S8192x1x512, .f32⟩
  | 13 => ⟨S1x8192x512, .f32⟩
  | 14 => ⟨S1x8192x512, .bf16⟩
  | 15 => ⟨S8192x1x4x128, .f32⟩
  | 16 => ⟨S8192x4x128, .f32⟩
  | 17 => ⟨S2048x4x512, .f32⟩
  | 18 => ⟨S4x2048x512, .f32⟩
  | 19 => ⟨S4x2048x512, .bf16⟩
  | 20 => ⟨S8192x1x4x128, .f32⟩
  | 21 => ⟨S8192x4x128, .f32⟩
  | 22 => ⟨S512x16x512, .f32⟩
  | 23 => ⟨S16x512x512, .f32⟩
  | 24 => ⟨S16x512x512, .bf16⟩
  | 25 => ⟨S1x8192x512, .f32⟩
  | 26 => ⟨S1x8192x512, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_5 : Ref sig .tc := ⟨.hbm, 78, rfl⟩
abbrev main_v64 : Ref sig .tc := ⟨.hbm, 79, rfl⟩
abbrev main_v65 : Ref sig .tc := ⟨.hbm, 80, rfl⟩
abbrev main_cst_6 : Ref sig .tc := ⟨.hbm, 81, rfl⟩
abbrev main_v66 : Ref sig .tc := ⟨.hbm, 82, rfl⟩
abbrev main_v67 : Ref sig .tc := ⟨.hbm, 83, rfl⟩
abbrev main_cst_7 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_8 : Ref sig .tc := ⟨.hbm, 98, rfl⟩
abbrev main_v81 : Ref sig .tc := ⟨.hbm, 99, rfl⟩
abbrev main_v82 : Ref sig .tc := ⟨.hbm, 100, rfl⟩
abbrev main_cst_9 : Ref sig .tc := ⟨.hbm, 101, rfl⟩
abbrev main_v83 : Ref sig .tc := ⟨.hbm, 102, rfl⟩
abbrev main_v84 : Ref sig .tc := ⟨.hbm, 103, rfl⟩
abbrev main_cst_10 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_11 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_12 : Ref sig .tc := ⟨.hbm, 120, rfl⟩
abbrev main_v99 : Ref sig .tc := ⟨.hbm, 121, rfl⟩
abbrev main_v100 : Ref sig .tc := ⟨.hbm, 122, rfl⟩
abbrev main_cst_13 : Ref sig .tc := ⟨.hbm, 123, rfl⟩
abbrev main_v101 : Ref sig .tc := ⟨.hbm, 124, rfl⟩
abbrev main_v102 : Ref sig .tc := ⟨.hbm, 125, rfl⟩
abbrev main_cst_14 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_cst_15 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩

abbrev nD : Nat := 1
abbrev τ : Topo := Topo.v7x

variable {F : FTy → Type} [FloatOps F]
-- ==== Proof.References.lean ====
/-
  The frames of the reference programs: each runs to its end, leaves its arguments as they were, and holds no semaphore.
-/
module

public import proofs.«01_k».proof.Defs
public import Idealize.ShloMosaic.Lib.Claim
public import proofs.«01_k».proof.Proof.Gen.ReferenceIdeal.Run
public import proofs.«01_k».proof.Proof.Gen.MlpReferenceIdeal.Run
public import proofs.«01_k».proof.Proof.Gen.OutAReferenceIdeal.Run
public import proofs.«01_k».proof.Proof.Gen.ProjQReferenceIdeal.Run
public import proofs.«01_k».proof.Proof.Gen.ProjReferenceIdeal.Run

@[expose] public section

noncomputable section

namespace Cert.Proof

open Idealize.ShloMosaic Idealize.SL.Sem

/-- The dilated attention's reference. -/
theorem frame_reference : Cert.quiescent_ReferenceIdeal (hReferenceIdeal := Cert.ReferenceIdeal.Gen.facts) :=
  fun m ρ _ => (θ_run Cert.ReferenceIdeal.defs _ _).mono
    (fun r h => ⟨fun c => (h c).2.2, sem_eq_zero_of_no_sems (by decide) r.2⟩)
    (Cert.ReferenceIdeal.Value.run (F := Ideal) m ρ)

/-- The feed-forward block's reference. -/
theorem frame_mlp_reference :
    Cert.quiescent_MlpReferenceIdeal (hMlpReferenceIdeal := Cert.MlpReferenceIdeal.Gen.facts) :=
  fun m ρ _ => (θ_run Cert.MlpReferenceIdeal.defs _ _).mono
    (fun r h => ⟨fun c => (h c).2.2.2.2.2, sem_eq_zero_of_no_sems (by decide) r.2⟩)
    (Cert.MlpReferenceIdeal.Value.run (F := Ideal) m ρ)

/-- The output projection's reference. -/
theorem frame_out_reference :
    Cert.quiescent_OutAReferenceIdeal (hOutAReferenceIdeal := Cert.OutAReferenceIdeal.Gen.facts) :=
  fun m ρ _ => (θ_run Cert.OutAReferenceIdeal.defs _ _).mono
    (fun r h => ⟨fun c => (h c).2.2, sem_eq_zero_of_no_sems (by decide) r.2⟩)
    (Cert.OutAReferenceIdeal.Value.run (F := Ideal) m ρ)

/-- The query projection's reference. -/
theorem frame_proj_reference :
    Cert.quiescent_ProjQReferenceIdeal (hProjQReferenceIdeal := Cert.ProjQReferenceIdeal.Gen.facts) :=
  fun m ρ _ => (θ_run Cert.ProjQReferenceIdeal.defs _ _).mono
    (fun r h => ⟨fun c => (h c).2.2.2.2, sem_eq_zero_of_no_sems (by decide) r.2⟩)
    (Cert.ProjQReferenceIdeal.Value.run (F := Ideal) m ρ)

/-- The reference of the first dilated layer's projection. -/
theorem frame_proj_kv_reference :
    Cert.quiescent_ProjReferenceIdeal (hProjReferenceIdeal := Cert.ProjReferenceIdeal.Gen.facts) :=
  fun m ρ _ => (θ_run Cert.ProjReferenceIdeal.defs _ _).mono
    (fun r h => ⟨fun c => (h c).2.2.2.2.2.2.2.2.2.2, sem_eq_zero_of_no_sems (by decide) r.2⟩)
    (Cert.ProjReferenceIdeal.Value.run (F := Ideal) m ρ)

end Cert.Proof

end
-- ==== Proof.OutValue.Softmax.lean ====
/-
  A softmax of finite scores over the extended reals: the weights are positive real numbers, so that averaging with the
  normalised weights is averaging with the weights and dividing once.
-/
module

public import Idealize.ShloMosaic.Lib.Pointwise

@[expose] public section

noncomputable section

namespace Cert.OutAIdeal.RefValue

open Idealize.ShloMosaic

/-- The largest score of a row. -/
def top (s : Fin 256 → EReal) : EReal := Finset.univ.fold max ⊥ s

/-- The weight of key `j`. -/
def weight (s : Fin 256 → EReal) (j : Fin 256) : EReal := Ideal.exp (s j - top s)

/-- The values `v` averaged with the weights of the scores `s`, divided once. -/
def attend (s v : Fin 256 → EReal) : EReal :=
  Ideal.div (∑ j : Fin 256, weight s j * v j) (∑ j : Fin 256, weight s j)

/-- The largest of finite scores is one of them. -/
theorem top_mem (s : Fin 256 → EReal) : ∃ i, top s = s i := by
  obtain ⟨i, -, hi⟩ := Finset.exists_mem_eq_sup (Finset.univ : Finset (Fin 256)) ⟨0, Finset.mem_univ _⟩ s
  exact ⟨i, hi⟩

/-- The weights of finite scores are positive reals. -/
theorem weight_real (s : Fin 256 → EReal) (hs : ∀ j, s j ≠ ⊥ ∧ s j ≠ ⊤) :
    ∃ w : Fin 256 → ℝ, (∀ j, 0 < w j) ∧ ∀ j, weight s j = (w j : EReal) := by
  have ht : ∀ j, ((s j).toReal : EReal) = s j := fun j => EReal.coe_toReal (hs j).2 (hs j).1
  obtain ⟨i, hi⟩ := top_mem s
  refine ⟨fun j => Real.exp ((s j).toReal - (s i).toReal), fun j => Real.exp_pos _, fun j => ?_⟩
  unfold weight
  rw [hi, ← ht j, ← ht i, ← EReal.coe_sub]
  rfl

theorem coe_sum_real (w : Fin 256 → ℝ) (S : Finset (Fin 256)) : ((∑ j ∈ S, w j : ℝ) : EReal) = ∑ j ∈ S, (w j : EReal) := by
  classical
  induction S using Finset.induction_on with
  | empty => simp
  | insert a S ha ih => rw [Finset.sum_insert ha, Finset.sum_insert ha, EReal.coe_add, ih]

/-- A nonnegative real factor moves into a sum of extended reals. -/
theorem sum_mul_real (x : Fin 256 → EReal) (c : ℝ) (hc : 0 ≤ c) (S : Finset (Fin 256)) :
    (∑ j ∈ S, x j) * (c : EReal) = ∑ j ∈ S, x j * (c : EReal) := by
  classical
  induction S using Finset.induction_on with
  | empty => simp
  | insert a S ha ih =>
    rw [Finset.sum_insert ha, Finset.sum_insert ha,
      EReal.right_distrib_of_nonneg_of_ne_top (EReal.coe_nonneg.mpr hc) (EReal.coe_ne_top c), ih]

/-- Averaging with normalised weights is averaging, then dividing once, where the scores are finite. -/
theorem softmax_average (s v : Fin 256 → EReal) (hs : ∀ j, s j ≠ ⊥ ∧ s j ≠ ⊤) :
    ∑ j : Fin 256, Ideal.div (weight s j) (∑ i : Fin 256, weight s i) * v j = attend s v := by
  obtain ⟨w, hpos, hw⟩ := weight_real s hs
  have hden : 0 < ∑ j : Fin 256, w j := Finset.sum_pos (fun j _ => hpos j) ⟨0, Finset.mem_univ _⟩
  have hne : ((∑ j : Fin 256, w j : ℝ) : EReal) ≠ 0 := by
    rw [← EReal.coe_zero]; exact fun h => hden.ne' (EReal.coe_injective h)
  unfold attend
  simp only [hw]
  rw [← coe_sum_real w Finset.univ]
  unfold Ideal.div
  simp only [if_neg hne]
  rw [← EReal.coe_inv, sum_mul_real _ _ (inv_nonneg.mpr hden.le)]
  exact Finset.sum_congr rfl fun j _ => by rw [mul_assoc, mul_comm ((_ : ℝ) : EReal) (v j), ← mul_assoc]

/-- A sum of products of finite extended reals is finite. -/
theorem sum_finite {n : ℕ} (a b : Fin n → EReal) (ha : ∀ l, a l ≠ ⊥ ∧ a l ≠ ⊤) (hb : ∀ l, b l ≠ ⊥ ∧ b l ≠ ⊤) :
    (∑ l, a l * b l) ≠ ⊥ ∧ (∑ l, a l * b l) ≠ ⊤ := by
  classical
  have key : ∀ S : Finset (Fin n), ∃ r : ℝ, ∑ l ∈ S, a l * b l = (r : EReal) := by
    intro S
    induction S using Finset.induction_on with
    | empty => exact ⟨0, by simp⟩
    | insert x S hx ih =>
      obtain ⟨r, hr⟩ := ih
      refine ⟨(a x).toReal * (b x).toReal + r, ?_⟩
      rw [Finset.sum_insert hx, hr, EReal.coe_add, EReal.coe_mul, EReal.coe_toReal (ha x).2 (ha x).1,
        EReal.coe_toReal (hb x).2 (hb x).1]
  obtain ⟨r, hr⟩ := key Finset.univ
  rw [hr]
  exact ⟨EReal.coe_ne_bot r, EReal.coe_ne_top r⟩

end Cert.OutAIdeal.RefValue

end
-- ==== Proof.OutValue.Spec.lean ====
/-
  The output projection of a recurrent layer at one index, over the extended reals: the mixed channels and the memory
  attention of four heads, side by side, against the weight, added to the input row.
-/
module

public import proofs.«01_k».proof.Proof.OutValue.Softmax
public import proofs.«01_k».proof.Proof.Gen.OutAIdeal.Value
public import proofs.«01_k».proof.Proof.Gen.OutAReferenceIdeal.Read

@[expose] public section

set_option maxRecDepth 16384

noncomputable section

namespace Cert.OutAIdeal.RefValue

open Cert.OutAIdeal Cert.OutAIdeal.Gen Idealize.ShloMosaic Idealize.ShloMosaic.TcCoe

/-- The scores of a query against the memory's keys. -/
def scores (q : Fin 128 → EReal) (k : Fin 256 → Fin 128 → EReal) (j : Fin 256) : EReal := ∑ l : Fin 128, q l * k j l

theorem minus_infinity : Ideal.ofBits .f32 0xFF800000#32 = ⊥ := by
  simp [Ideal.ofBits, Ideal.ieee]

/-- The first head. -/
theorem head0 (q : FVec Ideal S512x128 .bf16) (k v : FVec Ideal S1x256x128 .bf16) (r : Fin 512) (e : Fin 128) :
    k0_pay4 (F := Ideal) q k v (ix2 r e)
      = attend (scores (fun l => q (ix2 r l)) fun j l => k (ix3 0 j l)) fun j => v (ix3 0 j e) := by
  unfold attend weight top scores
  pointwise [k0_pay4]
  rw [minus_infinity]

/-- The second head. -/
theorem head1 (q : FVec Ideal S512x128 .bf16) (k v : FVec Ideal S1x256x128 .bf16) (r : Fin 512) (e : Fin 128) :
    k0_pay8 (F := Ideal) (k0_pay6 q k) (k0_pay7 q k) v (ix2 r e)
      = attend (scores (fun l => q (ix2 r l)) fun j l => k (ix3 0 j l)) fun j => v (ix3 0 j e) := by
  unfold attend weight top scores
  pointwise [k0_pay8, k0_pay7, k0_pay6, k0_pay5]
  rw [minus_infinity]

/-- The third head. -/
theorem head2 (q : FVec Ideal S512x128 .bf16) (k v : FVec Ideal S1x256x128 .bf16) (r : Fin 512) (e : Fin 128) :
    k0_pay9 (F := Ideal) q k v (ix2 r e)
      = attend (scores (fun l => q (ix2 r l)) fun j l => k (ix3 0 j l)) fun j => v (ix3 0 j e) := by
  unfold attend weight top scores
  pointwise [k0_pay9]
  rw [minus_infinity]

/-- Four heads of 128 lanes, side by side. -/
def four (a : Fin 4 → Fin 128 → EReal) (j : Fin 512) : EReal := a ⟨j.val / 128, by omega⟩ ⟨j.val % 128, by omega⟩

theorem four_eq (a : Fin 4 → Fin 128 → EReal) (j : Fin 512) (h : Fin 4) (e : Fin 128) (hj : j.val = h.val * 128 + e.val) :
    four a j = a h e := by
  unfold four
  have h1 : (⟨j.val / 128, by omega⟩ : Fin 4) = h := Fin.ext (by show j.val / 128 = h.val; omega)
  have h2 : (⟨j.val % 128, by omega⟩ : Fin 128) = e := Fin.ext (by show j.val % 128 = e.val; omega)
  rw [h1, h2]

/-- The fourth head's weights and their sum. -/
theorem head3_weight (q : FVec Ideal S512x128 .bf16) (k : FVec Ideal S1x256x128 .bf16) (r : Fin 512) (j : Fin 256) :
    k0_pay12 (F := Ideal) q k (ix2 r j) = weight (scores (fun l => q (ix2 r l)) fun j l => k (ix3 0 j l)) j := by
  unfold weight top scores
  pointwise [k0_pay12, k0_pay10]
  rw [minus_infinity]

theorem head3_total (q : FVec Ideal S512x128 .bf16) (k : FVec Ideal S1x256x128 .bf16) (r : Fin 512) :
    k0_pay11 (F := Ideal) q k (ix2 r 0)
      = ∑ j : Fin 256, weight (scores (fun l => q (ix2 r l)) fun j l => k (ix3 0 j l)) j := by
  unfold weight top scores
  pointwise [k0_pay11, k0_pay10]
  rw [minus_infinity]

/-- The row block's output at an index. -/
theorem final_apply (acc : FVec Ideal S512x2048 .f32) (a b c : FVec Ideal S512x128 .bf16) (t : FVec Ideal S512x1 .f32)
    (p : FVec Ideal S512x256 .bf16) (v : FVec Ideal S1x256x128 .bf16) (w : FVec Ideal S512x2048 .bf16)
    (x : FVec Ideal S512x2048 .f32) (f : Fin 4 → Fin 128 → EReal) (r : Fin 512) (d : Fin 2048)
    (h0 : ∀ e, a (ix2 r e) = f 0 e) (h1 : ∀ e, b (ix2 r e) = f 1 e) (h2 : ∀ e, c (ix2 r e) = f 2 e)
    (h3 : ∀ e, Ideal.div (∑ j : Fin 256, p (ix2 r j) * v (ix3 0 j e)) (t (ix2 r 0)) = f 3 e) :
    k0_pay2 (F := Ideal) acc a b c t p v w x (ix2 r d)
      = x (ix2 r d) + (acc (ix2 r d) + ∑ j : Fin 512, four f j * w (ix2 j d)) := by
  pointwise [k0_pay2]
  refine congrArg (x (ix2 r d) + ·) (congrArg (acc (ix2 r d) + ·) (Finset.sum_congr rfl fun j _ =>
    congrArg (· * w (ix2 j d)) ?_))
  have hj := j.isLt
  by_cases c0 : j.val < 128
  · rw [dif_pos c0, h0]
    exact (four_eq f j 0 _ (by show j.val = 0 * 128 + j.val; omega)).symm
  rw [dif_neg c0]
  by_cases c1 : j.val - 128 < 128
  · rw [dif_pos c1, h1]
    exact (four_eq f j 1 _ (by show j.val = 1 * 128 + (j.val - 128); omega)).symm
  rw [dif_neg c1]
  by_cases c2 : j.val - 128 - 128 < 128
  · rw [dif_pos c2, h2]
    exact (four_eq f j 2 _ (by show j.val = 2 * 128 + (j.val - 128 - 128); omega)).symm
  rw [dif_neg c2, h3]
  exact (four_eq f j 3 _ (by show j.val = 3 * 128 + (j.val - 128 - 128 - 128); omega)).symm

end Cert.OutAIdeal.RefValue

end
-- ==== Proof.OutValue.Ref.lean ====
/-
  The reference's output projection at one index, in the words of Proof/OutValue/Spec.lean.
-/
module

public import proofs.«01_k».proof.Proof.OutValue.Spec

@[expose] public section

set_option maxRecDepth 16384

noncomputable section

namespace Cert.OutAIdeal.RefValue

open Cert.OutAReferenceIdeal Cert.OutAReferenceIdeal.Read Idealize.ShloMosaic Idealize.ShloMosaic.TcCoe

/-- The scores of row `R`, head `h`, from the arrays of queries and keys. -/
def rowScores (q : FVec Ideal S8192x512 .bf16) (k : FVec Ideal S4x256x512 .bf16) (R : Fin 8192) (h : Fin 4) :
    Fin 256 → EReal :=
  scores (fun l => q (ix2 R ⟨h.val * 128 + l.val, by omega⟩)) fun j l => k (ix3 0 j ⟨h.val * 128 + l.val, by omega⟩)

/-- Head `h`'s values at lane `e`. -/
def values (v : FVec Ideal S4x256x512 .bf16) (h : Fin 4) (e : Fin 128) (j : Fin 256) : EReal :=
  v (ix3 0 j ⟨h.val * 128 + e.val, by omega⟩)

theorem ref_scores (q : FVec Ideal S8192x512 .bf16) (k : FVec Ideal S4x256x512 .bf16) (R : Fin 8192) (h : Fin 4)
    (j : Fin 256) : val_main_v10 (F := Ideal) q k (ix3 h R j) = rowScores q k R h j := by
  unfold rowScores scores
  pointwise [val_main_v10, val_main_v5, val_main_v4, val_main_v3, val_main_v2, val_main_v1, val_main_v0]

theorem ref_top (q : FVec Ideal S8192x512 .bf16) (k : FVec Ideal S4x256x512 .bf16) (R : Fin 8192) (h : Fin 4) :
    val_main_v13 (F := Ideal) q k (ix2 h R) = top (rowScores q k R h) := by
  rw [show rowScores q k R h = fun j => val_main_v10 (F := Ideal) q k (ix3 h R j) from
    funext fun j => (ref_scores q k R h j).symm]
  unfold top
  generalize hx : val_main_v10 (F := Ideal) q k = x
  rw [val_main_v13_apply, val_main_v12_apply, val_main_cst_0_apply]
  unfold val_main_v11
  rw [hx]
  pointwise [val_main_cst]
  simp only [minus_infinity]
  exact max_bot_left _

theorem ref_weight (q : FVec Ideal S8192x512 .bf16) (k : FVec Ideal S4x256x512 .bf16) (R : Fin 8192) (h : Fin 4)
    (j : Fin 256) : val_main_v17 (F := Ideal) q k (ix3 h R j) = weight (rowScores q k R h) j := by
  unfold weight
  rw [← ref_top, ← ref_scores]
  generalize hx : val_main_v10 (F := Ideal) q k = x
  generalize hy : val_main_v13 (F := Ideal) q k = y
  rw [val_main_v17_apply, val_main_v16_apply, val_main_v15_apply, val_main_v14_apply, hx, hy]
  exact congrArg (fun t => Ideal.exp (x (ix3 h R j) - t)) (congrArg y (funext fun a => Fin.ext (by
    match a with
    | ⟨0, _⟩ => rfl
    | ⟨1, _⟩ => rfl)))

theorem ref_share (q : FVec Ideal S8192x512 .bf16) (k : FVec Ideal S4x256x512 .bf16) (R : Fin 8192) (h : Fin 4)
    (j : Fin 256) : val_main_v21 (F := Ideal) q k (ix3 h R j)
      = Ideal.div (weight (rowScores q k R h) j) (∑ i : Fin 256, weight (rowScores q k R h) i) := by
  simp only [← ref_weight]
  generalize hx : val_main_v17 (F := Ideal) q k = x
  unfold val_main_v21 val_main_v20 val_main_v19 val_main_v18
  rw [hx]
  pointwise [val_main_cst_1]

theorem ref_value (v : FVec Ideal S4x256x512 .bf16) (h : Fin 4) (e : Fin 128) (j : Fin 256) :
    val_main_v9 (F := Ideal) v (ix3 j h e) = values v h e j := by
  unfold values
  pointwise [val_main_v9, val_main_v8, val_main_v7, val_main_v6]

theorem ref_attend (q : FVec Ideal S8192x512 .bf16) (k v : FVec Ideal S4x256x512 .bf16) (R : Fin 8192) (h : Fin 4)
    (e : Fin 128) (hs : ∀ j, rowScores q k R h j ≠ ⊥ ∧ rowScores q k R h j ≠ ⊤) :
    val_main_v23 (F := Ideal) q k v (ix3 R h e) = attend (rowScores q k R h) (values v h e) := by
  rw [← softmax_average _ _ hs]
  simp only [← ref_share, ← ref_value]
  generalize hx : val_main_v21 (F := Ideal) q k = x
  generalize hy : val_main_v9 (F := Ideal) v = y
  unfold val_main_v23 val_main_v22
  rw [hx, hy]
  pointwise []
  exact Finset.sum_congr rfl fun j _ => mul_comm _ _

theorem ref_mem (q : FVec Ideal S8192x512 .bf16) (k v : FVec Ideal S4x256x512 .bf16) (R : Fin 8192) (j : Fin 512)
    (hs : ∀ h j, rowScores q k R h j ≠ ⊥ ∧ rowScores q k R h j ≠ ⊤) :
    val_main_v24 (F := Ideal) q k v (ix2 R j) = four (fun h e => attend (rowScores q k R h) (values v h e)) j := by
  refine Eq.trans ?_ (ref_attend q k v R ⟨j.val / 128, by omega⟩ ⟨j.val % 128, by omega⟩ (hs _))
  pointwise [val_main_v24]

theorem ref_left (y : FVec Ideal S8192x1536 .bf16) (q : FVec Ideal S8192x512 .bf16) (k v : FVec Ideal S4x256x512 .bf16)
    (R : Fin 8192) (i : Fin 1536) : val_main_v26 (F := Ideal) y q k v (ix2 R ⟨i.val, by omega⟩) = y (ix2 R i) := by
  unfold val_main_v26 val_main_v25
  generalize val_main_v24 (F := Ideal) q k v = x
  pointwise []

theorem ref_right (y : FVec Ideal S8192x1536 .bf16) (q : FVec Ideal S8192x512 .bf16) (k v : FVec Ideal S4x256x512 .bf16)
    (R : Fin 8192) (j : Fin 512) : val_main_v26 (F := Ideal) y q k v (ix2 R ⟨1536 + j.val, by omega⟩)
      = val_main_v24 (F := Ideal) q k v (ix2 R j) := by
  unfold val_main_v26 val_main_v25
  generalize val_main_v24 (F := Ideal) q k v = x
  pointwise []

theorem ref_product (y : FVec Ideal S8192x1536 .bf16) (q : FVec Ideal S8192x512 .bf16) (k v : FVec Ideal S4x256x512 .bf16)
    (w : FVec Ideal S2048x2048 .bf16) (R : Fin 8192) (d : Fin 2048) :
    val_main_v28 (F := Ideal) y q k v w (ix2 R d)
      = ∑ i : Fin 2048, val_main_v26 (F := Ideal) y q k v (ix2 R i) * w (ix2 i d) := by
  unfold val_main_v28 val_main_v27
  generalize val_main_v26 (F := Ideal) y q k v = x
  pointwise []

/-- The reference's first result at an index. -/
theorem ref_out (x : FVec Ideal S8192x2048 .f32) (y : FVec Ideal S8192x1536 .bf16) (q : FVec Ideal S8192x512 .bf16)
    (k v : FVec Ideal S4x256x512 .bf16) (w : FVec Ideal S2048x2048 .bf16) (R : Fin 8192) (d : Fin 2048)
    (hs : ∀ h j, rowScores q k R h j ≠ ⊥ ∧ rowScores q k R h j ≠ ⊤) :
    val_main_v29 (F := Ideal) x y q k v w (ix2 R d)
      = x (ix2 R d) + (∑ i : Fin 1536, y (ix2 R i) * w (ix2 ⟨i.val, by omega⟩ d)
        + ∑ j : Fin 512, four (fun h e => attend (rowScores q k R h) (values v h e)) j * w (ix2 ⟨1536 + j.val, by omega⟩ d)) := by
  simp only [← ref_mem q k v R _ hs]
  rw [val_main_v29_apply, ref_product]
  refine congrArg (x (ix2 R d) + ·) ?_
  refine (Fin.sum_univ_add (a := 1536) (b := 512)
    fun i : Fin (1536 + 512) => val_main_v26 (F := Ideal) y q k v (ix2 R i) * w (ix2 i d)).trans ?_
  refine congrArg₂ (· + ·) (Finset.sum_congr rfl fun i _ => ?_) (Finset.sum_congr rfl fun j _ => ?_)
  · exact congrArg (· * _) (ref_left y q k v R i)
  · exact congrArg (· * _) (ref_right y q k v R j)

/-- The reference's second result: the first layer of the stacked weights. -/
theorem ref_cast (w : FVec Ideal S4x8192x2048 .f32) (R : Fin 8192) (d : Fin 2048) :
    val_main_v32 (F := Ideal) w (ix2 R d) = w (ix3 0 R d) := by
  pointwise [val_main_v32, val_main_v31, val_main_v30]

end Cert.OutAIdeal.RefValue

end
-- ==== Proof.OutValue.Tile.lean ====
/-
  One row block of the output projection at an index, from the blocks the kernel reads there.
-/
module

public import proofs.«01_k».proof.Proof.OutValue.Spec
public import Idealize.ShloMosaic.Lib.Pipeline.ValueKit.Tiles

@[expose] public section

set_option maxRecDepth 16384

noncomputable section

namespace Cert.OutAIdeal.RefValue

open Cert.OutAIdeal Cert.OutAIdeal.Gen Idealize.ShloMosaic Idealize.ShloMosaic.TcCoe

theorem hz2 : (![0, 0] : Fin 2 → Nat) = fun _ => 0 := by funext a; fin_cases a <;> rfl

theorem hz3 : (![0, 0, 0] : Fin 3 → Nat) = fun _ => 0 := by funext a; fin_cases a <;> rfl

/-- Head `h`'s queries in row `r` of a block. -/
def blockQuery (q : Vec Ideal S512x512 .bf16) (r : Fin 512) (h : Fin 4) (l : Fin 128) : EReal :=
  q (ix2 r ⟨h.val * 128 + l.val, by omega⟩)

/-- Head `h`'s keys (or values) in a block. -/
def blockMem (k : Vec Ideal S1x256x512 .bf16) (h : Fin 4) (j : Fin 256) (l : Fin 128) : EReal :=
  k (ix3 0 j ⟨h.val * 128 + l.val, by omega⟩)

theorem inb_query (h : Fin 4) : ∀ a, (![0, h.val * 128] : Fin 2 → Nat) a + S512x128.size a ≤ S512x512.size a := by
  intro a
  have := h.isLt
  match a with
  | ⟨0, _⟩ => show 0 + 512 ≤ 512; omega
  | ⟨1, _⟩ => show h.val * 128 + 128 ≤ 512; omega

theorem inb_mem (h : Fin 4) : ∀ a, (![0, 0, h.val * 128] : Fin 3 → Nat) a + S1x256x128.size a ≤ S1x256x512.size a := by
  intro a
  have := h.isLt
  match a with
  | ⟨0, _⟩ => show 0 + 1 ≤ 1; omega
  | ⟨1, _⟩ => show 0 + 256 ≤ 256; omega
  | ⟨2, _⟩ => show h.val * 128 + 128 ≤ 512; omega

/-- The columns of head `h`, of the queries and of the memory. -/
abbrev queryCols (h : Fin 4) : Rect S512x512 := Rect.unit (s := S512x512) ![0, h.val * 128] S512x128.size (inb_query h)
abbrev memCols (h : Fin 4) : Rect S1x256x512 := Rect.unit (s := S1x256x512) ![0, 0, h.val * 128] S1x256x128.size (inb_mem h)

theorem ld_query (q : Vec Ideal S512x512 .bf16) (h : Fin 4) (r : Fin 512) (l : Fin 128) :
    (View.ld q (queryCols h) : Vec Ideal S512x128 .bf16) (ix2 r l) = blockQuery q r h l :=
  View.ld_unit_apply_of q _ _ _ _ _ fun a => match a with
    | ⟨0, _⟩ => (Nat.zero_add _).symm
    | ⟨1, _⟩ => rfl

theorem ld_mem (k : Vec Ideal S1x256x512 .bf16) (h : Fin 4) (j : Fin 256) (l : Fin 128) :
    (View.ld k (memCols h) : Vec Ideal S1x256x128 .bf16) (ix3 0 j l) = blockMem k h j l :=
  View.ld_unit_apply_of k _ _ _ _ _ fun a => match a with
    | ⟨0, _⟩ => rfl
    | ⟨1, _⟩ => (Nat.zero_add _).symm
    | ⟨2, _⟩ => rfl

theorem ld_upper (w : Vec Ideal S2048x2048 .bf16) (i : Fin 1536) (d : Fin 2048) :
    (View.ld w r0_1 : Vec Ideal S1536x2048 .bf16) (ix2 i d) = w (ix2 ⟨i.val, by omega⟩ d) :=
  View.ld_unit_apply_of w _ _ _ _ _ fun a => match a with
    | ⟨0, _⟩ => (Nat.zero_add _).symm
    | ⟨1, _⟩ => (Nat.zero_add _).symm

theorem ld_lower (w : Vec Ideal S2048x2048 .bf16) (j : Fin 512) (d : Fin 2048) :
    (View.ld w r0_10 : Vec Ideal S512x2048 .bf16) (ix2 j d) = w (ix2 ⟨1536 + j.val, by omega⟩ d) :=
  View.ld_unit_apply_of w _ _ _ _ _ fun a => match a with
    | ⟨0, _⟩ => rfl
    | ⟨1, _⟩ => (Nat.zero_add _).symm

/-- The scores of row `r` of a block. -/
def blockScores (q : Vec Ideal S512x512 .bf16) (k : Vec Ideal S1x256x512 .bf16) (r : Fin 512) (h : Fin 4) :
    Fin 256 → EReal :=
  scores (blockQuery q r h) (blockMem k h)

/-- The mixed channels against the upper rows of the weight. -/
theorem mixed_apply (y : FVec Ideal S512x1536 .bf16) (w : FVec Ideal S1536x2048 .bf16) (r : Fin 512) (d : Fin 2048) :
    k0_pay3 (F := Ideal) y w (ix2 r d) = ∑ i : Fin 1536, y (ix2 r i) * w (ix2 i d) := by
  pointwise [k0_pay3]

theorem scores_block (q : Vec Ideal S512x512 .bf16) (k : Vec Ideal S1x256x512 .bf16) (r : Fin 512) (h : Fin 4) :
    scores (fun l => (View.ld q (queryCols h) : Vec Ideal S512x128 .bf16) (ix2 r l))
      (fun j l => (View.ld k (memCols h) : Vec Ideal S1x256x128 .bf16) (ix3 0 j l)) = blockScores q k r h := by
  unfold blockScores
  rw [funext fun l => ld_query q h r l, funext fun j => funext fun l => ld_mem k h j l]

theorem attend_block (q : Vec Ideal S512x512 .bf16) (k v : Vec Ideal S1x256x512 .bf16) (r : Fin 512) (h : Fin 4)
    (e : Fin 128) :
    attend (scores (fun l => (View.ld q (queryCols h) : Vec Ideal S512x128 .bf16) (ix2 r l))
        (fun j l => (View.ld k (memCols h) : Vec Ideal S1x256x128 .bf16) (ix3 0 j l)))
      (fun j => (View.ld v (memCols h) : Vec Ideal S1x256x128 .bf16) (ix3 0 j e))
      = attend (blockScores q k r h) fun j => blockMem v h j e := by
  rw [scores_block, funext fun j => ld_mem v h j e]

/-- What the kernel leaves in a row block. -/
theorem tile_out (x0 : Vec Ideal S512x2048 .f32) (x1 : Vec Ideal S512x1536 .bf16) (x2 : Vec Ideal S512x512 .bf16)
    (x3 x4 : Vec Ideal S1x256x512 .bf16) (x5 : Vec Ideal S2048x2048 .bf16) (x6 : Vec Ideal S1x512x2048 .f32)
    (r : Fin 512) (d : Fin 2048) :
    out0_7 (F := Ideal) x0 x1 x2 x3 x4 x5 x6 (ix2 r d)
      = x0 (ix2 r d) + (∑ i : Fin 1536, x1 (ix2 r i) * x5 (ix2 ⟨i.val, by omega⟩ d)
        + ∑ j : Fin 512, four (fun h e => attend (blockScores x2 x3 r h) fun j => blockMem x4 h j e) j
            * x5 (ix2 ⟨1536 + j.val, by omega⟩ d)) := by
  unfold out0_7
  rw [View.canon_unit_zero (S := S512x2048) hz2]
  refine (final_apply _ _ _ _ _ _ _ _ _ (fun h e => attend (blockScores x2 x3 r h) fun j => blockMem x4 h j e) r d
    (fun e => (head0 _ _ _ r e).trans (attend_block x2 x3 x4 r 0 e))
    (fun e => (head1 _ _ _ r e).trans (attend_block x2 x3 x4 r 1 e))
    (fun e => (head2 _ _ _ r e).trans (attend_block x2 x3 x4 r 2 e))
    (fun e => ?_)).trans ?_
  · rw [head3_total]
    simp only [head3_weight]
    exact attend_block x2 x3 x4 r 3 e
  · rw [mixed_apply, View.ld_unit_zero (S := S512x2048) hz2, View.ld_unit_zero (S := S512x1536) hz2]
    refine congrArg (x0 (ix2 r d) + ·) (congrArg₂ (· + ·) (Finset.sum_congr rfl fun i _ => ?_)
      (Finset.sum_congr rfl fun j _ => ?_))
    · exact congrArg (x1 (ix2 r i) * ·) (ld_upper x5 i d)
    · exact congrArg (_ * ·) (ld_lower x5 j d)

/-- What the kernel leaves of the cast weight. -/
theorem tile_cast (x0 : Vec Ideal S512x2048 .f32) (x1 : Vec Ideal S512x1536 .bf16) (x2 : Vec Ideal S512x512 .bf16)
    (x3 x4 : Vec Ideal S1x256x512 .bf16) (x5 : Vec Ideal S2048x2048 .bf16) (x6 : Vec Ideal S1x512x2048 .f32)
    (r : Fin 512) (d : Fin 2048) :
    out0_8 (F := Ideal) x0 x1 x2 x3 x4 x5 x6 (ix2 r d) = x6 (ix3 0 r d) := by
  unfold out0_8
  rw [View.canon_unit_zero (S := S512x2048) hz2, View.ld_unit_zero (S := S1x512x2048) hz3]
  pointwise [k0_pay1]

end Cert.OutAIdeal.RefValue

end
-- ==== Proof.OutValue.Final.lean ====
/-
  The two arrays the output projection leaves are the two values of its reference.
-/
module

public import proofs.«01_k».proof.Defs
public import proofs.«01_k».proof.Proof.Gen.Pre_finite_scores
public import proofs.«01_k».proof.Proof.OutValue.Ref
public import proofs.«01_k».proof.Proof.OutValue.Tile
public import proofs.«01_k».proof.Proof.Gen.OutAReferenceIdeal.Run
public import Idealize.ShloMosaic.Lib.Claim
public import Idealize.ShloMosaic.Lib.Pipeline.ValueKit.Geometry

@[expose] public section

set_option maxRecDepth 16384

noncomputable section

namespace Cert.OutAIdeal.RefValue

open Cert.OutAIdeal Cert.OutAIdeal.Gen Cert.OutAIdeal.Value Idealize.ShloMosaic Idealize.ShloMosaic.TcCoe
  Idealize.SL.Sem
open Cert.OutAReferenceIdeal.Read

theorem plus_infinity : Ideal.ofBits .f32 0x7F800000#32 = ⊤ := by
  simp [Ideal.ofBits, Ideal.ieee]

/-- The predicate's two comparisons say that a number is finite. -/
theorem finite_of_bits (x : EReal)
    (h : IntOp.andi (FloatOps.cmpf (F := Ideal) (φ := .f32) .ogt x (Ideal.ofBits .f32 0xFF800000#32))
      (FloatOps.cmpf (F := Ideal) (φ := .f32) .olt x (Ideal.ofBits .f32 0x7F800000#32)) = 1#1) : x ≠ ⊥ ∧ x ≠ ⊤ := by
  rw [minus_infinity, plus_infinity] at h
  constructor
  · rintro rfl
    revert h
    simp [FloatOps.cmpf, Ideal.cmp, IntOp.andi]
  · rintro rfl
    revert h
    simp [FloatOps.cmpf, Ideal.cmp, IntOp.andi]

variable (m : (ℓ : Loc nD τ sig) → Buf (Elt Ideal) ℓ)

/-- Under the precondition every score is finite. -/
theorem scores_finite (hpre : Cert.Pre_OutAIdeal_finite_scores (hPre_finite_scores := Cert.Pre_finite_scores.Gen.facts) m)
    (c : Dev nD) (R : Fin 8192) (h : Fin 4) (j : Fin 256) :
    rowScores (m ((c : Thread nD τ).loc main_arg2)) (m ((c : Thread nD τ).loc main_arg3)) R h j ≠ ⊥
      ∧ rowScores (m ((c : Thread nD τ).loc main_arg2)) (m ((c : Thread nD τ).loc main_arg3)) R h j ≠ ⊤ := by
  obtain ⟨hq, hk⟩ := hpre c
  refine sum_finite _ _ (fun l => ?_) (fun l => ?_)
  · have := congrFun hq (ix2 R ⟨h.val * 128 + l.val, by omega⟩)
    refine finite_of_bits _ (Eq.trans ?_ this)
    pointwise [Cert.Pre_finite_scores.fn]
  · have := congrFun hk (ix2 j ⟨h.val * 128 + l.val, by omega⟩)
    refine finite_of_bits _ (Eq.trans ?_ this)
    pointwise [Cert.Pre_finite_scores.fn]

/-- Where each window stands at point `t`. -/
theorem places : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 3) = 0 ∧ win0_6.index t (1 : Fin 3) = t.val ∧ win0_6.index t (2 : Fin 3) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

theorem point_lt (t : Fin cfg0.N) : t.val < 16 := lt_of_lt_of_eq t.isLt N_0

/-- The array row of row `r` of block `t`. -/
def row (t : Fin cfg0.N) (r : Fin 512) : Fin 8192 := ⟨t.val * 512 + r.val, by have := point_lt t; omega⟩

theorem block_x (c : Dev nD) (t : Fin cfg0.N) (r : Fin 512) (d : Fin 2048) :
    (iblk m c 0 t : Vec Ideal S512x2048 .f32) (ix2 r d) = m ((c : Thread nD τ).loc main_arg0) (ix2 (row t r) d) := by
  obtain ⟨⟨e0, e1⟩, _⟩ := places t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 512 + 1 * r.val = t.val * 512 + r.val; omega
  | ⟨1, _⟩ => show win0_0.index t (1 : Fin 2) * 2048 + 1 * d.val = d.val; omega

theorem block_y (c : Dev nD) (t : Fin cfg0.N) (r : Fin 512) (i : Fin 1536) :
    (iblk m c 1 t : Vec Ideal S512x1536 .bf16) (ix2 r i) = m ((c : Thread nD τ).loc main_arg1) (ix2 (row t r) i) := by
  obtain ⟨_, ⟨e0, e1⟩, _⟩ := places t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 512 + 1 * r.val = t.val * 512 + r.val; omega
  | ⟨1, _⟩ => show win0_1.index t (1 : Fin 2) * 1536 + 1 * i.val = i.val; omega

theorem block_q (c : Dev nD) (t : Fin cfg0.N) (r : Fin 512) (k : Fin 512) :
    (iblk m c 2 t : Vec Ideal S512x512 .bf16) (ix2 r k) = m ((c : Thread nD τ).loc main_arg2) (ix2 (row t r) k) := by
  obtain ⟨_, _, ⟨e0, e1⟩, _⟩ := places t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 512 + 1 * r.val = t.val * 512 + r.val; omega
  | ⟨1, _⟩ => show win0_2.index t (1 : Fin 2) * 512 + 1 * k.val = k.val; omega

theorem block_k (c : Dev nD) (t : Fin cfg0.N) (j : Fin 256) (k : Fin 512) :
    (iblk m c 3 t : Vec Ideal S1x256x512 .bf16) (ix3 0 j k) = m ((c : Thread nD τ).loc main_arg3) (ix3 (0 : Fin 4) j k) := by
  obtain ⟨_, _, _, ⟨e0, e1, e2⟩, _⟩ := places t
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t (0 : Fin 3) * 1 + 1 * 0 = 0; omega
  | ⟨1, _⟩ => show win0_3.index t (1 : Fin 3) * 256 + 1 * j.val = j.val; omega
  | ⟨2, _⟩ => show win0_3.index t (2 : Fin 3) * 512 + 1 * k.val = k.val; omega

theorem block_v (c : Dev nD) (t : Fin cfg0.N) (j : Fin 256) (k : Fin 512) :
    (iblk m c 4 t : Vec Ideal S1x256x512 .bf16) (ix3 0 j k) = m ((c : Thread nD τ).loc main_arg4) (ix3 (0 : Fin 4) j k) := by
  obtain ⟨_, _, _, _, ⟨e0, e1, e2⟩, _⟩ := places t
  unfold iblk
  rw [View.read_apply]
  show V m c main_arg4 _ = _
  rw [V_main_arg4]
  refine congrArg (m ((c : Thread nD τ).loc main_arg4)) (funext fun a => Fin.ext ?_)
  match a with
  | ⟨0, _⟩ => show win0_4.index t (0 : Fin 3) * 1 + 1 * 0 = 0; omega
  | ⟨1, _⟩ => show win0_4.index t (1 : Fin 3) * 256 + 1 * j.val = j.val; omega
  | ⟨2, _⟩ => show win0_4.index t (2 : Fin 3) * 512 + 1 * k.val = k.val; omega

theorem block_w (c : Dev nD) (t : Fin cfg0.N) (i d : Fin 2048) :
    (iblk m c 5 t : Vec Ideal S2048x2048 .bf16) (ix2 i d) = m ((c : Thread nD τ).loc main_arg5) (ix2 i d) := by
  obtain ⟨_, _, _, _, _, ⟨e0, e1⟩, _⟩ := places t
  unfold iblk
  rw [View.read_apply]
  show V m c main_arg5 _ = _
  rw [V_main_arg5]
  refine congrArg (m ((c : Thread nD τ).loc main_arg5)) (funext fun a => Fin.ext ?_)
  match a with
  | ⟨0, _⟩ => show win0_5.index t (0 : Fin 2) * 2048 + 1 * i.val = i.val; omega
  | ⟨1, _⟩ => show win0_5.index t (1 : Fin 2) * 2048 + 1 * d.val = d.val; omega

theorem block_cast (c : Dev nD) (t : Fin cfg0.N) (r : Fin 512) (d : Fin 2048) :
    (iblk m c 6 t : Vec Ideal S1x512x2048 .f32) (ix3 0 r d)
      = m ((c : Thread nD τ).loc main_arg6) (ix3 (0 : Fin 4) (row t r) d) := by
  obtain ⟨_, _, _, _, _, _, ⟨e0, e1, e2⟩, _⟩ := places t
  unfold iblk
  rw [View.read_apply]
  show V m c main_arg6 _ = _
  rw [V_main_arg6]
  refine congrArg (m ((c : Thread nD τ).loc main_arg6)) (funext fun a => Fin.ext ?_)
  match a with
  | ⟨0, _⟩ => show win0_6.index t (0 : Fin 3) * 1 + 1 * 0 = 0; omega
  | ⟨1, _⟩ => show win0_6.index t (1 : Fin 3) * 512 + 1 * r.val = t.val * 512 + r.val; omega
  | ⟨2, _⟩ => show win0_6.index t (2 : Fin 3) * 2048 + 1 * d.val = d.val; omega

/-- A block's scores are the arrays'. -/
theorem blockScores_eq (c : Dev nD) (t : Fin cfg0.N) (r : Fin 512) (h : Fin 4) :
    blockScores (iblk m c 2 t) (iblk m c 3 t) r h
      = rowScores (m ((c : Thread nD τ).loc main_arg2)) (m ((c : Thread nD τ).loc main_arg3)) (row t r) h := by
  have hq : blockQuery (iblk m c 2 t) r h = fun l => _ := funext fun l : Fin 128 => block_q m c t r ⟨h.val * 128 + l.val, by omega⟩
  have hk : blockMem (iblk m c 3 t) h = fun j l => _ :=
    funext fun j => funext fun l : Fin 128 => block_k m c t j ⟨h.val * 128 + l.val, by omega⟩
  unfold blockScores rowScores
  rw [hq, hk]

/-- A block's values are the array's. -/
theorem blockMem_eq (c : Dev nD) (t : Fin cfg0.N) (h : Fin 4) (e : Fin 128) :
    (fun j => blockMem (iblk m c 4 t) h j e) = values (m ((c : Thread nD τ).loc main_arg4)) h e :=
  funext fun j => block_v m c t j ⟨h.val * 128 + e.val, by omega⟩

/-- A block's index, by row and column. -/
theorem split_index (y : S512x2048.Idx) : ∃ (r : Fin 512) (d : Fin 2048), y = ix2 r d :=
  ⟨⟨(y 0).val, (y 0).isLt⟩, ⟨(y 1).val, (y 1).isLt⟩, funext fun a => Fin.ext (match a with
    | ⟨0, _⟩ => rfl
    | ⟨1, _⟩ => rfl)⟩

/-- What point `t` leaves in its row block is the reference's. -/
theorem point_out (hpre : Cert.Pre_OutAIdeal_finite_scores (hPre_finite_scores := Cert.Pre_finite_scores.Gen.facts) m)
    (c : Dev nD) (t : Fin cfg0.N) (r : Fin 512) (d : Fin 2048) :
    out0_7 (F := Ideal) (iblk m c 0 t) (iblk m c 1 t) (iblk m c 2 t) (iblk m c 3 t) (iblk m c 4 t) (iblk m c 5 t)
        (iblk m c 6 t) (ix2 r d)
      = val_main_v29 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (ix2 (row t r) d) := by
  rw [ref_out _ _ _ _ _ _ _ _ fun h j => scores_finite m hpre c _ h j]
  refine (tile_out (iblk m c 0 t) (iblk m c 1 t) (iblk m c 2 t) (iblk m c 3 t) (iblk m c 4 t) (iblk m c 5 t)
    (iblk m c 6 t) r d).trans ?_
  rw [block_x, funext fun h => funext fun e => congrArg₂ attend (blockScores_eq m c t r h) (blockMem_eq m c t h e)]
  refine congrArg (HAdd.hAdd (α := EReal) (β := EReal) (γ := EReal) (m ((c : Thread nD τ).loc main_arg0) (ix2 (row t r) d))) (congrArg₂ (· + ·) (Finset.sum_congr rfl fun i _ => ?_) (Finset.sum_congr rfl fun j _ => ?_))
  · exact congrArg₂ (· * ·) (block_y m c t r i) (block_w m c t _ d)
  · exact congrArg (_ * ·) (block_w m c t _ d)

/-- Where row `r` of the block point `t` writes lies in the projected array. -/
theorem place_out (t : Fin cfg0.N) (r : Fin 512) (d : Fin 2048) :
    (((cfg0.win 7).blk t).view.emb (ix2 r d : S512x2048.Idx) : S8192x2048.Idx) = ix2 (row t r) d := by
  obtain ⟨_, _, _, _, _, _, _, ⟨e0, e1⟩, _⟩ := places t
  funext a; apply Fin.ext
  match a with
  | ⟨0, _⟩ => show win0_7.index t (0 : Fin 2) * 512 + 1 * r.val = t.val * 512 + r.val; omega
  | ⟨1, _⟩ => show win0_7.index t (1 : Fin 2) * 2048 + 1 * d.val = d.val; omega

theorem place_cast (t : Fin cfg0.N) (r : Fin 512) (d : Fin 2048) :
    (((cfg0.win 8).blk t).view.emb (ix2 r d : S512x2048.Idx) : S8192x2048.Idx) = ix2 (row t r) d := by
  obtain ⟨_, _, _, _, _, _, _, _, ⟨e0, e1⟩⟩ := places t
  funext a; apply Fin.ext
  match a with
  | ⟨0, _⟩ => show win0_8.index t (0 : Fin 2) * 512 + 1 * r.val = t.val * 512 + r.val; omega
  | ⟨1, _⟩ => show win0_8.index t (1 : Fin 2) * 2048 + 1 * d.val = d.val; omega

theorem covers_out : (cfg0.win 7).Covers := by decide +kernel

theorem covers_cast : (cfg0.win 8).Covers := by decide +kernel

/-- The projected array. -/
theorem out_eq (hpre : Cert.Pre_OutAIdeal_finite_scores (hPre_finite_scores := Cert.Pre_finite_scores.Gen.facts) m)
    (c : Dev nD) : (dats m 0 c).arrAt 7 cfg0.N
    = val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 7 _ covers_out fun t _ y => ?_
  obtain ⟨r, d, hy⟩ := split_index y
  subst hy
  have h := point_out m hpre c t r d
  rw [place_out, after0_7]
  generalize out0_7 (iblk m c 0 t) (iblk m c 1 t) (iblk m c 2 t) (iblk m c 3 t) (iblk m c 4 t) (iblk m c 5 t)
    (iblk m c 6 t) = X at h ⊢
  rw [← h]
  rfl

/-- The cast weight. -/
theorem cast_eq (c : Dev nD) : (dats m 0 c).arrAt 8 cfg0.N
    = val_main_v32 (F := Ideal) (m ((c : Thread nD τ).loc main_arg6)) := by
  refine (dats m 0 c).arrAt_eq_of_covers 8 _ covers_cast fun t _ y => ?_
  obtain ⟨r, d, hy⟩ := split_index y
  subst hy
  have h := (tile_cast (iblk m c 0 t) (iblk m c 1 t) (iblk m c 2 t) (iblk m c 3 t) (iblk m c 4 t) (iblk m c 5 t)
    (iblk m c 6 t) r d).trans (block_cast m c t r d)
  rw [place_cast, ref_cast, after0_8]
  generalize out0_8 (iblk m c 0 t) (iblk m c 1 t) (iblk m c 2 t) (iblk m c 3 t) (iblk m c 4 t) (iblk m c 5 t)
    (iblk m c 6 t) = X at h ⊢
  rw [← h]
  rfl

/-- The two programs run, and from equal arguments with finite queries and keys their two results are equal. -/
theorem algebraic : Cert.algebraic_OutAIdeal_OutAReferenceIdeal_pre_finite_scores (hOutAIdeal := Cert.OutAIdeal.Gen.facts)
    (hOutAReferenceIdeal := Cert.OutAReferenceIdeal.Gen.facts)
    (hPre_finite_scores := Cert.Pre_finite_scores.Gen.facts) := by
  intro m g m' g' hpre hargs
  refine ⟨fun c => (dats m 0 c).arrAt 7 cfg0.N, fun c => (dats m 0 c).arrAt 8 cfg0.N, Value.run_blocks (F := Ideal) m g, ?_⟩
  refine (θ_run (Cert.OutAReferenceIdeal.defs (F := Ideal)) _ _).mono (fun r h c => ?_)
    (Cert.OutAReferenceIdeal.Value.run (F := Ideal) m' g')
  obtain ⟨h0, h1, hkept⟩ := h c
  obtain ⟨a0, a1, a2, a3, a4, a5, a6⟩ := hargs c
  refine ⟨h0.trans ?_, h1.trans ?_, hkept⟩
  · rw [val_main_v29_eq, a0, a1, a2, a3, a4, a5]
    exact (out_eq m hpre c).symm
  · rw [val_main_v32_eq, a6]
    exact (cast_eq m c).symm

end Cert.OutAIdeal.RefValue

end
-- ==== Proof.ProjValue.Heads.lean ====
/-
  A query head at one index, over the extended reals: 128 projected columns of a row, divided by their root mean square,
  times the head's gains and the attention scale. The kernel computes four heads of 128 columns at a time, for each of
  the three dilated groups and for the memory queries.
-/
module

public import proofs.«01_k».proof.Proof.Gen.ProjQIdeal.Skeleton
public import Idealize.ShloMosaic.Lib.Pointwise

@[expose] public section

set_option maxRecDepth 16384

noncomputable section

namespace Cert.ProjQIdeal.RefValue

open Cert.ProjQIdeal Cert.ProjQIdeal.Gen Idealize.ShloMosaic Idealize.ShloMosaic.TcCoe

/-- A row `x` of `n` numbers divided by its root mean square, the constants given by their bits, times the gains. -/
def scaled {n : Nat} (count : EReal) (x g : Fin n → EReal) (k : Fin n) : EReal :=
  x k * Ideal.rsqrt (Ideal.div (∑ j : Fin n, x j * x j) count + Ideal.ofBits .f32 0x358637BD#32) * g k

/-- The normalised input row. -/
def normed (x g : Fin 2048 → EReal) : Fin 2048 → EReal := scaled (Ideal.ofBits .f32 0x45000000#32) x g

/-- A query head. -/
def head (a g : Fin 128 → EReal) (e : Fin 128) : EReal :=
  scaled (Ideal.ofBits .f32 0x43000000#32) a g e * Ideal.ofBits .f32 0x3DB504F3#32

/-- Head `h` in row `r` of a block of four heads, from the projected columns `a` and the gains `g`. -/
def blockHead (a : FVec Ideal S1024x512 .f32) (g : FVec Ideal S1x128 .f32) (r : Fin 1024) (h : Fin 4) (e : Fin 128) :
    EReal :=
  head (fun l => a (ix2 r ⟨h.val * 128 + l.val, by omega⟩)) (fun l => g (ix2 0 l)) e

/-- The normalised rows. -/
theorem normed_apply (x : Vec Ideal S1024x2048 .f32) (g : Vec Ideal S1x2048 .f32) (r : Fin 1024) (k : Fin 2048) :
    k0_pay2 (F := Ideal) x g (ix2 r k) = normed (fun j => x (ix2 r j)) (fun j => g (ix2 0 j)) k := by
  unfold normed scaled
  pointwise [k0_pay2]

/-- The projected columns. -/
theorem product_apply (x : Vec Ideal S1024x2048 .bf16) (w : Vec Ideal S2048x512 .bf16) (r : Fin 1024) (j : Fin 512) :
    k0_pay3 (F := Ideal) x w (ix2 r j) = ∑ k : Fin 2048, x (ix2 r k) * w (ix2 k j) := by
  pointwise [k0_pay3]

/-- The second group of dilated queries: head by head, as they go to the scratch. -/
theorem second0 (x : Vec Ideal S1024x2048 .bf16) (w : Vec Ideal S2048x512 .bf16) (g : Vec Ideal S1x128 .f32)
    (r : Fin 1024) (e : Fin 128) :
    k0_pay16 (F := Ideal) (k0_pay9 x w) (k0_pay10 g) (k0_pay11 x w g) (k0_pay12 x w g) (k0_pay13 x w) (k0_pay14 x w)
      (ix3 0 r e) = blockHead (k0_pay9 x w) g r 0 e := by
  unfold blockHead head scaled k0_pay11 k0_pay12 k0_pay14 k0_pay13
  generalize k0_pay9 (F := Ideal) x w = a
  pointwise [k0_pay16, k0_pay15, k0_pay10]

theorem second1 (x : Vec Ideal S1024x2048 .bf16) (w : Vec Ideal S2048x512 .bf16) (g : Vec Ideal S1x128 .f32)
    (r : Fin 1024) (e : Fin 128) :
    k0_pay17 (F := Ideal) (k0_pay9 x w) (k0_pay10 g) (k0_pay11 x w g) (k0_pay12 x w g) (k0_pay13 x w) (k0_pay14 x w)
      (ix3 0 r e) = blockHead (k0_pay9 x w) g r 1 e := by
  unfold blockHead head scaled k0_pay11 k0_pay12 k0_pay14 k0_pay13
  generalize k0_pay9 (F := Ideal) x w = a
  pointwise [k0_pay17, k0_pay15, k0_pay10]

theorem second2 (x : Vec Ideal S1024x2048 .bf16) (w : Vec Ideal S2048x512 .bf16) (g : Vec Ideal S1x128 .f32)
    (r : Fin 1024) (e : Fin 128) :
    k0_pay18 (F := Ideal) (k0_pay9 x w) (k0_pay10 g) (k0_pay11 x w g) (k0_pay12 x w g) (k0_pay13 x w) (k0_pay14 x w)
      (ix3 0 r e) = blockHead (k0_pay9 x w) g r 2 e := by
  unfold blockHead head scaled k0_pay11 k0_pay12 k0_pay14 k0_pay13
  generalize k0_pay9 (F := Ideal) x w = a
  pointwise [k0_pay18, k0_pay15, k0_pay10]
  have hc : 256 + e.val - 128 - 128 = e.val := by omega
  rw [dif_neg (by omega), dif_neg (by omega), dif_pos (by omega)]
  simp only [hc, Fin.eta]

theorem second3 (x : Vec Ideal S1024x2048 .bf16) (w : Vec Ideal S2048x512 .bf16) (g : Vec Ideal S1x128 .f32)
    (r : Fin 1024) (e : Fin 128) :
    k0_pay19 (F := Ideal) (k0_pay15 (k0_pay9 x w) (k0_pay10 g) (k0_pay11 x w g) (k0_pay12 x w g) (k0_pay13 x w)
      (k0_pay14 x w)) (ix3 0 r e) = blockHead (k0_pay9 x w) g r 3 e := by
  unfold blockHead head scaled k0_pay11 k0_pay12 k0_pay14 k0_pay13
  generalize k0_pay9 (F := Ideal) x w = a
  pointwise [k0_pay19, k0_pay15, k0_pay10]
  have hc : 384 + e.val - 128 - 128 - 128 = e.val := by omega
  rw [dif_neg (by omega), dif_neg (by omega), dif_neg (by omega)]
  simp only [hc, Fin.eta]

/-- The third group of dilated queries. -/
theorem third0 (x : Vec Ideal S1024x2048 .bf16) (w : Vec Ideal S2048x512 .bf16) (g : Vec Ideal S1x128 .f32)
    (r : Fin 1024) (e : Fin 128) :
    k0_pay47 (F := Ideal) (k0_pay41 (k0_pay38 g) (k0_pay39 x w) (k0_pay40 x w)) (k0_pay42 (k0_pay37 x w) (k0_pay38 g))
      (k0_pay43 (k0_pay37 x w) (k0_pay38 g)) (k0_pay44 (k0_pay37 x w)) (k0_pay45 (k0_pay38 g)) (ix3 0 r e)
      = blockHead (k0_pay37 x w) g r 0 e := by
  unfold blockHead head scaled k0_pay40 k0_pay39
  generalize k0_pay37 (F := Ideal) x w = a
  pointwise [k0_pay47, k0_pay46, k0_pay45, k0_pay44, k0_pay43, k0_pay42, k0_pay41, k0_pay38]

theorem third1 (x : Vec Ideal S1024x2048 .bf16) (w : Vec Ideal S2048x512 .bf16) (g : Vec Ideal S1x128 .f32)
    (r : Fin 1024) (e : Fin 128) :
    k0_pay48 (F := Ideal) (k0_pay41 (k0_pay38 g) (k0_pay39 x w) (k0_pay40 x w)) (k0_pay42 (k0_pay37 x w) (k0_pay38 g))
      (k0_pay43 (k0_pay37 x w) (k0_pay38 g)) (k0_pay44 (k0_pay37 x w)) (k0_pay45 (k0_pay38 g)) (ix3 0 r e)
      = blockHead (k0_pay37 x w) g r 1 e := by
  unfold blockHead head scaled k0_pay40 k0_pay39
  generalize k0_pay37 (F := Ideal) x w = a
  pointwise [k0_pay48, k0_pay46, k0_pay45, k0_pay44, k0_pay43, k0_pay42, k0_pay41, k0_pay38]

theorem third2 (x : Vec Ideal S1024x2048 .bf16) (w : Vec Ideal S2048x512 .bf16) (g : Vec Ideal S1x128 .f32)
    (r : Fin 1024) (e : Fin 128) :
    k0_pay49 (F := Ideal) (k0_pay41 (k0_pay38 g) (k0_pay39 x w) (k0_pay40 x w)) (k0_pay42 (k0_pay37 x w) (k0_pay38 g))
      (k0_pay43 (k0_pay37 x w) (k0_pay38 g)) (k0_pay44 (k0_pay37 x w)) (k0_pay45 (k0_pay38 g)) (ix3 0 r e)
      = blockHead (k0_pay37 x w) g r 2 e := by
  unfold blockHead head scaled k0_pay40 k0_pay39
  generalize k0_pay37 (F := Ideal) x w = a
  pointwise [k0_pay49, k0_pay46, k0_pay45, k0_pay44, k0_pay43, k0_pay42, k0_pay41, k0_pay38]
  have hc : 256 + e.val - 128 - 128 = e.val := by omega
  rw [dif_neg (by omega), dif_neg (by omega), dif_pos (by omega)]
  simp only [hc, Fin.eta]

theorem third3 (x : Vec Ideal S1024x2048 .bf16) (w : Vec Ideal S2048x512 .bf16) (g : Vec Ideal S1x128 .f32)
    (r : Fin 1024) (e : Fin 128) :
    k0_pay50 (F := Ideal) (k0_pay41 (k0_pay38 g) (k0_pay39 x w) (k0_pay40 x w)) (k0_pay42 (k0_pay37 x w) (k0_pay38 g))
      (k0_pay43 (k0_pay37 x w) (k0_pay38 g)) (k0_pay44 (k0_pay37 x w)) (k0_pay45 (k0_pay38 g)) (ix3 0 r e)
      = blockHead (k0_pay37 x w) g r 3 e := by
  unfold blockHead head scaled k0_pay40 k0_pay39
  generalize k0_pay37 (F := Ideal) x w = a
  pointwise [k0_pay50, k0_pay46, k0_pay45, k0_pay44, k0_pay43, k0_pay42, k0_pay41, k0_pay38]
  have hc : 384 + e.val - 128 - 128 - 128 = e.val := by omega
  rw [dif_neg (by omega), dif_neg (by omega), dif_neg (by omega)]
  simp only [hc, Fin.eta]

/-- The first group of dilated queries: four heads at once. -/
theorem first_block (x : Vec Ideal S1024x2048 .bf16) (w : Vec Ideal S2048x512 .bf16) (g : Vec Ideal S1x128 .f32)
    (r : Fin 1024) (h : Fin 4) (e : Fin 128) :
    k0_pay8 (F := Ideal) (k0_pay7 (k0_pay3 x w) (k0_pay4 g) (k0_pay5 x w g) k0_pay6)
      (ix3 0 r ⟨h.val * 128 + e.val, by omega⟩) = blockHead (k0_pay3 x w) g r h e := by
  unfold blockHead head scaled k0_pay5
  generalize k0_pay3 (F := Ideal) x w = a
  pointwise [k0_pay8, k0_pay7, k0_pay4, k0_pay6]
  have he := e.isLt
  obtain ⟨h, hh⟩ := h
  obtain rfl | rfl | rfl | rfl : h = 0 ∨ h = 1 ∨ h = 2 ∨ h = 3 := by omega
  · rw [dif_pos (by dsimp only; omega)]
    simp only [Nat.zero_mul, Nat.zero_add, Fin.eta]
  · have hc : 128 + e.val - 128 = e.val := by omega
    rw [dif_neg (by dsimp only; omega), dif_pos (by dsimp only; omega)]
    simp only [Nat.reduceMul, hc, Fin.eta]
  · have hc : 256 + e.val - 128 - 128 = e.val := by omega
    rw [dif_neg (by dsimp only; omega), dif_neg (by dsimp only; omega), dif_pos (by dsimp only; omega)]
    simp only [Nat.reduceMul, hc, Fin.eta]
  · have hc : 384 + e.val - 128 - 128 - 128 = e.val := by omega
    rw [dif_neg (by dsimp only; omega), dif_neg (by dsimp only; omega), dif_neg (by dsimp only; omega)]
    simp only [Nat.reduceMul, hc, Fin.eta]

/-- The memory queries: four heads at once. -/
theorem memory_block (x : Vec Ideal S1024x2048 .bf16) (w : Vec Ideal S2048x512 .bf16) (g : Vec Ideal S1x128 .f32)
    (r : Fin 1024) (h : Fin 4) (e : Fin 128) :
    k0_pay1 (F := Ideal) (k0_pay126 (k0_pay123 x w) (k0_pay124 g) (k0_pay125 x w g))
      (ix3 0 r ⟨h.val * 128 + e.val, by omega⟩) = blockHead (k0_pay123 x w) g r h e := by
  exact first_block x w g r h e

end Cert.ProjQIdeal.RefValue

end
-- ==== Proof.ProjValue.Ref.lean ====
/-
  The reference's queries at one index, in the words of Proof/ProjValue/Heads.lean.
-/
module

public import proofs.«01_k».proof.Proof.ProjValue.Heads
public import proofs.«01_k».proof.Proof.Gen.ProjQReferenceIdeal.Read

@[expose] public section

set_option maxRecDepth 16384

noncomputable section

namespace Cert.ProjQIdeal.RefValue

open Cert.ProjQReferenceIdeal Cert.ProjQReferenceIdeal.Read Idealize.ShloMosaic Idealize.ShloMosaic.TcCoe

/-- The projected column `j` of row `R`. -/
def column (x : FVec Ideal S8192x2048 .f32) (n : FVec Ideal S2048 .f32) (w : FVec Ideal S2048x2048 .bf16) (R : Fin 8192)
    (j : Fin 2048) : EReal :=
  ∑ k : Fin 2048, normed (fun i => x (ix2 R i)) (fun i => n (ix1 i)) k * w (ix2 k j)

theorem ref_normed (x : FVec Ideal S8192x2048 .f32) (n : FVec Ideal S2048 .f32) (R : Fin 8192) (k : Fin 2048) :
    val_main_v12 (F := Ideal) x n (ix2 R k) = normed (fun i => x (ix2 R i)) (fun i => n (ix1 i)) k := by
  unfold normed scaled
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

theorem ref_column (x : FVec Ideal S8192x2048 .f32) (n : FVec Ideal S2048 .f32) (w : FVec Ideal S2048x2048 .bf16)
    (R : Fin 8192) (j : Fin 2048) : val_main_v14 (F := Ideal) x n w (ix2 R j) = column x n w R j := by
  simp only [column, ← ref_normed]
  generalize hx : val_main_v12 (F := Ideal) x n = v
  unfold val_main_v14
  rw [hx]
  pointwise [val_main_v13]

/-- Head `h` of the memory queries. -/
theorem ref_memory_head (x : FVec Ideal S8192x2048 .f32) (n : FVec Ideal S2048 .f32) (w : FVec Ideal S2048x2048 .bf16)
    (g : FVec Ideal S128 .f32) (R : Fin 8192) (h : Fin 4) (e : Fin 128) :
    val_main_v31 (F := Ideal) x n w g (ix3 R h e)
      = head (fun l => column x n w R ⟨1536 + (h.val * 128 + l.val), by omega⟩) (fun l => g (ix1 l)) e := by
  have hc : ∀ l : Fin 128, val_main_v16 (F := Ideal) x n w (ix3 R h l)
      = column x n w R ⟨1536 + (h.val * 128 + l.val), by omega⟩ := fun l => by
    rw [← ref_column]
    generalize hx : val_main_v14 (F := Ideal) x n w = v
    unfold val_main_v16 val_main_v15
    rw [hx]
    pointwise []
  simp only [← hc]
  unfold head scaled
  generalize hx : val_main_v16 (F := Ideal) x n w = v
  unfold val_main_v31 val_main_v29 val_main_v26 val_main_v25 val_main_v24 val_main_v23 val_main_v21 val_main_v19 val_main_v18 val_main_v17
  rw [hx]
  pointwise [val_main_v30, val_main_v28, val_main_v27, val_main_v22, val_main_v20, val_main_cst_2, val_main_cst_3, val_main_cst_4, val_main_cst_5]

/-- Head `h` of group `b` of the dilated queries. -/
theorem ref_dilated_head (x : FVec Ideal S8192x2048 .f32) (n : FVec Ideal S2048 .f32) (w : FVec Ideal S2048x2048 .bf16)
    (g : FVec Ideal S3x128 .f32) (R : Fin 8192) (b : Fin 3) (h : Fin 4) (e : Fin 128) :
    val_main_v49 (F := Ideal) x n w g (ix4 R b h e)
      = head (fun l => column x n w R ⟨b.val * 512 + (h.val * 128 + l.val), by omega⟩) (fun l => g (ix2 b l)) e := by
  have hc : ∀ l : Fin 128, val_main_v33 (F := Ideal) x n w (ix4 R b h l)
      = column x n w R ⟨b.val * 512 + (h.val * 128 + l.val), by omega⟩ := fun l => by
    rw [← ref_column]
    generalize hx : val_main_v14 (F := Ideal) x n w = v
    unfold val_main_v33 val_main_v32
    rw [hx]
    pointwise []
    simp only [Nat.add_assoc]
  simp only [← hc]
  unfold head scaled
  generalize hx : val_main_v33 (F := Ideal) x n w = v
  unfold val_main_v49 val_main_v47 val_main_v44 val_main_v43 val_main_v42 val_main_v41 val_main_v39 val_main_v37 val_main_v36 val_main_v35
  rw [hx]
  pointwise [val_main_v48, val_main_v46, val_main_v45, val_main_v34, val_main_v40, val_main_v38, val_main_cst_6, val_main_cst_7, val_main_cst_8, val_main_cst_9]

/-- The first group's result. -/
theorem ref_first (x : FVec Ideal S8192x2048 .f32) (n : FVec Ideal S2048 .f32) (w : FVec Ideal S2048x2048 .bf16)
    (g : FVec Ideal S3x128 .f32) (R : Fin 8192) (h : Fin 4) (e : Fin 128) :
    val_main_v54 (F := Ideal) x n w g (ix3 0 R ⟨h.val * 128 + e.val, by omega⟩)
      = val_main_v49 (F := Ideal) x n w g (ix4 R 0 h e) := by
  generalize hx : val_main_v49 (F := Ideal) x n w g = v
  unfold val_main_v54 val_main_v53 val_main_v52 val_main_v51 val_main_v50
  rw [hx]
  pointwise []

/-- The second group's result: row `i` of class `q` is row `4 i + q`. -/
theorem ref_second (x : FVec Ideal S8192x2048 .f32) (n : FVec Ideal S2048 .f32) (w : FVec Ideal S2048x2048 .bf16)
    (g : FVec Ideal S3x128 .f32) (q : Fin 4) (i : Fin 2048) (h : Fin 4) (e : Fin 128) :
    val_main_v59 (F := Ideal) x n w g (ix3 q i ⟨h.val * 128 + e.val, by omega⟩)
      = val_main_v49 (F := Ideal) x n w g (ix4 (⟨i.val * 4 + q.val, by omega⟩ : Fin 8192) 1 h e) := by
  generalize hx : val_main_v49 (F := Ideal) x n w g = v
  unfold val_main_v59 val_main_v58 val_main_v57 val_main_v56 val_main_v55
  rw [hx]
  pointwise []

/-- The third group's result: row `i` of class `q` is row `16 i + q`. -/
theorem ref_third (x : FVec Ideal S8192x2048 .f32) (n : FVec Ideal S2048 .f32) (w : FVec Ideal S2048x2048 .bf16)
    (g : FVec Ideal S3x128 .f32) (q : Fin 16) (i : Fin 512) (h : Fin 4) (e : Fin 128) :
    val_main_v64 (F := Ideal) x n w g (ix3 q i ⟨h.val * 128 + e.val, by omega⟩)
      = val_main_v49 (F := Ideal) x n w g (ix4 (⟨i.val * 16 + q.val, by omega⟩ : Fin 8192) 2 h e) := by
  generalize hx : val_main_v49 (F := Ideal) x n w g = v
  unfold val_main_v64 val_main_v63 val_main_v62 val_main_v61 val_main_v60
  rw [hx]
  pointwise []

/-- The memory queries' result. -/
theorem ref_memory (x : FVec Ideal S8192x2048 .f32) (n : FVec Ideal S2048 .f32) (w : FVec Ideal S2048x2048 .bf16)
    (g : FVec Ideal S128 .f32) (R : Fin 8192) (h : Fin 4) (e : Fin 128) :
    val_main_v66 (F := Ideal) x n w g (ix3 0 R ⟨h.val * 128 + e.val, by omega⟩)
      = val_main_v31 (F := Ideal) x n w g (ix3 R h e) := by
  generalize hx : val_main_v31 (F := Ideal) x n w g = v
  unfold val_main_v66 val_main_v65
  rw [hx]
  pointwise []

end Cert.ProjQIdeal.RefValue

end
-- ==== Proof.ProjValue.Loads.lean ====
/-
  What a grid point of the query projection loads and keeps in its scratches. A point normalises its 1024 rows once,
  multiplies them with the weight columns of one group after the other, and normalises four heads of each product.
-/
module

public import proofs.«01_k».proof.Proof.ProjValue.Heads
public import proofs.«01_k».proof.Proof.Gen.ProjQIdeal.Value
public import Idealize.ShloMosaic.Lib.Pipeline.ValueKit.Tiles
public import Idealize.ShloMosaic.Lib.Pipeline.ReadBack

@[expose] public section

set_option maxRecDepth 16384

noncomputable section

namespace Cert.ProjQIdeal.RefValue

open Cert.ProjQIdeal Cert.ProjQIdeal.Gen Cert.ProjQIdeal.Value Idealize.ShloMosaic Idealize.ShloMosaic.TcCoe
  Idealize.SL.Sem

variable (m : (ℓ : Loc nD τ sig) → Buf (Elt Ideal) ℓ)

theorem hz2 : (![0, 0] : Fin 2 → Nat) = fun _ => 0 := by
  funext a; match a with | 0 => rfl | 1 => rfl

theorem hz3 : (![0, 0, 0] : Fin 3 → Nat) = fun _ => 0 := by
  funext a; match a with | 0 => rfl | 1 => rfl | 2 => rfl

theorem inb_weight (b : Fin 4) : ∀ a, (![0, b.val * 512] : Fin 2 → ℕ) a + S2048x512.size a ≤ S2048x2048.size a := by
  intro a
  match a with
  | ⟨0, _⟩ => show 0 + 2048 ≤ 2048; omega
  | ⟨1, _⟩ => show b.val * 512 + 512 ≤ 2048; omega

theorem inb_gain (b : Fin 4) : ∀ a, (![b.val, 0] : Fin 2 → ℕ) a + S1x128.size a ≤ S4x128.size a := by
  intro a
  match a with
  | ⟨0, _⟩ => show b.val + 1 ≤ 4; omega
  | ⟨1, _⟩ => show 0 + 128 ≤ 128; omega

theorem inb_head (h : Fin 4) : ∀ a, (![h.val, 0, 0] : Fin 3 → ℕ) a + S1x1024x128.size a ≤ S4x1024x128.size a := by
  intro a
  match a with
  | ⟨0, _⟩ => show h.val + 1 ≤ 4; omega
  | ⟨1, _⟩ => show 0 + 1024 ≤ 1024; omega
  | ⟨2, _⟩ => show 0 + 128 ≤ 128; omega

/-- The normalised rows, as loaded from the scratch that keeps them. -/
def rowsOf (c : Dev nD) (t : Fin cfg0.N) : Vec Ideal S1024x2048 .bf16 :=
  scM0_0.view.readCov
    [⟨Rect.unit ![0, 0] S1024x2048.size inb_S1024x2048_S1024x2048_0_0,
      k0_pay2
        (View.readAt (Elt Ideal) (ms0_0 t).view
          (Rect.unit ![0, 0] S1024x2048.size inb_S1024x2048_S1024x2048_0_0).toLoadRect ((hs0_0 t).unread (iblk m c 0 t)))
        (View.readAt (Elt Ideal) (ms0_1 t).view
          (Rect.unit ![0, 0] S1x2048.size inb_S1x2048_S1x2048_0_0).toLoadRect ((hs0_1 t).unread (iblk m c 1 t)))⟩]
    (Rect.unit ![0, 0] S1024x2048.size inb_S1024x2048_S1024x2048_0_0).toLoadRect

/-- The weight columns of group `b`. -/
def weightOf (c : Dev nD) (t : Fin cfg0.N) (b : Fin 4) : Vec Ideal S2048x512 .bf16 :=
  View.readAt (Elt Ideal) (ms0_2 t).view (Rect.unit (s := S2048x2048) ![0, b.val * 512] S2048x512.size (inb_weight b)).toLoadRect
    ((hs0_2 t).unread (iblk m c 2 t))

/-- The gains of group `b`. -/
def gainOf (c : Dev nD) (t : Fin cfg0.N) (b : Fin 4) : Vec Ideal S1x128 .f32 :=
  View.readAt (Elt Ideal) (ms0_3 t).view (Rect.unit (s := S4x128) ![b.val, 0] S1x128.size (inb_gain b)).toLoadRect
    ((hs0_3 t).unread (iblk m c 3 t))

theorem rowsOf_apply (c : Dev nD) (t : Fin cfg0.N) (r : Fin 1024) (k : Fin 2048) :
    rowsOf m c t (ix2 r k) = normed (fun j => (iblk m c 0 t : Vec Ideal S1024x2048 .f32) (ix2 r j))
      (fun j => (iblk m c 1 t : Vec Ideal S1x2048 .f32) (ix2 0 j)) k := by
  unfold rowsOf
  rw [View.readCov_unit_zero (S := S1024x2048) _ hz2]
  simp only [View.readAt_eq_ld, (hs0_0 t).read_unread, (hs0_1 t).read_unread, View.ld_unit_zero (S := S1024x2048) hz2,
    View.ld_unit_zero (S := S1x2048) hz2]
  exact normed_apply _ _ r k

theorem weightOf_apply (c : Dev nD) (t : Fin cfg0.N) (b : Fin 4) (k : Fin 2048) (j : Fin 512) :
    weightOf m c t b (ix2 k j)
      = (iblk m c 2 t : Vec Ideal S2048x2048 .bf16) (ix2 k ⟨b.val * 512 + j.val, by omega⟩) := by
  unfold weightOf
  simp only [View.readAt_eq_ld, (hs0_2 t).read_unread]
  exact View.ld_unit_apply_of _ _ _ _ _ _ fun a => match a with
    | ⟨0, _⟩ => (Nat.zero_add _).symm
    | ⟨1, _⟩ => rfl

theorem gainOf_apply (c : Dev nD) (t : Fin cfg0.N) (b : Fin 4) (e : Fin 128) :
    gainOf m c t b (ix2 0 e) = (iblk m c 3 t : Vec Ideal S4x128 .f32) (ix2 b e) := by
  unfold gainOf
  simp only [View.readAt_eq_ld, (hs0_3 t).read_unread]
  exact View.ld_unit_apply_of _ _ _ _ _ _ fun a => match a with
    | ⟨0, _⟩ => rfl
    | ⟨1, _⟩ => (Nat.zero_add _).symm

/-- Head `h` of group `b` in row `r` of the point's rows, from the blocks. -/
def tileHead (c : Dev nD) (t : Fin cfg0.N) (b : Fin 4) (r : Fin 1024) (h : Fin 4) (e : Fin 128) : EReal :=
  head (fun l => ∑ k : Fin 2048,
      normed (fun j => (iblk m c 0 t : Vec Ideal S1024x2048 .f32) (ix2 r j))
        (fun j => (iblk m c 1 t : Vec Ideal S1x2048 .f32) (ix2 0 j)) k
      * (iblk m c 2 t : Vec Ideal S2048x2048 .bf16) (ix2 k ⟨b.val * 512 + (h.val * 128 + l.val), by omega⟩))
    (fun l => (iblk m c 3 t : Vec Ideal S4x128 .f32) (ix2 b l)) e

theorem blockHead_eq (c : Dev nD) (t : Fin cfg0.N) (b : Fin 4) (r : Fin 1024) (h : Fin 4) (e : Fin 128) :
    blockHead (k0_pay3 (rowsOf m c t) (weightOf m c t b)) (gainOf m c t b) r h e = tileHead m c t b r h e := by
  unfold blockHead tileHead
  rw [funext fun l => gainOf_apply m c t b l]
  refine congrArg (fun f => head f _ e) (funext fun l => ?_)
  rw [product_apply]
  exact Finset.sum_congr rfl fun k _ => congrArg₂ (· * ·) (rowsOf_apply m c t r k) (weightOf_apply m c t b k _)

/-- The four stores of a group's heads to the scratch, the last first. -/
abbrev headStores (P : Fin 4 → Vec Ideal S1x1024x128 .f32) : List (View.Piece (Elt Ideal) S4x1024x128 .f32) :=
  List.ofFn fun k : Fin 4 =>
    ⟨Rect.unit (s := S4x1024x128) ![(⟨3 - k.val, by omega⟩ : Fin 4).val, 0, 0] S1x1024x128.size (inb_head _), P ⟨3 - k.val, by omega⟩⟩

/-- The scratch read back after them. -/
theorem read_heads (P : Fin 4 → Vec Ideal S1x1024x128 .f32) (rest : List (View.Piece (Elt Ideal) S4x1024x128 .f32))
    (h : Fin 4) (r : Fin 1024) (e : Fin 128) :
    View.canon (headStores P ++ rest) (ix3 h r e) = P h (ix3 0 r e) := by
  have hh := h.isLt
  refine (View.canon_append_of_pieces (fun y => P ⟨(y 0).val, (y 0).isLt⟩ (ix3 0 ⟨(y 1).val, (y 1).isLt⟩ ⟨(y 2).val, (y 2).isLt⟩))
    rest _ (fun p hp x => ?_) _ ?_).trans rfl
  · obtain ⟨k, rfl⟩ := List.mem_ofFn.mp hp
    have hk := k.isLt
    have e0 : (x 0).val < 1 := (x 0).isLt
    show P ⟨3 - k.val, _⟩ x = P ⟨3 - k.val + 1 * (x 0).val, _⟩ (ix3 0 ⟨0 + 1 * (x 1).val, _⟩ ⟨0 + 1 * (x 2).val, _⟩)
    refine congr (congrArg P (Fin.ext ?_)) (funext fun a => Fin.ext ?_)
    · show 3 - k.val = 3 - k.val + 1 * (x 0).val; omega
    · match a with
      | ⟨0, _⟩ => show (x 0).val = 0; omega
      | ⟨1, _⟩ => show (x 1).val = 0 + 1 * (x 1).val; omega
      | ⟨2, _⟩ => show (x 2).val = 0 + 1 * (x 2).val; omega
  · refine ⟨_, List.mem_ofFn.mpr ⟨⟨3 - h.val, by omega⟩, rfl⟩, (Rect.mem_set_unit (inb := inb_head _)).mpr ?_⟩
    intro a
    match a with
    | ⟨0, _⟩ => show 3 - (3 - h.val) ≤ h.val ∧ h.val < 3 - (3 - h.val) + 1; omega
    | ⟨1, _⟩ => show 0 ≤ r.val ∧ r.val < 0 + 1024; omega
    | ⟨2, _⟩ => show 0 ≤ e.val ∧ e.val < 0 + 128; omega

end Cert.ProjQIdeal.RefValue

end
-- ==== Proof.ProjValue.Tile.lean ====
/-
  The four blocks a grid point of the query projection leaves, at one index. The first group of dilated queries and the
  memory queries leave in row order. The second group leaves as 4 residue classes of 256 rows each, the third as 16 of
  64 rows each: the point stores the heads to a scratch and loads every fourth (every sixteenth) row of it.
-/
module

public import proofs.«01_k».proof.Proof.ProjValue.Loads

@[expose] public section

set_option maxRecDepth 16384

noncomputable section

namespace Cert.ProjQIdeal.RefValue

open Cert.ProjQIdeal Cert.ProjQIdeal.Gen Cert.ProjQIdeal.Value Idealize.ShloMosaic Idealize.ShloMosaic.TcCoe
  Idealize.SL.Sem

variable (m : (ℓ : Loc nD τ sig) → Buf (Elt Ideal) ℓ)

/-- The first group of dilated queries. -/
theorem first_out (c : Dev nD) (t : Fin cfg0.N) (r : Fin 1024) (h : Fin 4) (e : Fin 128) :
    (outsAt0 m c t).1 (ix3 0 r ⟨h.val * 128 + e.val, by omega⟩) = tileHead m c t 0 r h e := by
  have hv : (outsAt0 m c t).1 = k0_pay8 (F := Ideal) (k0_pay7 (k0_pay3 (rowsOf m c t) (weightOf m c t 0))
      (k0_pay4 (gainOf m c t 0)) (k0_pay5 (rowsOf m c t) (weightOf m c t 0) (gainOf m c t 0)) k0_pay6) := by
    unfold outsAt0
    dsimp only
    unfold out0_A_4
    rw [View.read_writes_eq_canon]
    · unfold kernelRun0_A
      dsimp only
      sl_unfold_words
      rw [View.canon_unit_zero (S := S1x1024x512) hz3]
      rfl
    · intro y; apply cover0_A_4
  rw [hv, first_block]
  exact blockHead_eq m c t 0 r h e

/-- The memory queries. -/
theorem memory_out (c : Dev nD) (t : Fin cfg0.N) (r : Fin 1024) (h : Fin 4) (e : Fin 128) :
    (outsAt0 m c t).2.2.2 (ix3 0 r ⟨h.val * 128 + e.val, by omega⟩) = tileHead m c t 3 r h e := by
  have hv : (outsAt0 m c t).2.2.2 = k0_pay1 (F := Ideal) (k0_pay126 (k0_pay123 (rowsOf m c t) (weightOf m c t 3))
      (k0_pay124 (gainOf m c t 3)) (k0_pay125 (rowsOf m c t) (weightOf m c t 3) (gainOf m c t 3))) := by
    unfold outsAt0
    dsimp only
    unfold out0_A_7
    rw [View.read_writes_eq_canon]
    · unfold kernelRun0_A
      dsimp only
      sl_unfold_words
      rw [View.canon_unit_zero (S := S1x1024x512) hz3]
      rfl
    · intro y; apply cover0_A_7
  rw [hv, memory_block]
  exact blockHead_eq m c t 3 r h e

/-- The heads of the second group, as stored to the scratch. -/
def secondHeads (c : Dev nD) (t : Fin cfg0.N) : Fin 4 → Vec Ideal S1x1024x128 .f32 :=
  let x := rowsOf m c t
  let w := weightOf m c t 1
  let g := gainOf m c t 1
  ![k0_pay16 (k0_pay9 x w) (k0_pay10 g) (k0_pay11 x w g) (k0_pay12 x w g) (k0_pay13 x w) (k0_pay14 x w),
    k0_pay17 (k0_pay9 x w) (k0_pay10 g) (k0_pay11 x w g) (k0_pay12 x w g) (k0_pay13 x w) (k0_pay14 x w),
    k0_pay18 (k0_pay9 x w) (k0_pay10 g) (k0_pay11 x w g) (k0_pay12 x w g) (k0_pay13 x w) (k0_pay14 x w),
    k0_pay19 (k0_pay15 (k0_pay9 x w) (k0_pay10 g) (k0_pay11 x w g) (k0_pay12 x w g) (k0_pay13 x w) (k0_pay14 x w))]

theorem secondHeads_apply (c : Dev nD) (t : Fin cfg0.N) (h : Fin 4) (r : Fin 1024) (e : Fin 128) :
    secondHeads m c t h (ix3 0 r e) = tileHead m c t 1 r h e := by
  rw [← blockHead_eq]
  match h with
  | 0 => exact second0 _ _ _ r e
  | 1 => exact second1 _ _ _ r e
  | 2 => exact second2 _ _ _ r e
  | 3 => exact second3 _ _ _ r e

/-- The heads of the third group. -/
def thirdHeads (c : Dev nD) (t : Fin cfg0.N) : Fin 4 → Vec Ideal S1x1024x128 .f32 :=
  let x := rowsOf m c t
  let w := weightOf m c t 2
  let g := gainOf m c t 2
  let a := k0_pay41 (F := Ideal) (k0_pay38 g) (k0_pay39 x w) (k0_pay40 x w)
  let b := k0_pay42 (F := Ideal) (k0_pay37 x w) (k0_pay38 g)
  let d := k0_pay43 (F := Ideal) (k0_pay37 x w) (k0_pay38 g)
  ![k0_pay47 a b d (k0_pay44 (k0_pay37 x w)) (k0_pay45 (k0_pay38 g)),
    k0_pay48 a b d (k0_pay44 (k0_pay37 x w)) (k0_pay45 (k0_pay38 g)),
    k0_pay49 a b d (k0_pay44 (k0_pay37 x w)) (k0_pay45 (k0_pay38 g)),
    k0_pay50 a b d (k0_pay44 (k0_pay37 x w)) (k0_pay45 (k0_pay38 g))]

theorem thirdHeads_apply (c : Dev nD) (t : Fin cfg0.N) (h : Fin 4) (r : Fin 1024) (e : Fin 128) :
    thirdHeads m c t h (ix3 0 r e) = tileHead m c t 2 r h e := by
  rw [← blockHead_eq]
  match h with
  | 0 => exact third0 _ _ _ r e
  | 1 => exact third1 _ _ _ r e
  | 2 => exact third2 _ _ _ r e
  | 3 => exact third3 _ _ _ r e

theorem inb_fourth (q h : Fin 4) : ∀ a, S1x256x128.size a = 0 ∨
    (![h.val, q.val, 0] : Fin 3 → ℕ) a + (![1, 4, 1] : Fin 3 → ℕ) a * (S1x256x128.size a - 1) < S4x1024x128.size a := by
  intro a
  right
  match a with
  | ⟨0, _⟩ => show h.val + 1 * (1 - 1) < 4; omega
  | ⟨1, _⟩ => show q.val + 4 * (256 - 1) < 1024; omega
  | ⟨2, _⟩ => show 0 + 1 * (128 - 1) < 128; omega

theorem inb_class4 (q h : Fin 4) :
    ∀ a, (![q.val, 0, h.val * 128] : Fin 3 → ℕ) a + S1x256x128.size a ≤ S4x256x512.size a := by
  intro a
  match a with
  | ⟨0, _⟩ => show q.val + 1 ≤ 4; omega
  | ⟨1, _⟩ => show 0 + 256 ≤ 256; omega
  | ⟨2, _⟩ => show h.val * 128 + 128 ≤ 512; omega

/-- Every fourth row of head `h` from row `q`. -/
def everyFourth (L : List (View.Piece (Elt Ideal) S4x1024x128 .f32)) (q h : Fin 4) : Vec Ideal S1x256x128 .f32 :=
  scM0_1.view.readCov L ⟨![h.val, q.val, 0], S1x256x128.size, ![1, 4, 1], inb_fourth q h⟩

/-- The stores of the second group. -/
theorem second_pieces (c : Dev nD) (t : Fin cfg0.N) : (outsAt0 m c t).2.1
    = View.canon (List.ofFn fun k : Fin 16 =>
        (⟨Rect.unit (s := S4x256x512) ![(⟨3 - k.val / 4, by omega⟩ : Fin 4).val, 0, (⟨3 - k.val % 4, by omega⟩ : Fin 4).val * 128]
            S1x256x128.size (inb_class4 _ _),
          k0_pay20 (everyFourth (headStores (secondHeads m c t)) ⟨3 - k.val / 4, by omega⟩ ⟨3 - k.val % 4, by omega⟩)⟩ :
          View.Piece (Elt Ideal) S4x256x512 .bf16)) := by
  unfold outsAt0
  dsimp only
  unfold out0_A_5
  rw [View.read_writes_eq_canon]
  · unfold kernelRun0_A
    dsimp only
    sl_unfold_words
    rfl
  · intro y; apply cover0_A_5

/-- Every fourth row of the scratch, of what was stored there last. -/
theorem everyFourth_apply (P : Fin 4 → Vec Ideal S1x1024x128 .f32) (rest : List (View.Piece (Elt Ideal) S4x1024x128 .f32))
    (q h : Fin 4) (i : Fin 256) (e : Fin 128) :
    k0_pay20 (F := Ideal) (everyFourth (headStores P ++ rest) q h) (ix3 0 i e)
      = P h (ix3 0 ⟨i.val * 4 + q.val, by omega⟩ e) := by
  have hc : k0_pay20 (F := Ideal) (everyFourth (headStores P ++ rest) q h) (ix3 0 i e)
      = everyFourth (headStores P ++ rest) q h (ix3 0 i e) := by
    generalize everyFourth (headStores P ++ rest) q h = v
    pointwise [k0_pay20]
  rw [hc]
  unfold everyFourth
  rw [View.readCov_eq_canon']
  refine (congrArg (View.canon (headStores P ++ rest)) (funext fun a => Fin.ext ?_)).trans
    (read_heads P rest h ⟨i.val * 4 + q.val, by omega⟩ e)
  match a with
  | ⟨0, _⟩ => show h.val + 1 * 0 = h.val; omega
  | ⟨1, _⟩ => show q.val + 4 * i.val = i.val * 4 + q.val; omega
  | ⟨2, _⟩ => show 0 + 1 * e.val = e.val; omega

/-- Stores of this layout, read at row `i` of class `q` and lane `e` of head `h`. -/
theorem read_class4 (f : Fin 4 → Fin 4 → Vec Ideal S1x256x128 .bf16) (q : Fin 4) (i : Fin 256) (h : Fin 4) (e : Fin 128) :
    View.canon (List.ofFn fun k : Fin 16 =>
        (⟨Rect.unit (s := S4x256x512) ![(⟨3 - k.val / 4, by omega⟩ : Fin 4).val, 0, (⟨3 - k.val % 4, by omega⟩ : Fin 4).val * 128]
            S1x256x128.size (inb_class4 _ _),
          f ⟨3 - k.val / 4, by omega⟩ ⟨3 - k.val % 4, by omega⟩⟩ : View.Piece (Elt Ideal) S4x256x512 .bf16))
      (ix3 q i ⟨h.val * 128 + e.val, by omega⟩) = f q h (ix3 0 i e) := by
  have hq := q.isLt
  have hh := h.isLt
  have hi := i.isLt
  have he := e.isLt
  refine View.canon_eq_of_allAt _ _ _ ?_ ?_
  · refine ⟨_, List.mem_ofFn.mpr ⟨⟨(3 - q.val) * 4 + (3 - h.val), by omega⟩, rfl⟩,
      (Rect.mem_set_unit (inb := inb_class4 _ _)).mpr ?_⟩
    intro a
    match a with
    | ⟨0, _⟩ =>
      show 3 - ((3 - q.val) * 4 + (3 - h.val)) / 4 ≤ q.val ∧ q.val < 3 - ((3 - q.val) * 4 + (3 - h.val)) / 4 + 1
      omega
    | ⟨1, _⟩ => show 0 ≤ i.val ∧ i.val < 0 + 256; omega
    | ⟨2, _⟩ =>
      show (3 - ((3 - q.val) * 4 + (3 - h.val)) % 4) * 128 ≤ h.val * 128 + e.val
        ∧ h.val * 128 + e.val < (3 - ((3 - q.val) * 4 + (3 - h.val)) % 4) * 128 + 128
      omega
  · intro p hp x hx
    obtain ⟨k, rfl⟩ := List.mem_ofFn.mp hp
    have hk := k.isLt
    have e0 : (x 0).val < 1 := (x 0).isLt
    have e2 : (x 2).val < 128 := (x 2).isLt
    have h0 : 3 - k.val / 4 + 1 * (x 0).val = q.val := congrArg (fun i => (i 0).val) hx
    have h1 : 0 + 1 * (x 1).val = i.val := congrArg (fun i => (i 1).val) hx
    have h2 : (3 - k.val % 4) * 128 + 1 * (x 2).val = h.val * 128 + e.val := congrArg (fun i => (i 2).val) hx
    have hqk : (⟨3 - k.val / 4, by omega⟩ : Fin 4) = q := Fin.ext (by show 3 - k.val / 4 = q.val; omega)
    have hhk : (⟨3 - k.val % 4, by omega⟩ : Fin 4) = h := Fin.ext (by show 3 - k.val % 4 = h.val; omega)
    have hxx : x = ix3 0 i e := funext fun a => Fin.ext (by
      match a with
      | ⟨0, _⟩ => show (x 0).val = 0; omega
      | ⟨1, _⟩ => show (x 1).val = i.val; omega
      | ⟨2, _⟩ => show (x 2).val = e.val; omega)
    exact congr (congrArg₂ f hqk hhk) hxx

/-- The second group of dilated queries. -/
theorem second_out (c : Dev nD) (t : Fin cfg0.N) (q : Fin 4) (i : Fin 256) (h : Fin 4) (e : Fin 128) :
    (outsAt0 m c t).2.1 (ix3 q i ⟨h.val * 128 + e.val, by omega⟩)
      = tileHead m c t 1 ⟨i.val * 4 + q.val, by omega⟩ h e := by
  rw [second_pieces]
  refine (read_class4 (fun a b => k0_pay20 (F := Ideal) (everyFourth (headStores (secondHeads m c t)) a b)) q i h e).trans ?_
  have hr := everyFourth_apply (secondHeads m c t) [] q h i e
  rw [List.append_nil] at hr
  exact hr.trans (secondHeads_apply m c t h _ e)

theorem inb_sixteenth (q : Fin 16) (h : Fin 4) : ∀ a, S1x64x128.size a = 0 ∨
    (![h.val, q.val, 0] : Fin 3 → ℕ) a + (![1, 16, 1] : Fin 3 → ℕ) a * (S1x64x128.size a - 1) < S4x1024x128.size a := by
  intro a
  right
  match a with
  | ⟨0, _⟩ => show h.val + 1 * (1 - 1) < 4; omega
  | ⟨1, _⟩ => show q.val + 16 * (64 - 1) < 1024; omega
  | ⟨2, _⟩ => show 0 + 1 * (128 - 1) < 128; omega

theorem inb_class16 (q : Fin 16) (h : Fin 4) :
    ∀ a, (![q.val, 0, h.val * 128] : Fin 3 → ℕ) a + S1x64x128.size a ≤ S16x64x512.size a := by
  intro a
  match a with
  | ⟨0, _⟩ => show q.val + 1 ≤ 16; omega
  | ⟨1, _⟩ => show 0 + 64 ≤ 64; omega
  | ⟨2, _⟩ => show h.val * 128 + 128 ≤ 512; omega

/-- Every sixteenth row of head `h` from row `q`. -/
def everySixteenth (L : List (View.Piece (Elt Ideal) S4x1024x128 .f32)) (q : Fin 16) (h : Fin 4) :
    Vec Ideal S1x64x128 .f32 :=
  scM0_1.view.readCov L ⟨![h.val, q.val, 0], S1x64x128.size, ![1, 16, 1], inb_sixteenth q h⟩

/-- The stores of the third group: the scratch still holds the second group's stores, under the third's. -/
theorem third_pieces (c : Dev nD) (t : Fin cfg0.N) : (outsAt0 m c t).2.2.1
    = View.canon (List.ofFn fun k : Fin 64 =>
        (⟨Rect.unit (s := S16x64x512) ![(⟨15 - k.val / 4, by omega⟩ : Fin 16).val, 0, (⟨3 - k.val % 4, by omega⟩ : Fin 4).val * 128]
            S1x64x128.size (inb_class16 _ _),
          k0_pay51 (everySixteenth (headStores (thirdHeads m c t) ++ headStores (secondHeads m c t))
            ⟨15 - k.val / 4, by omega⟩ ⟨3 - k.val % 4, by omega⟩)⟩ :
          View.Piece (Elt Ideal) S16x64x512 .bf16)) := by
  unfold outsAt0
  dsimp only
  unfold out0_A_6
  rw [View.read_writes_eq_canon]
  · unfold kernelRun0_A
    dsimp only
    sl_unfold_words
    rfl
  · intro y; apply cover0_A_6

/-- Every sixteenth row of the scratch, of what was stored there last. -/
theorem everySixteenth_apply (P : Fin 4 → Vec Ideal S1x1024x128 .f32)
    (rest : List (View.Piece (Elt Ideal) S4x1024x128 .f32)) (q : Fin 16) (h : Fin 4) (i : Fin 64) (e : Fin 128) :
    k0_pay51 (F := Ideal) (everySixteenth (headStores P ++ rest) q h) (ix3 0 i e)
      = P h (ix3 0 ⟨i.val * 16 + q.val, by omega⟩ e) := by
  have hc : k0_pay51 (F := Ideal) (everySixteenth (headStores P ++ rest) q h) (ix3 0 i e)
      = everySixteenth (headStores P ++ rest) q h (ix3 0 i e) := by
    generalize everySixteenth (headStores P ++ rest) q h = v
    pointwise [k0_pay51]
  rw [hc]
  unfold everySixteenth
  rw [View.readCov_eq_canon']
  refine (congrArg (View.canon (headStores P ++ rest)) (funext fun a => Fin.ext ?_)).trans
    (read_heads P rest h ⟨i.val * 16 + q.val, by omega⟩ e)
  match a with
  | ⟨0, _⟩ => show h.val + 1 * 0 = h.val; omega
  | ⟨1, _⟩ => show q.val + 16 * i.val = i.val * 16 + q.val; omega
  | ⟨2, _⟩ => show 0 + 1 * e.val = e.val; omega

/-- Stores of this layout, read at row `i` of class `q` and lane `e` of head `h`. -/
theorem read_class16 (f : Fin 16 → Fin 4 → Vec Ideal S1x64x128 .bf16) (q : Fin 16) (i : Fin 64) (h : Fin 4) (e : Fin 128) :
    View.canon (List.ofFn fun k : Fin 64 =>
        (⟨Rect.unit (s := S16x64x512) ![(⟨15 - k.val / 4, by omega⟩ : Fin 16).val, 0, (⟨3 - k.val % 4, by omega⟩ : Fin 4).val * 128]
            S1x64x128.size (inb_class16 _ _),
          f ⟨15 - k.val / 4, by omega⟩ ⟨3 - k.val % 4, by omega⟩⟩ : View.Piece (Elt Ideal) S16x64x512 .bf16))
      (ix3 q i ⟨h.val * 128 + e.val, by omega⟩) = f q h (ix3 0 i e) := by
  have hq := q.isLt
  have hh := h.isLt
  have hi := i.isLt
  have he := e.isLt
  refine View.canon_eq_of_allAt _ _ _ ?_ ?_
  · refine ⟨_, List.mem_ofFn.mpr ⟨⟨(15 - q.val) * 4 + (3 - h.val), by omega⟩, rfl⟩,
      (Rect.mem_set_unit (inb := inb_class16 _ _)).mpr ?_⟩
    intro a
    match a with
    | ⟨0, _⟩ =>
      show 15 - ((15 - q.val) * 4 + (3 - h.val)) / 4 ≤ q.val ∧ q.val < 15 - ((15 - q.val) * 4 + (3 - h.val)) / 4 + 1
      omega
    | ⟨1, _⟩ => show 0 ≤ i.val ∧ i.val < 0 + 64; omega
    | ⟨2, _⟩ =>
      show (3 - ((15 - q.val) * 4 + (3 - h.val)) % 4) * 128 ≤ h.val * 128 + e.val
        ∧ h.val * 128 + e.val < (3 - ((15 - q.val) * 4 + (3 - h.val)) % 4) * 128 + 128
      omega
  · intro p hp x hx
    obtain ⟨k, rfl⟩ := List.mem_ofFn.mp hp
    have hk := k.isLt
    have e0 : (x 0).val < 1 := (x 0).isLt
    have e2 : (x 2).val < 128 := (x 2).isLt
    have h0 : 15 - k.val / 4 + 1 * (x 0).val = q.val := congrArg (fun i => (i 0).val) hx
    have h1 : 0 + 1 * (x 1).val = i.val := congrArg (fun i => (i 1).val) hx
    have h2 : (3 - k.val % 4) * 128 + 1 * (x 2).val = h.val * 128 + e.val := congrArg (fun i => (i 2).val) hx
    have hqk : (⟨15 - k.val / 4, by omega⟩ : Fin 16) = q := Fin.ext (by show 15 - k.val / 4 = q.val; omega)
    have hhk : (⟨3 - k.val % 4, by omega⟩ : Fin 4) = h := Fin.ext (by show 3 - k.val % 4 = h.val; omega)
    have hxx : x = ix3 0 i e := funext fun a => Fin.ext (by
      match a with
      | ⟨0, _⟩ => show (x 0).val = 0; omega
      | ⟨1, _⟩ => show (x 1).val = i.val; omega
      | ⟨2, _⟩ => show (x 2).val = e.val; omega)
    exact congr (congrArg₂ f hqk hhk) hxx

/-- The third group of dilated queries. -/
theorem third_out (c : Dev nD) (t : Fin cfg0.N) (q : Fin 16) (i : Fin 64) (h : Fin 4) (e : Fin 128) :
    (outsAt0 m c t).2.2.1 (ix3 q i ⟨h.val * 128 + e.val, by omega⟩)
      = tileHead m c t 2 ⟨i.val * 16 + q.val, by omega⟩ h e := by
  rw [third_pieces]
  refine (read_class16 (fun a b => k0_pay51 (F := Ideal)
    (everySixteenth (headStores (thirdHeads m c t) ++ headStores (secondHeads m c t)) a b)) q i h e).trans ?_
  exact (everySixteenth_apply (thirdHeads m c t) _ q h i e).trans (thirdHeads_apply m c t h _ e)

end Cert.ProjQIdeal.RefValue

end
-- ==== Proof.ProjValue.Final.lean ====
/-
  The four arrays the query projection leaves are the four values of its reference.
-/
module

public import proofs.«01_k».proof.Defs
public import proofs.«01_k».proof.Proof.ProjValue.Ref
public import proofs.«01_k».proof.Proof.ProjValue.Tile
public import proofs.«01_k».proof.Proof.Gen.ProjQReferenceIdeal.Run
public import Idealize.ShloMosaic.Lib.Claim
public import Idealize.ShloMosaic.Lib.Pipeline.ValueKit.Geometry

@[expose] public section

set_option maxRecDepth 16384

noncomputable section

namespace Cert.ProjQIdeal.RefValue

open Cert.ProjQIdeal Cert.ProjQIdeal.Gen Cert.ProjQIdeal.Value Idealize.ShloMosaic Idealize.ShloMosaic.TcCoe
  Idealize.SL.Sem
open Cert.ProjQReferenceIdeal.Read

variable (m : (ℓ : Loc nD τ sig) → Buf (Elt Ideal) ℓ)

/-- Where each window stands at point `t`. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = 0 ∧ win0_4.index t (1 : Fin 3) = t.val ∧ win0_4.index t (2 : Fin 3) = 0)
    ∧ (win0_5.index t (0 : Fin 3) = 0 ∧ win0_5.index t (1 : Fin 3) = t.val ∧ win0_5.index t (2 : Fin 3) = 0)
    ∧ (win0_6.index t (0 : Fin 3) = 0 ∧ win0_6.index t (1 : Fin 3) = t.val ∧ win0_6.index t (2 : Fin 3) = 0)
    ∧ (win0_7.index t (0 : Fin 3) = 0 ∧ win0_7.index t (1 : Fin 3) = t.val ∧ win0_7.index t (2 : Fin 3) = 0) :=
  (by decide +kernel : ∀ t : Fin grid0.N, _)

theorem point_lt (t : Fin cfg0.N) : t.val < 8 := lt_of_lt_of_eq t.isLt N_0

/-- The array row of row `r` of block `t`. -/
def row (t : Fin cfg0.N) (r : Fin 1024) : Fin 8192 := ⟨t.val * 1024 + r.val, by have := point_lt t; omega⟩

theorem block_x (c : Dev nD) (t : Fin cfg0.N) (r : Fin 1024) (k : Fin 2048) :
    (iblk m c 0 t : Vec Ideal S1024x2048 .f32) (ix2 r k) = m ((c : Thread nD τ).loc main_arg0) (ix2 (row t r) k) := by
  obtain ⟨⟨e0, e1⟩, _⟩ := places t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 1024 + 1 * r.val = t.val * 1024 + r.val; omega
  | ⟨1, _⟩ => show win0_0.index t (1 : Fin 2) * 2048 + 1 * k.val = k.val; omega

/-- The norm's gains: one row, the same at every point. -/
theorem block_n (c : Dev nD) (t : Fin cfg0.N) (k : Fin 2048) :
    (iblk m c 1 t : Vec Ideal S1x2048 .f32) (ix2 0 k) = m ((c : Thread nD τ).loc main_arg1) (ix1 k) := by
  obtain ⟨_, ⟨e0, e1⟩, _⟩ := places t
  unfold iblk
  rw [View.read_apply]
  show V m c main_v2 _ = _
  entry_read
  have e : (((cfg0.win 1).blk t).view.emb (ix2 0 k) : S1x2048.Idx) = ix2 0 k := by
    funext a; apply Fin.ext
    match a with
    | ⟨0, _⟩ => show win0_1.index t (0 : Fin 2) * 1 + 1 * 0 = 0; omega
    | ⟨1, _⟩ => show win0_1.index t (1 : Fin 2) * 2048 + 1 * k.val = k.val; omega
  rw [e]
  pointwise

theorem block_w (c : Dev nD) (t : Fin cfg0.N) (k j : Fin 2048) :
    (iblk m c 2 t : Vec Ideal S2048x2048 .bf16) (ix2 k j) = m ((c : Thread nD τ).loc main_arg2) (ix2 k j) := by
  obtain ⟨_, _, ⟨e0, e1⟩, _⟩ := places t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 2048 + 1 * k.val = k.val; omega
  | ⟨1, _⟩ => show win0_2.index t (1 : Fin 2) * 2048 + 1 * j.val = j.val; omega

/-- The heads' gains: those of the three dilated groups, then those of the memory queries. -/
theorem block_g (c : Dev nD) (t : Fin cfg0.N) (b : Fin 4) (l : Fin 128) :
    (iblk m c 3 t : Vec Ideal S4x128 .f32) (ix2 b l)
      = if h : b.val < 3 then m ((c : Thread nD τ).loc main_arg3) (ix2 (⟨b.val, h⟩ : Fin 3) l)
        else m ((c : Thread nD τ).loc main_arg4) (ix1 l) := by
  obtain ⟨_, _, _, ⟨e0, e1⟩, _⟩ := places t
  unfold iblk
  rw [View.read_apply]
  show V m c main_v1 _ = _
  entry_read
  have e : (((cfg0.win 3).blk t).view.emb (ix2 b l) : S4x128.Idx) = ix2 b l := by
    funext a; apply Fin.ext
    match a with
    | ⟨0, _⟩ => show win0_3.index t (0 : Fin 2) * 4 + 1 * b.val = b.val; omega
    | ⟨1, _⟩ => show win0_3.index t (1 : Fin 2) * 128 + 1 * l.val = l.val; omega
  rw [e]
  pointwise

/-- A head of the point's rows is the array's. -/
theorem tileHead_eq (c : Dev nD) (t : Fin cfg0.N) (b : Fin 4) (r : Fin 1024) (h : Fin 4) (e : Fin 128)
    (g : Fin 128 → EReal) (hg : ∀ l, (iblk m c 3 t : Vec Ideal S4x128 .f32) (ix2 b l) = g l) :
    tileHead m c t b r h e
      = head (fun l => column (m ((c : Thread nD τ).loc main_arg0)) (m ((c : Thread nD τ).loc main_arg1))
          (m ((c : Thread nD τ).loc main_arg2)) (row t r) ⟨b.val * 512 + (h.val * 128 + l.val), by omega⟩) g e := by
  unfold tileHead column
  rw [funext hg, funext fun j => block_x m c t r j, funext fun j => block_n m c t j]
  refine congrArg (fun f => head f g e) (funext fun l => Finset.sum_congr rfl fun k _ => ?_)
  exact congrArg (_ * ·) (block_w m c t k _)

/-- A dilated head of the point's rows is the reference's. -/
theorem dilated_eq (c : Dev nD) (t : Fin cfg0.N) (b : Fin 3) (r : Fin 1024) (h : Fin 4) (e : Fin 128) :
    tileHead m c t ⟨b.val, by omega⟩ r h e
      = val_main_v49 (F := Ideal) (m ((c : Thread nD τ).loc main_arg0)) (m ((c : Thread nD τ).loc main_arg1))
          (m ((c : Thread nD τ).loc main_arg2)) (m ((c : Thread nD τ).loc main_arg3)) (ix4 (row t r) b h e) := by
  rw [ref_dilated_head]
  exact tileHead_eq m c t ⟨b.val, by omega⟩ r h e _ fun l => (block_g m c t _ l).trans (dif_pos b.isLt)

/-- A memory head of the point's rows is the reference's. -/
theorem memory_eq (c : Dev nD) (t : Fin cfg0.N) (r : Fin 1024) (h : Fin 4) (e : Fin 128) :
    tileHead m c t 3 r h e
      = val_main_v31 (F := Ideal) (m ((c : Thread nD τ).loc main_arg0)) (m ((c : Thread nD τ).loc main_arg1))
          (m ((c : Thread nD τ).loc main_arg2)) (m ((c : Thread nD τ).loc main_arg4)) (ix3 (row t r) h e) := by
  rw [ref_memory_head]
  exact tileHead_eq m c t 3 r h e _ fun l => (block_g m c t _ l).trans (dif_neg (by decide))

/-- A lane of a row: the head and the lane within it. -/
theorem split_lane (j : Fin 512) : ∃ (h : Fin 4) (e : Fin 128), j = ⟨h.val * 128 + e.val, by omega⟩ :=
  ⟨⟨j.val / 128, by omega⟩, ⟨j.val % 128, by omega⟩, Fin.ext (by show j.val = j.val / 128 * 128 + j.val % 128; omega)⟩

theorem split_rows (y : S1x1024x512.Idx) : ∃ (r : Fin 1024) (h : Fin 4) (e : Fin 128),
    y = ix3 0 r ⟨h.val * 128 + e.val, by omega⟩ := by
  obtain ⟨h, e, hj⟩ := split_lane ⟨(y 2).val, (y 2).isLt⟩
  refine ⟨⟨(y 1).val, (y 1).isLt⟩, h, e, funext fun a => Fin.ext ?_⟩
  match a with
  | ⟨0, _⟩ => have : (y 0).val < 1 := (y 0).isLt; show (y 0).val = 0; omega
  | ⟨1, _⟩ => rfl
  | ⟨2, _⟩ => exact congrArg Fin.val hj

theorem split_class4 (y : S4x256x512.Idx) : ∃ (q : Fin 4) (i : Fin 256) (h : Fin 4) (e : Fin 128),
    y = ix3 q i ⟨h.val * 128 + e.val, by omega⟩ := by
  obtain ⟨h, e, hj⟩ := split_lane ⟨(y 2).val, (y 2).isLt⟩
  refine ⟨⟨(y 0).val, (y 0).isLt⟩, ⟨(y 1).val, (y 1).isLt⟩, h, e, funext fun a => Fin.ext ?_⟩
  match a with
  | ⟨0, _⟩ => rfl
  | ⟨1, _⟩ => rfl
  | ⟨2, _⟩ => exact congrArg Fin.val hj

theorem split_class16 (y : S16x64x512.Idx) : ∃ (q : Fin 16) (i : Fin 64) (h : Fin 4) (e : Fin 128),
    y = ix3 q i ⟨h.val * 128 + e.val, by omega⟩ := by
  obtain ⟨h, e, hj⟩ := split_lane ⟨(y 2).val, (y 2).isLt⟩
  refine ⟨⟨(y 0).val, (y 0).isLt⟩, ⟨(y 1).val, (y 1).isLt⟩, h, e, funext fun a => Fin.ext ?_⟩
  match a with
  | ⟨0, _⟩ => rfl
  | ⟨1, _⟩ => rfl
  | ⟨2, _⟩ => exact congrArg Fin.val hj

/-! Where the blocks of point `t` lie in the four arrays. -/

theorem place_first (t : Fin cfg0.N) (r : Fin 1024) (j : Fin 512) :
    (((cfg0.win 4).blk t).view.emb (ix3 0 r j : S1x1024x512.Idx) : S1x8192x512.Idx) = ix3 0 (row t r) j := by
  obtain ⟨_, _, _, _, ⟨e0, e1, e2⟩, _⟩ := places t
  funext a; apply Fin.ext
  match a with
  | ⟨0, _⟩ => show win0_4.index t (0 : Fin 3) * 1 + 1 * 0 = 0; omega
  | ⟨1, _⟩ => show win0_4.index t (1 : Fin 3) * 1024 + 1 * r.val = t.val * 1024 + r.val; omega
  | ⟨2, _⟩ => show win0_4.index t (2 : Fin 3) * 512 + 1 * j.val = j.val; omega

theorem place_second (t : Fin cfg0.N) (q : Fin 4) (i : Fin 256) (j : Fin 512) (I : Fin 2048)
    (hI : I.val = t.val * 256 + i.val) :
    (((cfg0.win 5).blk t).view.emb (ix3 q i j : S4x256x512.Idx) : S4x2048x512.Idx) = ix3 q I j := by
  obtain ⟨_, _, _, _, _, ⟨e0, e1, e2⟩, _⟩ := places t
  funext a; apply Fin.ext
  match a with
  | ⟨0, _⟩ => show win0_5.index t (0 : Fin 3) * 4 + 1 * q.val = q.val; omega
  | ⟨1, _⟩ => show win0_5.index t (1 : Fin 3) * 256 + 1 * i.val = I.val; omega
  | ⟨2, _⟩ => show win0_5.index t (2 : Fin 3) * 512 + 1 * j.val = j.val; omega

theorem place_third (t : Fin cfg0.N) (q : Fin 16) (i : Fin 64) (j : Fin 512) (I : Fin 512)
    (hI : I.val = t.val * 64 + i.val) :
    (((cfg0.win 6).blk t).view.emb (ix3 q i j : S16x64x512.Idx) : S16x512x512.Idx) = ix3 q I j := by
  obtain ⟨_, _, _, _, _, _, ⟨e0, e1, e2⟩, _⟩ := places t
  funext a; apply Fin.ext
  match a with
  | ⟨0, _⟩ => show win0_6.index t (0 : Fin 3) * 16 + 1 * q.val = q.val; omega
  | ⟨1, _⟩ => show win0_6.index t (1 : Fin 3) * 64 + 1 * i.val = I.val; omega
  | ⟨2, _⟩ => show win0_6.index t (2 : Fin 3) * 512 + 1 * j.val = j.val; omega

theorem place_memory (t : Fin cfg0.N) (r : Fin 1024) (j : Fin 512) :
    (((cfg0.win 7).blk t).view.emb (ix3 0 r j : S1x1024x512.Idx) : S1x8192x512.Idx) = ix3 0 (row t r) j := by
  obtain ⟨_, _, _, _, _, _, _, ⟨e0, e1, e2⟩⟩ := places t
  funext a; apply Fin.ext
  match a with
  | ⟨0, _⟩ => show win0_7.index t (0 : Fin 3) * 1 + 1 * 0 = 0; omega
  | ⟨1, _⟩ => show win0_7.index t (1 : Fin 3) * 1024 + 1 * r.val = t.val * 1024 + r.val; omega
  | ⟨2, _⟩ => show win0_7.index t (2 : Fin 3) * 512 + 1 * j.val = j.val; omega

theorem covers_first : (cfg0.win 4).Covers := by decide +kernel

theorem covers_second : (cfg0.win 5).Covers := by decide +kernel

theorem covers_third : (cfg0.win 6).Covers := by decide +kernel

theorem covers_memory : (cfg0.win 7).Covers := by decide +kernel

/-- The array of the first dilated group. -/
theorem first_eq (c : Dev nD) : (dats m 0 c).arrAt 4 cfg0.N
    = val_main_v54 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ covers_first fun t _ y => ?_
  obtain ⟨r, h, e, hy⟩ := split_rows y
  subst hy
  have hp := (first_out m c t r h e).trans (dilated_eq m c t 0 r h e)
  rw [place_first, ref_first, after0_4]
  generalize outsAt0 m c t = X at hp ⊢
  rw [← hp]
  rfl

/-- The array of the second dilated group. -/
theorem second_eq (c : Dev nD) : (dats m 0 c).arrAt 5 cfg0.N
    = val_main_v59 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ covers_second fun t _ y => ?_
  obtain ⟨q, i, h, e, hy⟩ := split_class4 y
  subst hy
  have ht := point_lt t
  have hp := (second_out m c t q i h e).trans (dilated_eq m c t 1 _ h e)
  have hr : row t ⟨i.val * 4 + q.val, by omega⟩ = ⟨(t.val * 256 + i.val) * 4 + q.val, by omega⟩ :=
    Fin.ext (by show t.val * 1024 + (i.val * 4 + q.val) = (t.val * 256 + i.val) * 4 + q.val; omega)
  rw [hr] at hp
  rw [place_second t q i _ ⟨t.val * 256 + i.val, by omega⟩ rfl, ref_second, after0_5]
  generalize outsAt0 m c t = X at hp ⊢
  rw [← hp]
  rfl

/-- The array of the third dilated group. -/
theorem third_eq (c : Dev nD) : (dats m 0 c).arrAt 6 cfg0.N
    = val_main_v64 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ covers_third fun t _ y => ?_
  obtain ⟨q, i, h, e, hy⟩ := split_class16 y
  subst hy
  have ht := point_lt t
  have hp := (third_out m c t q i h e).trans (dilated_eq m c t 2 _ h e)
  have hr : row t ⟨i.val * 16 + q.val, by omega⟩ = ⟨(t.val * 64 + i.val) * 16 + q.val, by omega⟩ :=
    Fin.ext (by show t.val * 1024 + (i.val * 16 + q.val) = (t.val * 64 + i.val) * 16 + q.val; omega)
  rw [hr] at hp
  rw [place_third t q i _ ⟨t.val * 64 + i.val, by omega⟩ rfl, ref_third, after0_6]
  generalize outsAt0 m c t = X at hp ⊢
  rw [← hp]
  rfl

/-- The array of the memory queries. -/
theorem memory_array_eq (c : Dev nD) : (dats m 0 c).arrAt 7 cfg0.N
    = val_main_v66 (F := Ideal) (m ((c : Thread nD τ).loc main_arg0)) (m ((c : Thread nD τ).loc main_arg1))
        (m ((c : Thread nD τ).loc main_arg2)) (m ((c : Thread nD τ).loc main_arg4)) := by
  refine (dats m 0 c).arrAt_eq_of_covers 7 _ covers_memory fun t _ y => ?_
  obtain ⟨r, h, e, hy⟩ := split_rows y
  subst hy
  have hp := (memory_out m c t r h e).trans (memory_eq m c t r h e)
  rw [place_memory, ref_memory, after0_7]
  generalize outsAt0 m c t = X at hp ⊢
  rw [← hp]
  rfl

/-- The two programs run, and from equal arguments their four results are equal. -/
theorem algebraic : Cert.algebraic_ProjQIdeal_ProjQReferenceIdeal (hProjQIdeal := Cert.ProjQIdeal.Gen.facts)
    (hProjQReferenceIdeal := Cert.ProjQReferenceIdeal.Gen.facts) := by
  intro m g m' g' _ hargs
  refine ⟨fun c => (dats m 0 c).arrAt 4 cfg0.N, fun c => (dats m 0 c).arrAt 5 cfg0.N,
    fun c => (dats m 0 c).arrAt 6 cfg0.N, fun c => (dats m 0 c).arrAt 7 cfg0.N, Value.run_blocks (F := Ideal) m g, ?_⟩
  refine (θ_run (Cert.ProjQReferenceIdeal.defs (F := Ideal)) _ _).mono (fun r h c => ?_)
    (Cert.ProjQReferenceIdeal.Value.run (F := Ideal) m' g')
  obtain ⟨h0, h1, h2, h3, hkept⟩ := h c
  obtain ⟨a0, a1, a2, a3, a4⟩ := hargs c
  refine ⟨h0.trans ?_, h1.trans ?_, h2.trans ?_, h3.trans ?_, hkept⟩
  · rw [val_main_v54_eq, a0, a1, a2, a3]
    exact (first_eq m c).symm
  · rw [val_main_v59_eq, a0, a1, a2, a3]
    exact (second_eq m c).symm
  · rw [val_main_v64_eq, a0, a1, a2, a3]
    exact (third_eq m c).symm
  · rw [val_main_v66_eq, a0, a1, a2, a4]
    exact (memory_array_eq m c).symm

end Cert.ProjQIdeal.RefValue

end
-- ==== Proof.KvValue.Heads.lean ====
/-
  What the first dilated layer's projection does to one tile of 512 rows, over the extended reals: the rows' norm, the
  product with 512 columns of a weight, and the three things done to the 512 columns, which are four heads of 128:
  nothing (the values), a norm of each head (the keys), a norm and the attention scale (the queries).
-/
module

public import proofs.«01_k».proof.Proof.ProjValue.Heads
public import proofs.«01_k».proof.Proof.Gen.ProjIdeal.Skeleton
public import Idealize.ShloMosaic.Lib.Pointwise

@[expose] public section

set_option maxRecDepth 16384

noncomputable section

namespace Cert.ProjIdeal.RefValue

open Cert.ProjIdeal Cert.ProjIdeal.Gen Idealize.ShloMosaic Idealize.ShloMosaic.TcCoe
open Cert.ProjQIdeal.RefValue (scaled normed head)

/-- A head of keys: the columns divided by their root mean square, times the gains. -/
def keyHead (a g : Fin 128 → EReal) (e : Fin 128) : EReal := scaled (Ideal.ofBits .f32 0x43000000#32) a g e

/-- The rows' norm, for the keys and values. -/
theorem normed_kv (x : Vec Ideal S512x2048 .f32) (g : Vec Ideal S1x2048 .f32) (r : Fin 512) (k : Fin 2048) :
    k0_pay1 (F := Ideal) x g (ix2 r k) = normed (fun j => x (ix2 r j)) (fun j => g (ix2 0 j)) k := by
  unfold normed scaled
  pointwise [k0_pay1]

/-- The rows' norm, for the queries. -/
theorem normed_q (x : Vec Ideal S512x2048 .f32) (g : Vec Ideal S1x2048 .f32) (r : Fin 512) (k : Fin 2048) :
    k0_pay223 (F := Ideal) x (k0_pay221 g) (k0_pay222 x) (ix2 r k)
      = normed (fun j => x (ix2 r j)) (fun j => g (ix2 0 j)) k :=
  normed_kv x g r k

/-- The projected columns. -/
theorem product_apply (x : Vec Ideal S512x2048 .bf16) (w : Vec Ideal S2048x512 .bf16) (r : Fin 512) (j : Fin 512) :
    k0_pay2 (F := Ideal) x w (ix2 r j) = ∑ k : Fin 2048, x (ix2 r k) * w (ix2 k j) := by
  pointwise [k0_pay2]

/-- The four heads of 512 columns. -/
def cut (a : FVec Ideal S512x512 .f32) : Fin 4 → FVec Ideal S512x128 .f32 :=
  ![extractStridedSlice S512x128 ![0, 0] a slices_S512x512_o0_0_S512x128,
    extractStridedSlice S512x128 ![0, 128] a slices_S512x512_o0_128_S512x128,
    extractStridedSlice S512x128 ![0, 256] a slices_S512x512_o0_256_S512x128,
    extractStridedSlice S512x128 ![0, 384] a slices_S512x512_o0_384_S512x128]

theorem cut_apply (a : FVec Ideal S512x512 .f32) (h : Fin 4) (r : Fin 512) (e : Fin 128) :
    cut a h (ix2 r e) = a (ix2 r ⟨h.val * 128 + e.val, by omega⟩) := by
  match h with
  | 0 => show extractStridedSlice S512x128 ![0, 0] a slices_S512x512_o0_0_S512x128 _ = _; pointwise []
  | 1 => show extractStridedSlice S512x128 ![0, 128] a slices_S512x512_o0_128_S512x128 _ = _; pointwise []
  | 2 => show extractStridedSlice S512x128 ![0, 256] a slices_S512x512_o0_256_S512x128 _ = _; pointwise []
  | 3 => show extractStridedSlice S512x128 ![0, 384] a slices_S512x512_o0_384_S512x128 _ = _; pointwise []

/-- Four heads side by side. -/
def join (p : Fin 4 → FVec Ideal S512x128 .f32) : FVec Ideal S512x512 .f32 :=
  concatenate S512x512 1 [⟨S512x128, p 0⟩, ⟨S512x128, p 1⟩, ⟨S512x128, p 2⟩, ⟨S512x128, p 3⟩]
    concatenates_S512x128_S512x128_S512x128_S512x128_S512x512_d1

theorem join_apply (p : Fin 4 → FVec Ideal S512x128 .f32) (r : Fin 512) (h : Fin 4) (e : Fin 128) :
    join p (ix2 r ⟨h.val * 128 + e.val, by omega⟩) = p h (ix2 r e) := by
  unfold join
  generalize h0 : p 0 = p0
  generalize h1 : p 1 = p1
  generalize h2 : p 2 = p2
  generalize h3 : p 3 = p3
  have he := e.isLt
  pointwise []
  obtain ⟨h, hh⟩ := h
  obtain rfl | rfl | rfl | rfl : h = 0 ∨ h = 1 ∨ h = 2 ∨ h = 3 := by omega
  · rw [dif_pos (by dsimp only; omega), ← h0]
    simp only [Nat.zero_mul, Nat.zero_add, Fin.eta]
    rfl
  · have hc : 128 + e.val - 128 = e.val := by omega
    rw [dif_neg (by dsimp only; omega), dif_pos (by dsimp only; omega), ← h1]
    simp only [Nat.reduceMul, hc, Fin.eta]
    rfl
  · have hc : 256 + e.val - 128 - 128 = e.val := by omega
    rw [dif_neg (by dsimp only; omega), dif_neg (by dsimp only; omega), dif_pos (by dsimp only; omega), ← h2]
    simp only [Nat.reduceMul, hc, Fin.eta]
    rfl
  · have hc : 384 + e.val - 128 - 128 - 128 = e.val := by omega
    rw [dif_neg (by dsimp only; omega), dif_neg (by dsimp only; omega), dif_neg (by dsimp only; omega), ← h3]
    simp only [Nat.reduceMul, hc, Fin.eta]
    rfl

/-- One head's norm. -/
def headNorm (y : FVec Ideal S512x128 .f32) (g : Vec Ideal S1x128 .f32) : FVec Ideal S512x128 .f32 :=
  mulf (mulf y (broadcastTo S512x128
      (rsqrt (addf (divf (shapeCast S512x1 (multiReduction .add [1] S512 (mulf y y) 0x00000000#32 reduces_S512x128_S512 (.inl rfl) rfl)
          shapeCasts_S512_S512x1) (broadcast S512x1 (Scalar.ofBits .f32 0x43000000#32)))
        (broadcast S512x1 (Scalar.ofBits .f32 0x358637BD#32))))
      broadcasts_S512x1_S512x128))
    (broadcastTo S512x128 (shapeCast S1x128 g shapeCasts_S1x128_S1x128) broadcasts_S1x128_S512x128)

theorem headNorm_apply (y : FVec Ideal S512x128 .f32) (g : Vec Ideal S1x128 .f32) (r : Fin 512) (e : Fin 128) :
    headNorm y g (ix2 r e) = keyHead (fun l => y (ix2 r l)) (fun l => g (ix2 0 l)) e := by
  unfold headNorm keyHead scaled
  pointwise []

/-- The attention scale. -/
def withScale (y : FVec Ideal S512x128 .f32) : FVec Ideal S512x128 .f32 :=
  mulf y (broadcast S512x128 (Scalar.ofBits .f32 0x3DB504F3#32))

theorem withScale_apply (y : FVec Ideal S512x128 .f32) (r : Fin 512) (e : Fin 128) :
    withScale y (ix2 r e) = y (ix2 r e) * Ideal.ofBits .f32 0x3DB504F3#32 := by
  unfold withScale
  pointwise []

/-- Four heads of keys from 512 projected columns. -/
def keyBlock (a : FVec Ideal S512x512 .f32) (g : Vec Ideal S1x128 .f32) : FVec Ideal S512x512 .f32 :=
  join fun h => headNorm (cut a h) g

/-- Four heads of queries. -/
def queryBlock (a : FVec Ideal S512x512 .f32) (g : Vec Ideal S1x128 .f32) : FVec Ideal S512x512 .f32 :=
  join fun h => withScale (headNorm (cut a h) g)

theorem keyBlock_apply (a : FVec Ideal S512x512 .f32) (g : Vec Ideal S1x128 .f32) (r : Fin 512) (h : Fin 4) (e : Fin 128) :
    keyBlock a g (ix2 r ⟨h.val * 128 + e.val, by omega⟩)
      = keyHead (fun l => a (ix2 r ⟨h.val * 128 + l.val, by omega⟩)) (fun l => g (ix2 0 l)) e := by
  unfold keyBlock
  rw [join_apply, headNorm_apply]
  simp only [cut_apply]

theorem queryBlock_apply (a : FVec Ideal S512x512 .f32) (g : Vec Ideal S1x128 .f32) (r : Fin 512) (h : Fin 4) (e : Fin 128) :
    queryBlock a g (ix2 r ⟨h.val * 128 + e.val, by omega⟩)
      = head (fun l => a (ix2 r ⟨h.val * 128 + l.val, by omega⟩)) (fun l => g (ix2 0 l)) e := by
  unfold queryBlock
  rw [join_apply, withScale_apply, headNorm_apply]
  simp only [cut_apply]
  rfl

/-- A head as it goes to the scratch. -/
def stored (b : FVec Ideal S512x512 .f32) (h : Fin 4) : Vec Ideal S1x512x128 .f32 :=
  shapeCast S1x512x128 (cut b h) shapeCasts_S512x128_S1x512x128

theorem stored_apply (b : FVec Ideal S512x512 .f32) (h : Fin 4) (r : Fin 512) (e : Fin 128) :
    stored b h (ix3 0 r e) = b (ix2 r ⟨h.val * 128 + e.val, by omega⟩) := by
  refine Eq.trans ?_ (cut_apply b h r e)
  unfold stored
  generalize cut b h = y
  pointwise []

/-- The four heads as they go to an undilated result. -/
def whole (b : FVec Ideal S512x512 .f32) : Vec Ideal S1x512x512 .bf16 :=
  shapeCast S1x512x512 (truncf .bf16 b bitsLt_bf16_f32) shapeCasts_S512x512_S1x512x512

theorem whole_apply (b : FVec Ideal S512x512 .f32) (r j : Fin 512) : whole b (ix3 0 r j) = b (ix2 r j) := by
  unfold whole
  pointwise []

end Cert.ProjIdeal.RefValue

end
-- ==== Proof.KvValue.Loads.lean ====
/-
  What the body of the first dilated layer's projection loads at a point, and the three kinds of blocks of four heads it
  makes of them.
-/
module

public import proofs.«01_k».proof.Proof.KvValue.Heads
public import proofs.«01_k».proof.Proof.Gen.ProjIdeal.Value
public import Idealize.ShloMosaic.Lib.Pipeline.ValueKit.Tiles
public import Idealize.ShloMosaic.Lib.Pipeline.ReadBack

@[expose] public section

set_option maxRecDepth 16384

noncomputable section

namespace Cert.ProjIdeal.RefValue

open Cert.ProjIdeal Cert.ProjIdeal.Gen Cert.ProjIdeal.Value Idealize.ShloMosaic Idealize.ShloMosaic.TcCoe Idealize.SL.Sem
open Cert.ProjQIdeal.RefValue (scaled normed head)

variable (m : (ℓ : Loc nD τ sig) → Buf (Elt Ideal) ℓ)

theorem hz2 : (![0, 0] : Fin 2 → Nat) = fun _ => 0 := by
  funext a; match a with | 0 => rfl | 1 => rfl

theorem hz3 : (![0, 0, 0] : Fin 3 → Nat) = fun _ => 0 := by
  funext a; match a with | 0 => rfl | 1 => rfl | 2 => rfl

theorem inb_kv (b : Fin 6) : ∀ a, (![0, b.val * 512] : Fin 2 → ℕ) a + S2048x512.size a ≤ S2048x3072.size a := by
  intro a
  match a with
  | ⟨0, _⟩ => show 0 + 2048 ≤ 2048; omega
  | ⟨1, _⟩ => show b.val * 512 + 512 ≤ 3072; omega

theorem inb_q (b : Fin 4) : ∀ a, (![0, b.val * 512] : Fin 2 → ℕ) a + S2048x512.size a ≤ S2048x2048.size a := by
  intro a
  match a with
  | ⟨0, _⟩ => show 0 + 2048 ≤ 2048; omega
  | ⟨1, _⟩ => show b.val * 512 + 512 ≤ 2048; omega

theorem inb_kv_gain (b : Fin 6) : ∀ a, (![b.val, 0] : Fin 2 → ℕ) a + S1x128.size a ≤ S6x128.size a := by
  intro a
  match a with
  | ⟨0, _⟩ => show b.val + 1 ≤ 6; omega
  | ⟨1, _⟩ => show 0 + 128 ≤ 128; omega

theorem inb_q_gain (b : Fin 4) : ∀ a, (![b.val, 0] : Fin 2 → ℕ) a + S1x128.size a ≤ S4x128.size a := by
  intro a
  match a with
  | ⟨0, _⟩ => show b.val + 1 ≤ 4; omega
  | ⟨1, _⟩ => show 0 + 128 ≤ 128; omega

/-- The input rows, as loaded. -/
def inputRows (c : Dev nD) (t : Fin cfg0.N) : Vec Ideal S512x2048 .f32 :=
  View.readAt (Elt Ideal) (ms0_0 t).view
    (Rect.unit ![0, 0] S512x2048.size inb_S512x2048_S512x2048_0_0).toLoadRect ((hs0_0 t).unread (iblk m c 0 t))

/-- The gains of the keys' and values' norm, as loaded. -/
def inputGainKv (c : Dev nD) (t : Fin cfg0.N) : Vec Ideal S1x2048 .f32 :=
  View.readAt (Elt Ideal) (ms0_1 t).view
    (Rect.unit ![0, 0] S1x2048.size inb_S1x2048_S1x2048_0_0).toLoadRect ((hs0_1 t).unread (iblk m c 1 t))

/-- The gains of the queries' norm, as loaded. -/
def inputGainQ (c : Dev nD) (t : Fin cfg0.N) : Vec Ideal S1x2048 .f32 :=
  View.readAt (Elt Ideal) (ms0_4 t).view
    (Rect.unit ![0, 0] S1x2048.size inb_S1x2048_S1x2048_0_0).toLoadRect ((hs0_4 t).unread (iblk m c 4 t))

/-- The store of the rows normalised for the keys and values. -/
def storeKv (c : Dev nD) (t : Fin cfg0.N) : View.Piece (Elt Ideal) S512x2048 .bf16 :=
  ⟨Rect.unit ![0, 0] S512x2048.size inb_S512x2048_S512x2048_0_0, k0_pay1 (inputRows m c t) (inputGainKv m c t)⟩

/-- The store of the rows normalised for the queries, over it. -/
def storeQ (c : Dev nD) (t : Fin cfg0.N) : View.Piece (Elt Ideal) S512x2048 .bf16 :=
  ⟨Rect.unit ![0, 0] S512x2048.size inb_S512x2048_S512x2048_0_0,
    k0_pay223 (inputRows m c t) (k0_pay221 (inputGainQ m c t)) (k0_pay222 (inputRows m c t))⟩

/-- The rows normalised for the keys and values, as loaded from the scratch that keeps them. -/
def rowsKv (c : Dev nD) (t : Fin cfg0.N) : Vec Ideal S512x2048 .bf16 :=
  scM0_0.view.readCov [storeKv m c t] (Rect.unit ![0, 0] S512x2048.size inb_S512x2048_S512x2048_0_0).toLoadRect

/-- The rows normalised for the queries, as loaded from the scratch. -/
def rowsQ (c : Dev nD) (t : Fin cfg0.N) : Vec Ideal S512x2048 .bf16 :=
  scM0_0.view.readCov [storeQ m c t, storeKv m c t]
    (Rect.unit ![0, 0] S512x2048.size inb_S512x2048_S512x2048_0_0).toLoadRect

/-- The columns of group `b` in the keys' and values' weight. -/
def weightKv (c : Dev nD) (t : Fin cfg0.N) (b : Fin 6) : Vec Ideal S2048x512 .bf16 :=
  View.readAt (Elt Ideal) (ms0_2 t).view (Rect.unit (s := S2048x3072) ![0, b.val * 512] S2048x512.size (inb_kv b)).toLoadRect
    ((hs0_2 t).unread (iblk m c 2 t))

/-- The columns of group `b` in the queries' weight. -/
def weightQ (c : Dev nD) (t : Fin cfg0.N) (b : Fin 4) : Vec Ideal S2048x512 .bf16 :=
  View.readAt (Elt Ideal) (ms0_5 t).view (Rect.unit (s := S2048x2048) ![0, b.val * 512] S2048x512.size (inb_q b)).toLoadRect
    ((hs0_5 t).unread (iblk m c 5 t))

/-- The keys' gains of group `b`. -/
def gainKv (c : Dev nD) (t : Fin cfg0.N) (b : Fin 6) : Vec Ideal S1x128 .f32 :=
  View.readAt (Elt Ideal) (ms0_3 t).view (Rect.unit (s := S6x128) ![b.val, 0] S1x128.size (inb_kv_gain b)).toLoadRect
    ((hs0_3 t).unread (iblk m c 3 t))

/-- The queries' gains of group `b`. -/
def gainQ (c : Dev nD) (t : Fin cfg0.N) (b : Fin 4) : Vec Ideal S1x128 .f32 :=
  View.readAt (Elt Ideal) (ms0_6 t).view (Rect.unit (s := S4x128) ![b.val, 0] S1x128.size (inb_q_gain b)).toLoadRect
    ((hs0_6 t).unread (iblk m c 6 t))

theorem rowsKv_apply (c : Dev nD) (t : Fin cfg0.N) (r : Fin 512) (k : Fin 2048) :
    rowsKv m c t (ix2 r k) = normed (fun j => (iblk m c 0 t : Vec Ideal S512x2048 .f32) (ix2 r j))
      (fun j => (iblk m c 1 t : Vec Ideal S1x2048 .f32) (ix2 0 j)) k := by
  unfold rowsKv storeKv inputRows inputGainKv
  rw [View.readCov_unit_zero (S := S512x2048) _ hz2]
  simp only [View.readAt_eq_ld, (hs0_0 t).read_unread, (hs0_1 t).read_unread, View.ld_unit_zero (S := S512x2048) hz2,
    View.ld_unit_zero (S := S1x2048) hz2]
  exact normed_kv _ _ r k

theorem rowsQ_apply (c : Dev nD) (t : Fin cfg0.N) (r : Fin 512) (k : Fin 2048) :
    rowsQ m c t (ix2 r k) = normed (fun j => (iblk m c 0 t : Vec Ideal S512x2048 .f32) (ix2 r j))
      (fun j => (iblk m c 4 t : Vec Ideal S1x2048 .f32) (ix2 0 j)) k := by
  have hl : rowsQ m c t (ix2 r k)
      = k0_pay223 (F := Ideal) (inputRows m c t) (k0_pay221 (inputGainQ m c t)) (k0_pay222 (inputRows m c t)) (ix2 r k) := by
    unfold rowsQ storeQ
    rw [View.readCov_eq_canon', View.canon_cons_unit_zero (S := S512x2048) hz2]
    refine congrArg _ (funext fun a => Fin.ext ?_)
    match a with
    | ⟨0, _⟩ => show 0 + 1 * r.val = r.val; omega
    | ⟨1, _⟩ => show 0 + 1 * k.val = k.val; omega
  rw [hl]
  unfold inputRows inputGainQ
  simp only [View.readAt_eq_ld, (hs0_0 t).read_unread, (hs0_4 t).read_unread, View.ld_unit_zero (S := S512x2048) hz2,
    View.ld_unit_zero (S := S1x2048) hz2]
  exact normed_q _ _ r k

theorem weightKv_apply (c : Dev nD) (t : Fin cfg0.N) (b : Fin 6) (k : Fin 2048) (j : Fin 512) :
    weightKv m c t b (ix2 k j)
      = (iblk m c 2 t : Vec Ideal S2048x3072 .bf16) (ix2 k ⟨b.val * 512 + j.val, by omega⟩) := by
  unfold weightKv
  simp only [View.readAt_eq_ld, (hs0_2 t).read_unread]
  exact View.ld_unit_apply_of _ _ _ _ _ _ fun a => match a with
    | ⟨0, _⟩ => (Nat.zero_add _).symm
    | ⟨1, _⟩ => rfl

theorem weightQ_apply (c : Dev nD) (t : Fin cfg0.N) (b : Fin 4) (k : Fin 2048) (j : Fin 512) :
    weightQ m c t b (ix2 k j)
      = (iblk m c 5 t : Vec Ideal S2048x2048 .bf16) (ix2 k ⟨b.val * 512 + j.val, by omega⟩) := by
  unfold weightQ
  simp only [View.readAt_eq_ld, (hs0_5 t).read_unread]
  exact View.ld_unit_apply_of _ _ _ _ _ _ fun a => match a with
    | ⟨0, _⟩ => (Nat.zero_add _).symm
    | ⟨1, _⟩ => rfl

theorem gainKv_apply (c : Dev nD) (t : Fin cfg0.N) (b : Fin 6) (e : Fin 128) :
    gainKv m c t b (ix2 0 e) = (iblk m c 3 t : Vec Ideal S6x128 .f32) (ix2 b e) := by
  unfold gainKv
  simp only [View.readAt_eq_ld, (hs0_3 t).read_unread]
  exact View.ld_unit_apply_of _ _ _ _ _ _ fun a => match a with
    | ⟨0, _⟩ => rfl
    | ⟨1, _⟩ => (Nat.zero_add _).symm

theorem gainQ_apply (c : Dev nD) (t : Fin cfg0.N) (b : Fin 4) (e : Fin 128) :
    gainQ m c t b (ix2 0 e) = (iblk m c 6 t : Vec Ideal S4x128 .f32) (ix2 b e) := by
  unfold gainQ
  simp only [View.readAt_eq_ld, (hs0_6 t).read_unread]
  exact View.ld_unit_apply_of _ _ _ _ _ _ fun a => match a with
    | ⟨0, _⟩ => rfl
    | ⟨1, _⟩ => (Nat.zero_add _).symm

/-- Column `j` of row `r` of the point's keys and values, from the blocks. -/
def tileKv (c : Dev nD) (t : Fin cfg0.N) (r : Fin 512) (j : Fin 3072) : EReal :=
  ∑ k : Fin 2048, normed (fun i => (iblk m c 0 t : Vec Ideal S512x2048 .f32) (ix2 r i))
      (fun i => (iblk m c 1 t : Vec Ideal S1x2048 .f32) (ix2 0 i)) k
    * (iblk m c 2 t : Vec Ideal S2048x3072 .bf16) (ix2 k j)

/-- Column `j` of row `r` of the point's queries, from the blocks. -/
def tileQ (c : Dev nD) (t : Fin cfg0.N) (r : Fin 512) (j : Fin 2048) : EReal :=
  ∑ k : Fin 2048, normed (fun i => (iblk m c 0 t : Vec Ideal S512x2048 .f32) (ix2 r i))
      (fun i => (iblk m c 4 t : Vec Ideal S1x2048 .f32) (ix2 0 i)) k
    * (iblk m c 5 t : Vec Ideal S2048x2048 .bf16) (ix2 k j)

/-- The columns of the point's group `b` of keys or values. -/
def columnsKv (c : Dev nD) (t : Fin cfg0.N) (b : Fin 6) : FVec Ideal S512x512 .f32 :=
  k0_pay2 (rowsKv m c t) (weightKv m c t b)

/-- The columns of the point's group `b` of queries. -/
def columnsQ (c : Dev nD) (t : Fin cfg0.N) (b : Fin 4) : FVec Ideal S512x512 .f32 :=
  k0_pay2 (rowsQ m c t) (weightQ m c t b)

theorem columnsKv_apply (c : Dev nD) (t : Fin cfg0.N) (b : Fin 6) (r j : Fin 512) :
    columnsKv m c t b (ix2 r j) = tileKv m c t r ⟨b.val * 512 + j.val, by omega⟩ := by
  unfold columnsKv tileKv
  rw [product_apply]
  exact Finset.sum_congr rfl fun k _ => congrArg₂ (· * ·) (rowsKv_apply m c t r k) (weightKv_apply m c t b k j)

theorem columnsQ_apply (c : Dev nD) (t : Fin cfg0.N) (b : Fin 4) (r j : Fin 512) :
    columnsQ m c t b (ix2 r j) = tileQ m c t r ⟨b.val * 512 + j.val, by omega⟩ := by
  unfold columnsQ tileQ
  rw [product_apply]
  exact Finset.sum_congr rfl fun k _ => congrArg₂ (· * ·) (rowsQ_apply m c t r k) (weightQ_apply m c t b k j)

/-- Group `b` of the keys at the point. -/
def keysOf (c : Dev nD) (t : Fin cfg0.N) (b : Fin 6) : FVec Ideal S512x512 .f32 :=
  keyBlock (columnsKv m c t b) (gainKv m c t b)

/-- Group `b` of the queries at the point, the memory queries last. -/
def queriesOf (c : Dev nD) (t : Fin cfg0.N) (b : Fin 4) : FVec Ideal S512x512 .f32 :=
  queryBlock (columnsQ m c t b) (gainQ m c t b)

theorem keysOf_apply (c : Dev nD) (t : Fin cfg0.N) (b : Fin 6) (r : Fin 512) (h : Fin 4) (e : Fin 128) :
    keysOf m c t b (ix2 r ⟨h.val * 128 + e.val, by omega⟩)
      = keyHead (fun l => tileKv m c t r ⟨b.val * 512 + (h.val * 128 + l.val), by omega⟩)
          (fun l => (iblk m c 3 t : Vec Ideal S6x128 .f32) (ix2 b l)) e := by
  unfold keysOf
  rw [keyBlock_apply]
  simp only [columnsKv_apply, gainKv_apply]

theorem queriesOf_apply (c : Dev nD) (t : Fin cfg0.N) (b : Fin 4) (r : Fin 512) (h : Fin 4) (e : Fin 128) :
    queriesOf m c t b (ix2 r ⟨h.val * 128 + e.val, by omega⟩)
      = head (fun l => tileQ m c t r ⟨b.val * 512 + (h.val * 128 + l.val), by omega⟩)
          (fun l => (iblk m c 6 t : Vec Ideal S4x128 .f32) (ix2 b l)) e := by
  unfold queriesOf
  rw [queryBlock_apply]
  simp only [columnsQ_apply, gainQ_apply]

end Cert.ProjIdeal.RefValue

end
-- ==== Proof.KvValue.Ref.lean ====
/-
  The reference's keys, values and queries of the first dilated layer at one index.
-/
module

public import proofs.«01_k».proof.Proof.KvValue.Heads
public import proofs.«01_k».proof.Proof.ProjValue.Ref
public import proofs.«01_k».proof.Proof.Gen.ProjReferenceIdeal.Read

@[expose] public section

set_option maxRecDepth 16384

noncomputable section

namespace Cert.ProjIdeal.RefValue

open Cert.ProjReferenceIdeal Cert.ProjReferenceIdeal.Read Idealize.ShloMosaic Idealize.ShloMosaic.TcCoe
open Cert.ProjQIdeal.RefValue (scaled normed head)

/-- Column `j` of row `R` of the projected keys and values. -/
def columnKv (x : FVec Ideal S8192x2048 .f32) (n : FVec Ideal S2048 .f32) (w : FVec Ideal S2048x3072 .bf16) (R : Fin 8192)
    (j : Fin 3072) : EReal :=
  ∑ k : Fin 2048, normed (fun i => x (ix2 R i)) (fun i => n (ix1 i)) k * w (ix2 k j)

theorem ref_normed (x : FVec Ideal S8192x2048 .f32) (n : FVec Ideal S2048 .f32) (R : Fin 8192) (k : Fin 2048) :
    val_main_v12 (F := Ideal) x n (ix2 R k) = normed (fun i => x (ix2 R i)) (fun i => n (ix1 i)) k :=
  Cert.ProjQIdeal.RefValue.ref_normed x n R k

theorem ref_column (x : FVec Ideal S8192x2048 .f32) (n : FVec Ideal S2048 .f32) (w : FVec Ideal S2048x3072 .bf16)
    (R : Fin 8192) (j : Fin 3072) : val_main_v14 (F := Ideal) x n w (ix2 R j) = columnKv x n w R j := by
  simp only [columnKv, ← ref_normed]
  generalize hx : val_main_v12 (F := Ideal) x n = v
  unfold val_main_v14
  rw [hx]
  pointwise [val_main_v13]

/-- Lane `e` of head `h` of group `b` of the keys, before their norm. -/
theorem ref_key_column (x : FVec Ideal S8192x2048 .f32) (n : FVec Ideal S2048 .f32) (w : FVec Ideal S2048x3072 .bf16)
    (R : Fin 8192) (b : Fin 3) (h : Fin 4) (e : Fin 128) : val_main_v16 (F := Ideal) x n w (ix4 R b h e)
      = columnKv x n w R ⟨b.val * 512 + (h.val * 128 + e.val), by omega⟩ := by
  rw [← ref_column]
  generalize hx : val_main_v14 (F := Ideal) x n w = v
  unfold val_main_v16 val_main_v15
  rw [hx]
  pointwise []
  simp only [Nat.add_assoc]

/-- Lane `e` of head `h` of group `b` of the values. -/
theorem ref_value (x : FVec Ideal S8192x2048 .f32) (n : FVec Ideal S2048 .f32) (w : FVec Ideal S2048x3072 .bf16)
    (R : Fin 8192) (b : Fin 3) (h : Fin 4) (e : Fin 128) : val_main_v18 (F := Ideal) x n w (ix4 R b h e)
      = columnKv x n w R ⟨(b.val + 3) * 512 + (h.val * 128 + e.val), by omega⟩ := by
  have hj : (⟨(b.val + 3) * 512 + (h.val * 128 + e.val), by omega⟩ : Fin 3072)
      = ⟨1536 + (b.val * 512 + (h.val * 128 + e.val)), by omega⟩ :=
    Fin.ext (by show (b.val + 3) * 512 + (h.val * 128 + e.val) = 1536 + (b.val * 512 + (h.val * 128 + e.val)); omega)
  rw [hj, ← ref_column]
  generalize hx : val_main_v14 (F := Ideal) x n w = v
  unfold val_main_v18 val_main_v17
  rw [hx]
  pointwise []
  simp only [Nat.add_assoc]

/-- Lane `e` of head `h` of group `b` of the keys. -/
theorem ref_key (x : FVec Ideal S8192x2048 .f32) (n : FVec Ideal S2048 .f32) (w : FVec Ideal S2048x3072 .bf16)
    (g : FVec Ideal S3x128 .f32) (R : Fin 8192) (b : Fin 3) (h : Fin 4) (e : Fin 128) :
    val_main_v32 (F := Ideal) x n w g (ix4 R b h e)
      = keyHead (fun l => columnKv x n w R ⟨b.val * 512 + (h.val * 128 + l.val), by omega⟩) (fun l => g (ix2 b l)) e := by
  simp only [← ref_key_column]
  unfold keyHead scaled
  generalize hx : val_main_v16 (F := Ideal) x n w = v
  unfold val_main_v32 val_main_v29 val_main_v28 val_main_v27 val_main_v26 val_main_v24 val_main_v22 val_main_v21 val_main_v20
  rw [hx]
  pointwise [val_main_v31, val_main_v30, val_main_v25, val_main_v23, val_main_v19, val_main_cst_2, val_main_cst_3,
    val_main_cst_4]

/-! Each result holds the lanes of its group, the dilated ones by class. -/

theorem ref_key0 (x : FVec Ideal S8192x2048 .f32) (n : FVec Ideal S2048 .f32) (w : FVec Ideal S2048x3072 .bf16)
    (g : FVec Ideal S3x128 .f32) (R : Fin 8192) (h : Fin 4) (e : Fin 128) :
    val_main_v37 (F := Ideal) x n w g (ix3 0 R ⟨h.val * 128 + e.val, by omega⟩)
      = val_main_v32 (F := Ideal) x n w g (ix4 R 0 h e) := by
  generalize hx : val_main_v32 (F := Ideal) x n w g = v
  unfold val_main_v37 val_main_v36 val_main_v35 val_main_v34 val_main_v33
  rw [hx]
  pointwise []

theorem ref_key1 (x : FVec Ideal S8192x2048 .f32) (n : FVec Ideal S2048 .f32) (w : FVec Ideal S2048x3072 .bf16)
    (g : FVec Ideal S3x128 .f32) (q : Fin 4) (i : Fin 2048) (h : Fin 4) (e : Fin 128) :
    val_main_v42 (F := Ideal) x n w g (ix3 q i ⟨h.val * 128 + e.val, by omega⟩)
      = val_main_v32 (F := Ideal) x n w g (ix4 (⟨i.val * 4 + q.val, by omega⟩ : Fin 8192) 1 h e) := by
  generalize hx : val_main_v32 (F := Ideal) x n w g = v
  unfold val_main_v42 val_main_v41 val_main_v40 val_main_v39 val_main_v38
  rw [hx]
  pointwise []

theorem ref_key2 (x : FVec Ideal S8192x2048 .f32) (n : FVec Ideal S2048 .f32) (w : FVec Ideal S2048x3072 .bf16)
    (g : FVec Ideal S3x128 .f32) (q : Fin 16) (i : Fin 512) (h : Fin 4) (e : Fin 128) :
    val_main_v47 (F := Ideal) x n w g (ix3 q i ⟨h.val * 128 + e.val, by omega⟩)
      = val_main_v32 (F := Ideal) x n w g (ix4 (⟨i.val * 16 + q.val, by omega⟩ : Fin 8192) 2 h e) := by
  generalize hx : val_main_v32 (F := Ideal) x n w g = v
  unfold val_main_v47 val_main_v46 val_main_v45 val_main_v44 val_main_v43
  rw [hx]
  pointwise []

theorem ref_value0 (x : FVec Ideal S8192x2048 .f32) (n : FVec Ideal S2048 .f32) (w : FVec Ideal S2048x3072 .bf16)
    (R : Fin 8192) (h : Fin 4) (e : Fin 128) :
    val_main_v52 (F := Ideal) x n w (ix3 0 R ⟨h.val * 128 + e.val, by omega⟩)
      = val_main_v18 (F := Ideal) x n w (ix4 R 0 h e) := by
  generalize hx : val_main_v18 (F := Ideal) x n w = v
  unfold val_main_v52 val_main_v51 val_main_v50 val_main_v49 val_main_v48
  rw [hx]
  pointwise []

theorem ref_value1 (x : FVec Ideal S8192x2048 .f32) (n : FVec Ideal S2048 .f32) (w : FVec Ideal S2048x3072 .bf16)
    (q : Fin 4) (i : Fin 2048) (h : Fin 4) (e : Fin 128) :
    val_main_v57 (F := Ideal) x n w (ix3 q i ⟨h.val * 128 + e.val, by omega⟩)
      = val_main_v18 (F := Ideal) x n w (ix4 (⟨i.val * 4 + q.val, by omega⟩ : Fin 8192) 1 h e) := by
  generalize hx : val_main_v18 (F := Ideal) x n w = v
  unfold val_main_v57 val_main_v56 val_main_v55 val_main_v54 val_main_v53
  rw [hx]
  pointwise []

theorem ref_value2 (x : FVec Ideal S8192x2048 .f32) (n : FVec Ideal S2048 .f32) (w : FVec Ideal S2048x3072 .bf16)
    (q : Fin 16) (i : Fin 512) (h : Fin 4) (e : Fin 128) :
    val_main_v62 (F := Ideal) x n w (ix3 q i ⟨h.val * 128 + e.val, by omega⟩)
      = val_main_v18 (F := Ideal) x n w (ix4 (⟨i.val * 16 + q.val, by omega⟩ : Fin 8192) 2 h e) := by
  generalize hx : val_main_v18 (F := Ideal) x n w = v
  unfold val_main_v62 val_main_v61 val_main_v60 val_main_v59 val_main_v58
  rw [hx]
  pointwise []

/-! The queries' four results are those of the query projection alone, with this layer's weights. -/

theorem ref_query0 (x : FVec Ideal S8192x2048 .f32) (n : FVec Ideal S2048 .f32) (w : FVec Ideal S2048x2048 .bf16)
    (g : FVec Ideal S3x128 .f32) :
    val_main_v117 (F := Ideal) x n w g = Cert.ProjQReferenceIdeal.Read.val_main_v54 (F := Ideal) x n w g := rfl

theorem ref_query1 (x : FVec Ideal S8192x2048 .f32) (n : FVec Ideal S2048 .f32) (w : FVec Ideal S2048x2048 .bf16)
    (g : FVec Ideal S3x128 .f32) :
    val_main_v122 (F := Ideal) x n w g = Cert.ProjQReferenceIdeal.Read.val_main_v59 (F := Ideal) x n w g := rfl

theorem ref_query2 (x : FVec Ideal S8192x2048 .f32) (n : FVec Ideal S2048 .f32) (w : FVec Ideal S2048x2048 .bf16)
    (g : FVec Ideal S3x128 .f32) :
    val_main_v127 (F := Ideal) x n w g = Cert.ProjQReferenceIdeal.Read.val_main_v64 (F := Ideal) x n w g := rfl

theorem ref_memory_query (x : FVec Ideal S8192x2048 .f32) (n : FVec Ideal S2048 .f32) (w : FVec Ideal S2048x2048 .bf16)
    (g : FVec Ideal S128 .f32) :
    val_main_v129 (F := Ideal) x n w g = Cert.ProjQReferenceIdeal.Read.val_main_v66 (F := Ideal) x n w g := rfl

end Cert.ProjIdeal.RefValue

end
-- ==== Proof.KvValue.Blocks.lean ====
/-
  What the seven input blocks of the first dilated layer's projection hold at a point, and the keys, values and queries
  made of them in the reference's words.
-/
module

public import proofs.«01_k».proof.Proof.KvValue.Loads
public import proofs.«01_k».proof.Proof.KvValue.Ref
public import Idealize.ShloMosaic.Lib.Pipeline.ValueKit.Geometry

@[expose] public section

set_option maxRecDepth 16384

noncomputable section

namespace Cert.ProjIdeal.RefValue

open Cert.ProjIdeal Cert.ProjIdeal.Gen Cert.ProjIdeal.Value Idealize.ShloMosaic Idealize.ShloMosaic.TcCoe Idealize.SL.Sem
open Cert.ProjReferenceIdeal.Read
open Cert.ProjQIdeal.RefValue (scaled normed head)

variable (m : (ℓ : Loc nD τ sig) → Buf (Elt Ideal) ℓ)

/-- Where each input window stands at point `t`. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

theorem point_lt (t : Fin cfg0.N) : t.val < 16 := lt_of_lt_of_eq t.isLt N_0

/-- The array row of row `r` of block `t`. -/
def row (t : Fin cfg0.N) (r : Fin 512) : Fin 8192 := ⟨t.val * 512 + r.val, by have := point_lt t; omega⟩

theorem block_x (c : Dev nD) (t : Fin cfg0.N) (r : Fin 512) (k : Fin 2048) :
    (iblk m c 0 t : Vec Ideal S512x2048 .f32) (ix2 r k) = m ((c : Thread nD τ).loc main_arg0) (ix2 (row t r) k) := by
  obtain ⟨⟨e0, e1⟩, _⟩ := places t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 512 + 1 * r.val = t.val * 512 + r.val; omega
  | ⟨1, _⟩ => show win0_0.index t (1 : Fin 2) * 2048 + 1 * k.val = k.val; omega

/-- The gains of the keys' and values' norm: one row, the same at every point. -/
theorem block_n (c : Dev nD) (t : Fin cfg0.N) (k : Fin 2048) :
    (iblk m c 1 t : Vec Ideal S1x2048 .f32) (ix2 0 k) = m ((c : Thread nD τ).loc main_arg1) (ix1 k) := by
  obtain ⟨_, ⟨e0, e1⟩, _⟩ := places t
  unfold iblk
  rw [View.read_apply]
  show V m c main_v7 _ = _
  entry_read
  have e : (((cfg0.win 1).blk t).view.emb (ix2 0 k) : S1x2048.Idx) = ix2 0 k := by
    funext a; apply Fin.ext
    match a with
    | ⟨0, _⟩ => show win0_1.index t (0 : Fin 2) * 1 + 1 * 0 = 0; omega
    | ⟨1, _⟩ => show win0_1.index t (1 : Fin 2) * 2048 + 1 * k.val = k.val; omega
  rw [e]
  pointwise

theorem block_w (c : Dev nD) (t : Fin cfg0.N) (k : Fin 2048) (j : Fin 3072) :
    (iblk m c 2 t : Vec Ideal S2048x3072 .bf16) (ix2 k j) = m ((c : Thread nD τ).loc main_arg2) (ix2 k j) := by
  obtain ⟨_, _, ⟨e0, e1⟩, _⟩ := places t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 2048 + 1 * k.val = k.val; omega
  | ⟨1, _⟩ => show win0_2.index t (1 : Fin 2) * 3072 + 1 * j.val = j.val; omega

/-- The keys' gains: the rows of the three groups come first. -/
theorem block_g (c : Dev nD) (t : Fin cfg0.N) (b : Fin 3) (l : Fin 128) :
    (iblk m c 3 t : Vec Ideal S6x128 .f32) (ix2 ⟨b.val, by omega⟩ l)
      = m ((c : Thread nD τ).loc main_arg3) (ix2 b l) := by
  obtain ⟨_, _, _, ⟨e0, e1⟩, _⟩ := places t
  have hb := b.isLt
  unfold iblk
  rw [View.read_apply]
  show V m c main_v6 _ = _
  entry_read
  have e : (((cfg0.win 3).blk t).view.emb (ix2 (⟨b.val, by omega⟩ : Fin 6) l) : S6x128.Idx) = ix2 ⟨b.val, by omega⟩ l := by
    funext a; apply Fin.ext
    match a with
    | ⟨0, _⟩ => show win0_3.index t (0 : Fin 2) * 6 + 1 * b.val = b.val; omega
    | ⟨1, _⟩ => show win0_3.index t (1 : Fin 2) * 128 + 1 * l.val = l.val; omega
  rw [e]
  pointwise

/-- The gains of the queries' norm. -/
theorem block_mix (c : Dev nD) (t : Fin cfg0.N) (k : Fin 2048) :
    (iblk m c 4 t : Vec Ideal S1x2048 .f32) (ix2 0 k) = m ((c : Thread nD τ).loc main_arg4) (ix1 k) := by
  obtain ⟨_, _, _, _, ⟨e0, e1⟩, _⟩ := places t
  unfold iblk
  rw [View.read_apply]
  show V m c main_v8 _ = _
  entry_read
  have e : (((cfg0.win 4).blk t).view.emb (ix2 0 k) : S1x2048.Idx) = ix2 0 k := by
    funext a; apply Fin.ext
    match a with
    | ⟨0, _⟩ => show win0_4.index t (0 : Fin 2) * 1 + 1 * 0 = 0; omega
    | ⟨1, _⟩ => show win0_4.index t (1 : Fin 2) * 2048 + 1 * k.val = k.val; omega
  rw [e]
  pointwise

theorem block_wq (c : Dev nD) (t : Fin cfg0.N) (k j : Fin 2048) :
    (iblk m c 5 t : Vec Ideal S2048x2048 .bf16) (ix2 k j) = m ((c : Thread nD τ).loc main_arg5) (ix2 k j) := by
  obtain ⟨_, _, _, _, _, ⟨e0, e1⟩, _⟩ := places t
  unfold iblk
  rw [View.read_apply]
  show V m c main_arg5 _ = _
  rw [V_main_arg5]
  refine congrArg (m ((c : Thread nD τ).loc main_arg5)) (funext fun a => Fin.ext ?_)
  match a with
  | ⟨0, _⟩ => show win0_5.index t (0 : Fin 2) * 2048 + 1 * k.val = k.val; omega
  | ⟨1, _⟩ => show win0_5.index t (1 : Fin 2) * 2048 + 1 * j.val = j.val; omega

/-- The queries' gains: those of the three dilated groups, then those of the memory queries. -/
theorem block_gq (c : Dev nD) (t : Fin cfg0.N) (b : Fin 4) (l : Fin 128) :
    (iblk m c 6 t : Vec Ideal S4x128 .f32) (ix2 b l)
      = if h : b.val < 3 then m ((c : Thread nD τ).loc main_arg6) (ix2 (⟨b.val, h⟩ : Fin 3) l)
        else m ((c : Thread nD τ).loc main_arg7) (ix1 l) := by
  obtain ⟨_, _, _, _, _, _, ⟨e0, e1⟩⟩ := places t
  unfold iblk
  rw [View.read_apply]
  show V m c main_v2 _ = _
  entry_read
  have e : (((cfg0.win 6).blk t).view.emb (ix2 b l) : S4x128.Idx) = ix2 b l := by
    funext a; apply Fin.ext
    match a with
    | ⟨0, _⟩ => show win0_6.index t (0 : Fin 2) * 4 + 1 * b.val = b.val; omega
    | ⟨1, _⟩ => show win0_6.index t (1 : Fin 2) * 128 + 1 * l.val = l.val; omega
  rw [e]
  pointwise

theorem tileKv_eq (c : Dev nD) (t : Fin cfg0.N) (r : Fin 512) (j : Fin 3072) : tileKv m c t r j
    = columnKv (m ((c : Thread nD τ).loc main_arg0)) (m ((c : Thread nD τ).loc main_arg1))
        (m ((c : Thread nD τ).loc main_arg2)) (row t r) j := by
  unfold tileKv columnKv
  rw [funext fun j => block_x m c t r j, funext fun j => block_n m c t j]
  exact Finset.sum_congr rfl fun k _ => congrArg (_ * ·) (block_w m c t k j)

theorem tileQ_eq (c : Dev nD) (t : Fin cfg0.N) (r : Fin 512) (j : Fin 2048) : tileQ m c t r j
    = Cert.ProjQIdeal.RefValue.column (m ((c : Thread nD τ).loc main_arg0)) (m ((c : Thread nD τ).loc main_arg4))
        (m ((c : Thread nD τ).loc main_arg5)) (row t r) j := by
  unfold tileQ Cert.ProjQIdeal.RefValue.column
  rw [funext fun j => block_x m c t r j, funext fun j => block_mix m c t j]
  exact Finset.sum_congr rfl fun k _ => congrArg (_ * ·) (block_wq m c t k j)

/-- The point's keys are the reference's. -/
theorem keys_eq (c : Dev nD) (t : Fin cfg0.N) (b : Fin 3) (r : Fin 512) (h : Fin 4) (e : Fin 128) :
    keysOf m c t ⟨b.val, by omega⟩ (ix2 r ⟨h.val * 128 + e.val, by omega⟩)
      = val_main_v32 (F := Ideal) (m ((c : Thread nD τ).loc main_arg0)) (m ((c : Thread nD τ).loc main_arg1))
          (m ((c : Thread nD τ).loc main_arg2)) (m ((c : Thread nD τ).loc main_arg3)) (ix4 (row t r) b h e) := by
  rw [ref_key, keysOf_apply, funext fun l => block_g m c t b l]
  simp only [tileKv_eq]

/-- The point's values are the reference's. -/
theorem values_eq (c : Dev nD) (t : Fin cfg0.N) (b : Fin 3) (r : Fin 512) (h : Fin 4) (e : Fin 128) :
    columnsKv m c t ⟨b.val + 3, by omega⟩ (ix2 r ⟨h.val * 128 + e.val, by omega⟩)
      = val_main_v18 (F := Ideal) (m ((c : Thread nD τ).loc main_arg0)) (m ((c : Thread nD τ).loc main_arg1))
          (m ((c : Thread nD τ).loc main_arg2)) (ix4 (row t r) b h e) := by
  rw [ref_value, columnsKv_apply, tileKv_eq]

/-- The point's dilated queries are the reference's. -/
theorem queries_eq (c : Dev nD) (t : Fin cfg0.N) (b : Fin 3) (r : Fin 512) (h : Fin 4) (e : Fin 128) :
    queriesOf m c t ⟨b.val, by omega⟩ (ix2 r ⟨h.val * 128 + e.val, by omega⟩)
      = Cert.ProjQReferenceIdeal.Read.val_main_v49 (F := Ideal) (m ((c : Thread nD τ).loc main_arg0))
          (m ((c : Thread nD τ).loc main_arg4)) (m ((c : Thread nD τ).loc main_arg5))
          (m ((c : Thread nD τ).loc main_arg6)) (ix4 (row t r) b h e) := by
  rw [Cert.ProjQIdeal.RefValue.ref_dilated_head, queriesOf_apply,
    funext fun l => (block_gq m c t ⟨b.val, by omega⟩ l).trans (dif_pos b.isLt)]
  simp only [tileQ_eq]

/-- And its memory queries. -/
theorem memory_eq (c : Dev nD) (t : Fin cfg0.N) (r : Fin 512) (h : Fin 4) (e : Fin 128) :
    queriesOf m c t 3 (ix2 r ⟨h.val * 128 + e.val, by omega⟩)
      = Cert.ProjQReferenceIdeal.Read.val_main_v31 (F := Ideal) (m ((c : Thread nD τ).loc main_arg0))
          (m ((c : Thread nD τ).loc main_arg4)) (m ((c : Thread nD τ).loc main_arg5))
          (m ((c : Thread nD τ).loc main_arg7)) (ix3 (row t r) h e) := by
  rw [Cert.ProjQIdeal.RefValue.ref_memory_head, queriesOf_apply,
    funext fun l => (block_gq m c t 3 l).trans (dif_neg (by decide))]
  simp only [tileQ_eq]
  rfl

end Cert.ProjIdeal.RefValue

end
-- ==== Proof.KvValue.Pieces.lean ====
/-
  The stores of the body, as lists: four heads to the scratch, the scratch read back by residue class, the classes stored
  to a result's block.
-/
module

public import proofs.«01_k».proof.Proof.KvValue.Heads
public import proofs.«01_k».proof.Proof.Gen.ProjIdeal.Value
public import Idealize.ShloMosaic.Lib.Pipeline.ValueKit.Tiles
public import Idealize.ShloMosaic.Lib.Pipeline.ReadBack

@[expose] public section

set_option maxRecDepth 16384

noncomputable section

namespace Cert.ProjIdeal.RefValue

open Cert.ProjIdeal Cert.ProjIdeal.Gen Cert.ProjIdeal.Value Idealize.ShloMosaic Idealize.ShloMosaic.TcCoe Idealize.SL.Sem

theorem inb_head (h : Fin 4) : ∀ a, (![h.val, 0, 0] : Fin 3 → ℕ) a + S1x512x128.size a ≤ S4x512x128.size a := by
  intro a
  match a with
  | ⟨0, _⟩ => show h.val + 1 ≤ 4; omega
  | ⟨1, _⟩ => show 0 + 512 ≤ 512; omega
  | ⟨2, _⟩ => show 0 + 128 ≤ 128; omega

/-- The stores of four heads to the scratch, the last first. -/
abbrev headStores (P : Fin 4 → Vec Ideal S1x512x128 .f32) : List (View.Piece (Elt Ideal) S4x512x128 .f32) :=
  List.ofFn fun k : Fin 4 =>
    ⟨Rect.unit (s := S4x512x128) ![(⟨3 - k.val, by omega⟩ : Fin 4).val, 0, 0] S1x512x128.size (inb_head _),
      P ⟨3 - k.val, by omega⟩⟩

/-- The scratch after them, whatever it held. -/
theorem read_heads (P : Fin 4 → Vec Ideal S1x512x128 .f32) (rest : List (View.Piece (Elt Ideal) S4x512x128 .f32))
    (h : Fin 4) (r : Fin 512) (e : Fin 128) :
    View.canon (headStores P ++ rest) (ix3 h r e) = P h (ix3 0 r e) := by
  have hh := h.isLt
  refine (View.canon_append_of_pieces
    (fun y => P ⟨(y 0).val, (y 0).isLt⟩ (ix3 0 ⟨(y 1).val, (y 1).isLt⟩ ⟨(y 2).val, (y 2).isLt⟩))
    rest _ (fun p hp x => ?_) _ ?_).trans ?_
  · obtain ⟨k, rfl⟩ := List.mem_ofFn.mp hp
    have hk := k.isLt
    have e0 : (x 0).val < 1 := (x 0).isLt
    show P ⟨3 - k.val, _⟩ x
      = P ⟨3 - k.val + 1 * (x 0).val, _⟩ (ix3 0 ⟨0 + 1 * (x 1).val, _⟩ ⟨0 + 1 * (x 2).val, _⟩)
    refine congr (congrArg P (Fin.ext ?_)) (funext fun a => Fin.ext ?_)
    · show 3 - k.val = 3 - k.val + 1 * (x 0).val; omega
    · match a with
      | ⟨0, _⟩ => show (x 0).val = 0; omega
      | ⟨1, _⟩ => show (x 1).val = 0 + 1 * (x 1).val; omega
      | ⟨2, _⟩ => show (x 2).val = 0 + 1 * (x 2).val; omega
  · refine ⟨_, List.mem_ofFn.mpr ⟨⟨3 - h.val, by omega⟩, rfl⟩, (Rect.mem_set_unit (inb := inb_head _)).mpr ?_⟩
    intro a
    match a with
    | ⟨0, _⟩ => show 3 - (3 - h.val) ≤ h.val ∧ h.val < 3 - (3 - h.val) + 1; omega
    | ⟨1, _⟩ => show 0 ≤ r.val ∧ r.val < 0 + 512; omega
    | ⟨2, _⟩ => show 0 ≤ e.val ∧ e.val < 0 + 128; omega
  · rfl

/-- The same four stores, written out, before `rest`. -/
def fourStores (a b d e : Vec Ideal S1x512x128 .f32) (rest : List (View.Piece (Elt Ideal) S4x512x128 .f32)) :
    List (View.Piece (Elt Ideal) S4x512x128 .f32) :=
  ⟨Rect.unit (s := S4x512x128) ![3, 0, 0] S1x512x128.size inb_S4x512x128_S1x512x128_3_0_0, e⟩
    :: ⟨Rect.unit (s := S4x512x128) ![2, 0, 0] S1x512x128.size inb_S4x512x128_S1x512x128_2_0_0, d⟩
    :: ⟨Rect.unit (s := S4x512x128) ![1, 0, 0] S1x512x128.size inb_S4x512x128_S1x512x128_1_0_0, b⟩
    :: ⟨Rect.unit (s := S4x512x128) ![0, 0, 0] S1x512x128.size inb_S4x512x128_S1x512x128_0_0_0, a⟩ :: rest

theorem fourStores_eq (a b d e : Vec Ideal S1x512x128 .f32) (rest : List (View.Piece (Elt Ideal) S4x512x128 .f32)) :
    fourStores a b d e rest = headStores ![a, b, d, e] ++ rest := rfl

theorem inb_fourth (q h : Fin 4) : ∀ a, S1x128x128.size a = 0 ∨
    (![h.val, q.val, 0] : Fin 3 → ℕ) a + (![1, 4, 1] : Fin 3 → ℕ) a * (S1x128x128.size a - 1) < S4x512x128.size a := by
  intro a
  right
  match a with
  | ⟨0, _⟩ => show h.val + 1 * (1 - 1) < 4; omega
  | ⟨1, _⟩ => show q.val + 4 * (128 - 1) < 512; omega
  | ⟨2, _⟩ => show 0 + 1 * (128 - 1) < 128; omega

theorem inb_class4 (q h : Fin 4) :
    ∀ a, (![q.val, 0, h.val * 128] : Fin 3 → ℕ) a + S1x128x128.size a ≤ S4x128x512.size a := by
  intro a
  match a with
  | ⟨0, _⟩ => show q.val + 1 ≤ 4; omega
  | ⟨1, _⟩ => show 0 + 128 ≤ 128; omega
  | ⟨2, _⟩ => show h.val * 128 + 128 ≤ 512; omega

theorem inb_sixteenth (q : Fin 16) (h : Fin 4) : ∀ a, S1x32x128.size a = 0 ∨
    (![h.val, q.val, 0] : Fin 3 → ℕ) a + (![1, 16, 1] : Fin 3 → ℕ) a * (S1x32x128.size a - 1) < S4x512x128.size a := by
  intro a
  right
  match a with
  | ⟨0, _⟩ => show h.val + 1 * (1 - 1) < 4; omega
  | ⟨1, _⟩ => show q.val + 16 * (32 - 1) < 512; omega
  | ⟨2, _⟩ => show 0 + 1 * (128 - 1) < 128; omega

theorem inb_class16 (q : Fin 16) (h : Fin 4) :
    ∀ a, (![q.val, 0, h.val * 128] : Fin 3 → ℕ) a + S1x32x128.size a ≤ S16x32x512.size a := by
  intro a
  match a with
  | ⟨0, _⟩ => show q.val + 1 ≤ 16; omega
  | ⟨1, _⟩ => show 0 + 32 ≤ 32; omega
  | ⟨2, _⟩ => show h.val * 128 + 128 ≤ 512; omega

/-- Every fourth row of head `h` from row `q`, as it goes to the result. -/
def everyFourth (L : List (View.Piece (Elt Ideal) S4x512x128 .f32)) (q h : Fin 4) : Vec Ideal S1x128x128 .bf16 :=
  k0_pay20 (scM0_1.view.readCov L ⟨![h.val, q.val, 0], S1x128x128.size, ![1, 4, 1], inb_fourth q h⟩)

/-- Every sixteenth row of head `h` from row `q`. -/
def everySixteenth (L : List (View.Piece (Elt Ideal) S4x512x128 .f32)) (q : Fin 16) (h : Fin 4) :
    Vec Ideal S1x32x128 .bf16 :=
  k0_pay49 (scM0_1.view.readCov L ⟨![h.val, q.val, 0], S1x32x128.size, ![1, 16, 1], inb_sixteenth q h⟩)

/-- The stores of a result in four classes, from the scratch that `L` left. -/
abbrev classStores4 (L : List (View.Piece (Elt Ideal) S4x512x128 .f32)) : List (View.Piece (Elt Ideal) S4x128x512 .bf16) :=
  List.ofFn fun k : Fin 16 =>
    ⟨Rect.unit (s := S4x128x512) ![(⟨3 - k.val / 4, by omega⟩ : Fin 4).val, 0, (⟨3 - k.val % 4, by omega⟩ : Fin 4).val * 128]
        S1x128x128.size (inb_class4 _ _),
      everyFourth L ⟨3 - k.val / 4, by omega⟩ ⟨3 - k.val % 4, by omega⟩⟩

/-- The stores of a result in sixteen classes. -/
abbrev classStores16 (L : List (View.Piece (Elt Ideal) S4x512x128 .f32)) :
    List (View.Piece (Elt Ideal) S16x32x512 .bf16) :=
  List.ofFn fun k : Fin 64 =>
    ⟨Rect.unit (s := S16x32x512) ![(⟨15 - k.val / 4, by omega⟩ : Fin 16).val, 0, (⟨3 - k.val % 4, by omega⟩ : Fin 4).val * 128]
        S1x32x128.size (inb_class16 _ _),
      everySixteenth L ⟨15 - k.val / 4, by omega⟩ ⟨3 - k.val % 4, by omega⟩⟩

/-- The store of an undilated result. -/
abbrev wholeStore (b : FVec Ideal S512x512 .f32) : List (View.Piece (Elt Ideal) S1x512x512 .bf16) :=
  [⟨Rect.unit ![0, 0, 0] S1x512x512.size inb_S1x512x512_S1x512x512_0_0_0, whole b⟩]

theorem everyFourth_apply (P : Fin 4 → Vec Ideal S1x512x128 .f32) (rest : List (View.Piece (Elt Ideal) S4x512x128 .f32))
    (q h : Fin 4) (i e : Fin 128) : everyFourth (headStores P ++ rest) q h (ix3 0 i e)
      = P h (ix3 0 ⟨i.val * 4 + q.val, by omega⟩ e) := by
  refine Eq.trans ?_ (read_heads P rest h ⟨i.val * 4 + q.val, by omega⟩ e)
  unfold everyFourth
  rw [View.readCov_eq_canon']
  generalize View.canon (headStores P ++ rest) = f
  have hc : ∀ v : Vec Ideal S1x128x128 .f32, k0_pay20 (F := Ideal) v (ix3 0 i e) = v (ix3 0 i e) := fun v => by
    pointwise [k0_pay20]
  refine (hc _).trans (congrArg f (funext fun a => Fin.ext ?_))
  match a with
  | ⟨0, _⟩ => show h.val + 1 * 0 = h.val; omega
  | ⟨1, _⟩ => show q.val + 4 * i.val = i.val * 4 + q.val; omega
  | ⟨2, _⟩ => show 0 + 1 * e.val = e.val; omega

theorem everySixteenth_apply (P : Fin 4 → Vec Ideal S1x512x128 .f32) (rest : List (View.Piece (Elt Ideal) S4x512x128 .f32))
    (q : Fin 16) (h : Fin 4) (i : Fin 32) (e : Fin 128) : everySixteenth (headStores P ++ rest) q h (ix3 0 i e)
      = P h (ix3 0 ⟨i.val * 16 + q.val, by omega⟩ e) := by
  refine Eq.trans ?_ (read_heads P rest h ⟨i.val * 16 + q.val, by omega⟩ e)
  unfold everySixteenth
  rw [View.readCov_eq_canon']
  generalize View.canon (headStores P ++ rest) = f
  have hc : ∀ v : Vec Ideal S1x32x128 .f32, k0_pay49 (F := Ideal) v (ix3 0 i e) = v (ix3 0 i e) := fun v => by
    pointwise [k0_pay49]
  refine (hc _).trans (congrArg f (funext fun a => Fin.ext ?_))
  match a with
  | ⟨0, _⟩ => show h.val + 1 * 0 = h.val; omega
  | ⟨1, _⟩ => show q.val + 16 * i.val = i.val * 16 + q.val; omega
  | ⟨2, _⟩ => show 0 + 1 * e.val = e.val; omega

/-- Stores of this layout, read at row `i` of class `q` and lane `e` of head `h`. -/
theorem read_layout4 (f : Fin 4 → Fin 4 → Vec Ideal S1x128x128 .bf16) (q : Fin 4) (i : Fin 128) (h : Fin 4) (e : Fin 128) :
    View.canon (List.ofFn fun k : Fin 16 =>
        (⟨Rect.unit (s := S4x128x512) ![(⟨3 - k.val / 4, by omega⟩ : Fin 4).val, 0, (⟨3 - k.val % 4, by omega⟩ : Fin 4).val * 128]
            S1x128x128.size (inb_class4 _ _),
          f ⟨3 - k.val / 4, by omega⟩ ⟨3 - k.val % 4, by omega⟩⟩ : View.Piece (Elt Ideal) S4x128x512 .bf16))
      (ix3 q i ⟨h.val * 128 + e.val, by omega⟩) = f q h (ix3 0 i e) := by
  have hq := q.isLt
  have hh := h.isLt
  have hi := i.isLt
  have he := e.isLt
  refine View.canon_eq_of_allAt _ _ _ ?_ ?_
  · refine ⟨_, List.mem_ofFn.mpr ⟨⟨(3 - q.val) * 4 + (3 - h.val), by omega⟩, rfl⟩,
      (Rect.mem_set_unit (inb := inb_class4 _ _)).mpr ?_⟩
    intro a
    match a with
    | ⟨0, _⟩ =>
      show 3 - ((3 - q.val) * 4 + (3 - h.val)) / 4 ≤ q.val ∧ q.val < 3 - ((3 - q.val) * 4 + (3 - h.val)) / 4 + 1
      omega
    | ⟨1, _⟩ => show 0 ≤ i.val ∧ i.val < 0 + 128; omega
    | ⟨2, _⟩ =>
      show (3 - ((3 - q.val) * 4 + (3 - h.val)) % 4) * 128 ≤ h.val * 128 + e.val
        ∧ h.val * 128 + e.val < (3 - ((3 - q.val) * 4 + (3 - h.val)) % 4) * 128 + 128
      omega
  · intro p hp x hx
    obtain ⟨k, rfl⟩ := List.mem_ofFn.mp hp
    have hk := k.isLt
    have e0 : (x 0).val < 1 := (x 0).isLt
    have e2 : (x 2).val < 128 := (x 2).isLt
    have h0 : 3 - k.val / 4 + 1 * (x 0).val = q.val := congrArg (fun i => (i 0).val) hx
    have h1 : 0 + 1 * (x 1).val = i.val := congrArg (fun i => (i 1).val) hx
    have h2 : (3 - k.val % 4) * 128 + 1 * (x 2).val = h.val * 128 + e.val := congrArg (fun i => (i 2).val) hx
    have hqk : (⟨3 - k.val / 4, by omega⟩ : Fin 4) = q := Fin.ext (by show 3 - k.val / 4 = q.val; omega)
    have hhk : (⟨3 - k.val % 4, by omega⟩ : Fin 4) = h := Fin.ext (by show 3 - k.val % 4 = h.val; omega)
    have hxx : x = ix3 0 i e := funext fun a => Fin.ext (by
      match a with
      | ⟨0, _⟩ => show (x 0).val = 0; omega
      | ⟨1, _⟩ => show (x 1).val = i.val; omega
      | ⟨2, _⟩ => show (x 2).val = e.val; omega)
    exact congr (congrArg₂ f hqk hhk) hxx

theorem read_layout16 (f : Fin 16 → Fin 4 → Vec Ideal S1x32x128 .bf16) (q : Fin 16) (i : Fin 32) (h : Fin 4)
    (e : Fin 128) :
    View.canon (List.ofFn fun k : Fin 64 =>
        (⟨Rect.unit (s := S16x32x512) ![(⟨15 - k.val / 4, by omega⟩ : Fin 16).val, 0, (⟨3 - k.val % 4, by omega⟩ : Fin 4).val * 128]
            S1x32x128.size (inb_class16 _ _),
          f ⟨15 - k.val / 4, by omega⟩ ⟨3 - k.val % 4, by omega⟩⟩ : View.Piece (Elt Ideal) S16x32x512 .bf16))
      (ix3 q i ⟨h.val * 128 + e.val, by omega⟩) = f q h (ix3 0 i e) := by
  have hq := q.isLt
  have hh := h.isLt
  have hi := i.isLt
  have he := e.isLt
  refine View.canon_eq_of_allAt _ _ _ ?_ ?_
  · refine ⟨_, List.mem_ofFn.mpr ⟨⟨(15 - q.val) * 4 + (3 - h.val), by omega⟩, rfl⟩,
      (Rect.mem_set_unit (inb := inb_class16 _ _)).mpr ?_⟩
    intro a
    match a with
    | ⟨0, _⟩ =>
      show 15 - ((15 - q.val) * 4 + (3 - h.val)) / 4 ≤ q.val ∧ q.val < 15 - ((15 - q.val) * 4 + (3 - h.val)) / 4 + 1
      omega
    | ⟨1, _⟩ => show 0 ≤ i.val ∧ i.val < 0 + 32; omega
    | ⟨2, _⟩ =>
      show (3 - ((15 - q.val) * 4 + (3 - h.val)) % 4) * 128 ≤ h.val * 128 + e.val
        ∧ h.val * 128 + e.val < (3 - ((15 - q.val) * 4 + (3 - h.val)) % 4) * 128 + 128
      omega
  · intro p hp x hx
    obtain ⟨k, rfl⟩ := List.mem_ofFn.mp hp
    have hk := k.isLt
    have e0 : (x 0).val < 1 := (x 0).isLt
    have e2 : (x 2).val < 128 := (x 2).isLt
    have h0 : 15 - k.val / 4 + 1 * (x 0).val = q.val := congrArg (fun i => (i 0).val) hx
    have h1 : 0 + 1 * (x 1).val = i.val := congrArg (fun i => (i 1).val) hx
    have h2 : (3 - k.val % 4) * 128 + 1 * (x 2).val = h.val * 128 + e.val := congrArg (fun i => (i 2).val) hx
    have hqk : (⟨15 - k.val / 4, by omega⟩ : Fin 16) = q := Fin.ext (by show 15 - k.val / 4 = q.val; omega)
    have hhk : (⟨3 - k.val % 4, by omega⟩ : Fin 4) = h := Fin.ext (by show 3 - k.val % 4 = h.val; omega)
    have hxx : x = ix3 0 i e := funext fun a => Fin.ext (by
      match a with
      | ⟨0, _⟩ => show (x 0).val = 0; omega
      | ⟨1, _⟩ => show (x 1).val = i.val; omega
      | ⟨2, _⟩ => show (x 2).val = e.val; omega)
    exact congr (congrArg₂ f hqk hhk) hxx

/-- Four heads through the scratch to four classes. -/
theorem read_class4 (P : Fin 4 → Vec Ideal S1x512x128 .f32) (rest : List (View.Piece (Elt Ideal) S4x512x128 .f32))
    (q : Fin 4) (i : Fin 128) (h : Fin 4) (e : Fin 128) :
    View.canon (classStores4 (headStores P ++ rest)) (ix3 q i ⟨h.val * 128 + e.val, by omega⟩)
      = P h (ix3 0 ⟨i.val * 4 + q.val, by omega⟩ e) :=
  (read_layout4 (everyFourth (headStores P ++ rest)) q i h e).trans (everyFourth_apply P rest q h i e)

/-- Four heads through the scratch to sixteen classes. -/
theorem read_class16 (P : Fin 4 → Vec Ideal S1x512x128 .f32) (rest : List (View.Piece (Elt Ideal) S4x512x128 .f32))
    (q : Fin 16) (i : Fin 32) (h : Fin 4) (e : Fin 128) :
    View.canon (classStores16 (headStores P ++ rest)) (ix3 q i ⟨h.val * 128 + e.val, by omega⟩)
      = P h (ix3 0 ⟨i.val * 16 + q.val, by omega⟩ e) :=
  (read_layout16 (everySixteenth (headStores P ++ rest)) q i h e).trans (everySixteenth_apply P rest q h i e)

end Cert.ProjIdeal.RefValue

end
-- ==== Proof.KvValue.Stores.lean ====
/-
  The heads of the dilated groups, as the body stores them to its scratch.
-/
module

public import proofs.«01_k».proof.Proof.KvValue.Loads
public import proofs.«01_k».proof.Proof.KvValue.Pieces

@[expose] public section

set_option maxRecDepth 16384

noncomputable section

namespace Cert.ProjIdeal.RefValue

open Cert.ProjIdeal Cert.ProjIdeal.Gen Cert.ProjIdeal.Value Idealize.ShloMosaic Idealize.ShloMosaic.TcCoe Idealize.SL.Sem

variable (m : (ℓ : Loc nD τ sig) → Buf (Elt Ideal) ℓ)

/-- The stores to the scratch once the keys of the second group are there. -/
def scratchK1 (c : Dev nD) (t : Fin cfg0.N) : List (View.Piece (Elt Ideal) S4x512x128 .f32) :=
  let x := rowsKv m c t
  let w := weightKv m c t 1
  let g := gainKv m c t 1
  fourStores (k0_pay16 (k0_pay9 g) (k0_pay10 x w g) (k0_pay11 x w g) (k0_pay12 x w g) (k0_pay13 x w) (k0_pay14 x w))
    (k0_pay17 (k0_pay9 g) (k0_pay10 x w g) (k0_pay11 x w g) (k0_pay12 x w g) (k0_pay13 x w) (k0_pay14 x w))
    (k0_pay18 (k0_pay9 g) (k0_pay10 x w g) (k0_pay11 x w g) (k0_pay12 x w g) (k0_pay13 x w) (k0_pay14 x w))
    (k0_pay19 (k0_pay9 g) (k0_pay10 x w g) (k0_pay11 x w g) (k0_pay12 x w g) (k0_pay13 x w) (k0_pay14 x w)) []

/-- And those of the third group. -/
def scratchK2 (c : Dev nD) (t : Fin cfg0.N) : List (View.Piece (Elt Ideal) S4x512x128 .f32) :=
  let x := rowsKv m c t
  let w := weightKv m c t 2
  let g := gainKv m c t 2
  fourStores (k0_pay45 (k0_pay38 x w) (k0_pay39 g) (k0_pay40 x w g) (k0_pay41 x w g) (k0_pay42 x w) (k0_pay43 x w))
    (k0_pay46 (k0_pay38 x w) (k0_pay39 g) (k0_pay40 x w g) (k0_pay41 x w g) (k0_pay42 x w) (k0_pay43 x w))
    (k0_pay47 (k0_pay38 x w) (k0_pay39 g) (k0_pay40 x w g) (k0_pay41 x w g) (k0_pay42 x w) (k0_pay43 x w))
    (k0_pay48 (k0_pay38 x w) (k0_pay39 g) (k0_pay40 x w g) (k0_pay41 x w g) (k0_pay42 x w) (k0_pay43 x w))
    (scratchK1 m c t)

/-- And the values of the second group. -/
def scratchV1 (c : Dev nD) (t : Fin cfg0.N) : List (View.Piece (Elt Ideal) S4x512x128 .f32) :=
  let x := rowsKv m c t
  let w := weightKv m c t 4
  fourStores (k0_pay122 x w) (k0_pay123 x w) (k0_pay124 x w) (k0_pay125 x w) (scratchK2 m c t)

/-- And those of the third. -/
def scratchV2 (c : Dev nD) (t : Fin cfg0.N) : List (View.Piece (Elt Ideal) S4x512x128 .f32) :=
  let x := rowsKv m c t
  let w := weightKv m c t 5
  fourStores (k0_pay146 x w) (k0_pay147 x w) (k0_pay148 x w) (k0_pay149 x w) (scratchV1 m c t)

/-- And the queries of the second group. -/
def scratchQ1 (c : Dev nD) (t : Fin cfg0.N) : List (View.Piece (Elt Ideal) S4x512x128 .f32) :=
  let x := rowsQ m c t
  let w := weightQ m c t 1
  let g := gainQ m c t 1
  fourStores
    (k0_pay237 (k0_pay230 x w) (k0_pay231 g) (k0_pay232 x w g) (k0_pay233 x w g) (k0_pay234 x w) (k0_pay235 g))
    (k0_pay238 (k0_pay230 x w) (k0_pay231 g) (k0_pay232 x w g) (k0_pay233 x w g) (k0_pay234 x w) (k0_pay235 g))
    (k0_pay239 (k0_pay230 x w) (k0_pay231 g) (k0_pay232 x w g) (k0_pay233 x w g) (k0_pay234 x w) (k0_pay235 g))
    (k0_pay240 (k0_pay230 x w) (k0_pay231 g) (k0_pay232 x w g) (k0_pay233 x w g) (k0_pay234 x w) (k0_pay235 g))
    (scratchV2 m c t)

/-- And those of the third. -/
def scratchQ2 (c : Dev nD) (t : Fin cfg0.N) : List (View.Piece (Elt Ideal) S4x512x128 .f32) :=
  let x := rowsQ m c t
  let w := weightQ m c t 2
  let g := gainQ m c t 2
  let a := k0_pay263 (F := Ideal) (k0_pay258 x w) (k0_pay259 g) (k0_pay260 x w g) (k0_pay261 x w) (k0_pay262 x w)
  fourStores (k0_pay264 (k0_pay258 x w) (k0_pay259 g) (k0_pay260 x w g) (k0_pay261 x w) (k0_pay262 x w))
    (k0_pay265 a) (k0_pay266 a) (k0_pay267 a) (scratchQ1 m c t)

/-! What is stored last: a block's four heads. -/

theorem scratchK1_eq (c : Dev nD) (t : Fin cfg0.N) :
    scratchK1 m c t = headStores (stored (keysOf m c t 1)) ++ [] := rfl

theorem scratchK2_eq (c : Dev nD) (t : Fin cfg0.N) :
    scratchK2 m c t = headStores (stored (keysOf m c t 2)) ++ scratchK1 m c t := rfl

theorem scratchV1_eq (c : Dev nD) (t : Fin cfg0.N) :
    scratchV1 m c t = headStores (stored (columnsKv m c t 4)) ++ scratchK2 m c t := rfl

theorem scratchV2_eq (c : Dev nD) (t : Fin cfg0.N) :
    scratchV2 m c t = headStores (stored (columnsKv m c t 5)) ++ scratchV1 m c t := rfl

theorem scratchQ1_eq (c : Dev nD) (t : Fin cfg0.N) :
    scratchQ1 m c t = headStores (stored (queriesOf m c t 1)) ++ scratchV2 m c t := rfl

theorem scratchQ2_eq (c : Dev nD) (t : Fin cfg0.N) :
    scratchQ2 m c t = headStores (stored (queriesOf m c t 2)) ++ scratchQ1 m c t := rfl

end Cert.ProjIdeal.RefValue

end
-- ==== Proof.KvValue.Tile.lean ====
/-
  The ten blocks the body of the first dilated layer's projection leaves at a point.
-/
module

public import proofs.«01_k».proof.Proof.KvValue.Stores
public import proofs.«01_k».proof.Proof.KvValue.Pieces

@[expose] public section

set_option maxRecDepth 16384

noncomputable section

namespace Cert.ProjIdeal.RefValue

open Cert.ProjIdeal Cert.ProjIdeal.Gen Cert.ProjIdeal.Value Idealize.ShloMosaic Idealize.ShloMosaic.TcCoe Idealize.SL.Sem

variable (m : (ℓ : Loc nD τ sig) → Buf (Elt Ideal) ℓ)

/-- The keys of the first group. -/
theorem keys_block0 (c : Dev nD) (t : Fin cfg0.N) : (outsAt0 m c t).1 = View.canon (wholeStore (keysOf m c t 0)) := by
  unfold outsAt0
  dsimp only
  unfold out0_A_7
  rw [View.read_writes_eq_canon]
  · unfold kernelRun0_A
    dsimp only
    sl_unfold_words
    rfl
  · intro y; apply cover0_A_7

/-- The keys of the second group, by class. -/
theorem keys_block1 (c : Dev nD) (t : Fin cfg0.N) : (outsAt0 m c t).2.1 = View.canon (classStores4 (scratchK1 m c t)) := by
  unfold outsAt0
  dsimp only
  unfold out0_A_8
  rw [View.read_writes_eq_canon]
  · unfold kernelRun0_A
    dsimp only
    sl_unfold_words
    rfl
  · intro y; apply cover0_A_8

/-- The keys of the third group, by class. -/
theorem keys_block2 (c : Dev nD) (t : Fin cfg0.N) : (outsAt0 m c t).2.2.1 = View.canon (classStores16 (scratchK2 m c t)) := by
  unfold outsAt0
  dsimp only
  unfold out0_A_9
  rw [View.read_writes_eq_canon]
  · unfold kernelRun0_A
    dsimp only
    sl_unfold_words
    rfl
  · intro y; apply cover0_A_9

/-- The values of the first group. -/
theorem values_block0 (c : Dev nD) (t : Fin cfg0.N) : (outsAt0 m c t).2.2.2.1 = View.canon (wholeStore (columnsKv m c t 3)) := by
  unfold outsAt0
  dsimp only
  unfold out0_A_10
  rw [View.read_writes_eq_canon]
  · unfold kernelRun0_A
    dsimp only
    sl_unfold_words
    rfl
  · intro y; apply cover0_A_10

/-- The values of the second group, by class. -/
theorem values_block1 (c : Dev nD) (t : Fin cfg0.N) : (outsAt0 m c t).2.2.2.2.1 = View.canon (classStores4 (scratchV1 m c t)) := by
  unfold outsAt0
  dsimp only
  unfold out0_A_11
  rw [View.read_writes_eq_canon]
  · unfold kernelRun0_A
    dsimp only
    sl_unfold_words
    rfl
  · intro y; apply cover0_A_11

/-- The values of the third group, by class. -/
theorem values_block2 (c : Dev nD) (t : Fin cfg0.N) : (outsAt0 m c t).2.2.2.2.2.1 = View.canon (classStores16 (scratchV2 m c t)) := by
  unfold outsAt0
  dsimp only
  unfold out0_A_12
  rw [View.read_writes_eq_canon]
  · unfold kernelRun0_A
    dsimp only
    sl_unfold_words
    rfl
  · intro y; apply cover0_A_12

/-- The queries of the first group. -/
theorem queries_block0 (c : Dev nD) (t : Fin cfg0.N) : (outsAt0 m c t).2.2.2.2.2.2.1 = View.canon (wholeStore (queriesOf m c t 0)) := by
  unfold outsAt0
  dsimp only
  unfold out0_A_13
  rw [View.read_writes_eq_canon]
  · unfold kernelRun0_A
    dsimp only
    sl_unfold_words
    rfl
  · intro y; apply cover0_A_13

/-- The queries of the second group, by class. -/
theorem queries_block1 (c : Dev nD) (t : Fin cfg0.N) : (outsAt0 m c t).2.2.2.2.2.2.2.1 = View.canon (classStores4 (scratchQ1 m c t)) := by
  unfold outsAt0
  dsimp only
  unfold out0_A_14
  rw [View.read_writes_eq_canon]
  · unfold kernelRun0_A
    dsimp only
    sl_unfold_words
    rfl
  · intro y; apply cover0_A_14

/-- The queries of the third group, by class. -/
theorem queries_block2 (c : Dev nD) (t : Fin cfg0.N) : (outsAt0 m c t).2.2.2.2.2.2.2.2.1 = View.canon (classStores16 (scratchQ2 m c t)) := by
  unfold outsAt0
  dsimp only
  unfold out0_A_15
  rw [View.read_writes_eq_canon]
  · unfold kernelRun0_A
    dsimp only
    sl_unfold_words
    rfl
  · intro y; apply cover0_A_15

/-- The memory queries. -/
theorem memory_block (c : Dev nD) (t : Fin cfg0.N) : (outsAt0 m c t).2.2.2.2.2.2.2.2.2 = View.canon (wholeStore (queriesOf m c t 3)) := by
  unfold outsAt0
  dsimp only
  unfold out0_A_16
  rw [View.read_writes_eq_canon]
  · unfold kernelRun0_A
    dsimp only
    sl_unfold_words
    rfl
  · intro y; apply cover0_A_16

end Cert.ProjIdeal.RefValue

end
-- ==== Proof.KvValue.Final.lean ====
/-
  The ten arrays the first dilated layer's projection leaves are the ten values of its reference.
-/
module

public import proofs.«01_k».proof.Defs
public import proofs.«01_k».proof.Proof.KvValue.Blocks
public import proofs.«01_k».proof.Proof.KvValue.Tile
public import proofs.«01_k».proof.Proof.ProjValue.Final
public import proofs.«01_k».proof.Proof.Gen.ProjReferenceIdeal.Run
public import Idealize.ShloMosaic.Lib.Claim

@[expose] public section

set_option maxRecDepth 16384

noncomputable section

namespace Cert.ProjIdeal.RefValue

open Cert.ProjIdeal Cert.ProjIdeal.Gen Cert.ProjIdeal.Value Idealize.ShloMosaic Idealize.ShloMosaic.TcCoe Idealize.SL.Sem
open Cert.ProjReferenceIdeal.Read
open Cert.ProjQIdeal.RefValue (split_lane ref_first ref_second ref_third ref_memory)

variable (m : (ℓ : Loc nD τ sig) → Buf (Elt Ideal) ℓ)

/-! A block of four heads, in each of the three layouts of a result. -/

theorem whole_at (b : FVec Ideal S512x512 .f32) (r j : Fin 512) : View.canon (wholeStore b) (ix3 0 r j) = b (ix2 r j) := by
  rw [View.canon_unit_zero (S := S1x512x512) hz3]
  exact whole_apply b r j

theorem class4_at (b : FVec Ideal S512x512 .f32) (rest : List (View.Piece (Elt Ideal) S4x512x128 .f32))
    (q : Fin 4) (i : Fin 128) (h : Fin 4) (e : Fin 128) :
    View.canon (classStores4 (headStores (stored b) ++ rest)) (ix3 q i ⟨h.val * 128 + e.val, by omega⟩)
      = b (ix2 ⟨i.val * 4 + q.val, by omega⟩ ⟨h.val * 128 + e.val, by omega⟩) :=
  (read_class4 (stored b) rest q i h e).trans (stored_apply b h _ e)

theorem class16_at (b : FVec Ideal S512x512 .f32) (rest : List (View.Piece (Elt Ideal) S4x512x128 .f32))
    (q : Fin 16) (i : Fin 32) (h : Fin 4) (e : Fin 128) :
    View.canon (classStores16 (headStores (stored b) ++ rest)) (ix3 q i ⟨h.val * 128 + e.val, by omega⟩)
      = b (ix2 ⟨i.val * 16 + q.val, by omega⟩ ⟨h.val * 128 + e.val, by omega⟩) :=
  (read_class16 (stored b) rest q i h e).trans (stored_apply b h _ e)

/-! The indices of the three layouts, and the rows they hold. -/

theorem split_rows (y : S1x512x512.Idx) : ∃ (r : Fin 512) (h : Fin 4) (e : Fin 128),
    y = ix3 0 r ⟨h.val * 128 + e.val, by omega⟩ := by
  obtain ⟨h, e, hj⟩ := split_lane ⟨(y 2).val, (y 2).isLt⟩
  refine ⟨⟨(y 1).val, (y 1).isLt⟩, h, e, funext fun a => Fin.ext ?_⟩
  match a with
  | ⟨0, _⟩ => have : (y 0).val < 1 := (y 0).isLt; show (y 0).val = 0; omega
  | ⟨1, _⟩ => rfl
  | ⟨2, _⟩ => exact congrArg Fin.val hj

theorem split_class4 (y : S4x128x512.Idx) : ∃ (q : Fin 4) (i : Fin 128) (h : Fin 4) (e : Fin 128),
    y = ix3 q i ⟨h.val * 128 + e.val, by omega⟩ := by
  obtain ⟨h, e, hj⟩ := split_lane ⟨(y 2).val, (y 2).isLt⟩
  refine ⟨⟨(y 0).val, (y 0).isLt⟩, ⟨(y 1).val, (y 1).isLt⟩, h, e, funext fun a => Fin.ext ?_⟩
  match a with
  | ⟨0, _⟩ => rfl
  | ⟨1, _⟩ => rfl
  | ⟨2, _⟩ => exact congrArg Fin.val hj

theorem split_class16 (y : S16x32x512.Idx) : ∃ (q : Fin 16) (i : Fin 32) (h : Fin 4) (e : Fin 128),
    y = ix3 q i ⟨h.val * 128 + e.val, by omega⟩ := by
  obtain ⟨h, e, hj⟩ := split_lane ⟨(y 2).val, (y 2).isLt⟩
  refine ⟨⟨(y 0).val, (y 0).isLt⟩, ⟨(y 1).val, (y 1).isLt⟩, h, e, funext fun a => Fin.ext ?_⟩
  match a with
  | ⟨0, _⟩ => rfl
  | ⟨1, _⟩ => rfl
  | ⟨2, _⟩ => exact congrArg Fin.val hj

/-- Row `i` of class `q` of four in block `t`, among all rows. -/
theorem row_class4 (t : Fin cfg0.N) (q : Fin 4) (i : Fin 128) : row t ⟨i.val * 4 + q.val, by omega⟩
    = ⟨(t.val * 128 + i.val) * 4 + q.val, by have := point_lt t; omega⟩ :=
  Fin.ext (by show t.val * 512 + (i.val * 4 + q.val) = (t.val * 128 + i.val) * 4 + q.val; omega)

/-- Row `i` of class `q` of sixteen. -/
theorem row_class16 (t : Fin cfg0.N) (q : Fin 16) (i : Fin 32) : row t ⟨i.val * 16 + q.val, by omega⟩
    = ⟨(t.val * 32 + i.val) * 16 + q.val, by have := point_lt t; omega⟩ :=
  Fin.ext (by show t.val * 512 + (i.val * 16 + q.val) = (t.val * 32 + i.val) * 16 + q.val; omega)

/-- A window stands at block `t` of the middle axis. -/
def At (I : Fin 3 → ℕ) (t : Fin cfg0.N) : Prop := I 0 = 0 ∧ I 1 = t.val ∧ I 2 = 0

instance (I : Fin 3 → ℕ) (t : Fin cfg0.N) : Decidable (At I t) := inferInstanceAs (Decidable (_ ∧ _ ∧ _))

/-- All ten output windows do. -/
theorem out_places : ∀ t : Fin cfg0.N, (At (win0_7.index t) t ∧ At (win0_8.index t) t ∧ At (win0_9.index t) t)
    ∧ (At (win0_10.index t) t ∧ At (win0_11.index t) t ∧ At (win0_12.index t) t)
    ∧ (At (win0_13.index t) t ∧ At (win0_14.index t) t ∧ At (win0_15.index t) t) ∧ At (win0_16.index t) t :=
  (by decide +kernel : ∀ t : Fin grid0.N, _)

/-- Where row `r` of such a block lies in an undilated result. -/
theorem place_rows (I : Fin 3 → ℕ) (t : Fin cfg0.N) (hI : At I t) (r j : Fin 512) (z : S1x8192x512.Idx)
    (hz : ∀ a, (z a).val = I a * S1x512x512.size a + 1 * (ix3 (0 : Fin 1) r j a).val) : z = ix3 0 (row t r) j := by
  obtain ⟨e0, e1, e2⟩ := hI
  funext a; apply Fin.ext
  match a with
  | ⟨0, _⟩ => refine (hz 0).trans ?_; show I 0 * 1 + 1 * 0 = 0; omega
  | ⟨1, _⟩ => refine (hz 1).trans ?_; show I 1 * 512 + 1 * r.val = t.val * 512 + r.val; omega
  | ⟨2, _⟩ => refine (hz 2).trans ?_; show I 2 * 512 + 1 * j.val = j.val; omega

/-- And in a result of four classes. -/
theorem place_class4 (I : Fin 3 → ℕ) (t : Fin cfg0.N) (hI : At I t) (q : Fin 4) (i : Fin 128) (j : Fin 512)
    (z : S4x2048x512.Idx) (hz : ∀ a, (z a).val = I a * S4x128x512.size a + 1 * (ix3 q i j a).val) :
    z = ix3 q ⟨t.val * 128 + i.val, by have := point_lt t; omega⟩ j := by
  obtain ⟨e0, e1, e2⟩ := hI
  funext a; apply Fin.ext
  match a with
  | ⟨0, _⟩ => refine (hz 0).trans ?_; show I 0 * 4 + 1 * q.val = q.val; omega
  | ⟨1, _⟩ => refine (hz 1).trans ?_; show I 1 * 128 + 1 * i.val = t.val * 128 + i.val; omega
  | ⟨2, _⟩ => refine (hz 2).trans ?_; show I 2 * 512 + 1 * j.val = j.val; omega

/-- And of sixteen. -/
theorem place_class16 (I : Fin 3 → ℕ) (t : Fin cfg0.N) (hI : At I t) (q : Fin 16) (i : Fin 32) (j : Fin 512)
    (z : S16x512x512.Idx) (hz : ∀ a, (z a).val = I a * S16x32x512.size a + 1 * (ix3 q i j a).val) :
    z = ix3 q ⟨t.val * 32 + i.val, by have := point_lt t; omega⟩ j := by
  obtain ⟨e0, e1, e2⟩ := hI
  funext a; apply Fin.ext
  match a with
  | ⟨0, _⟩ => refine (hz 0).trans ?_; show I 0 * 16 + 1 * q.val = q.val; omega
  | ⟨1, _⟩ => refine (hz 1).trans ?_; show I 1 * 32 + 1 * i.val = t.val * 32 + i.val; omega
  | ⟨2, _⟩ => refine (hz 2).trans ?_; show I 2 * 512 + 1 * j.val = j.val; omega

/-! The arrays. -/

/-- The keys of the first group. -/
theorem keys0_array (c : Dev nD) : (dats m 0 c).arrAt 7 cfg0.N
    = val_main_v37 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 7 _ (by decide +kernel) fun t _ y => ?_
  obtain ⟨r, h, e, hy⟩ := split_rows y
  subst hy
  have hp := (congrFun (keys_block0 m c t) _).trans ((whole_at _ r _).trans (keys_eq m c t 0 _ h e))
  have hz := place_rows _ t (out_places t).1.1 r ⟨h.val * 128 + e.val, by omega⟩
    (((cfg0.win 7).blk t).view.emb (ix3 0 r ⟨h.val * 128 + e.val, by omega⟩ : S1x512x512.Idx)) fun _ => rfl
  rw [hz, ref_key0, after0_7]
  generalize outsAt0 m c t = X at hp ⊢
  rw [← hp]
  rfl

/-- The keys of the second group. -/
theorem keys1_array (c : Dev nD) : (dats m 0 c).arrAt 8 cfg0.N
    = val_main_v42 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 8 _ (by decide +kernel) fun t _ y => ?_
  obtain ⟨q, i, h, e, hy⟩ := split_class4 y
  subst hy
  have hb := keys_block1 m c t
  rw [scratchK1_eq] at hb
  have hp := (congrFun hb _).trans ((class4_at _ _ q i h e).trans (keys_eq m c t 1 _ h e))
  rw [row_class4] at hp
  have hz := place_class4 _ t (out_places t).1.2.1 q i ⟨h.val * 128 + e.val, by omega⟩
    (((cfg0.win 8).blk t).view.emb (ix3 q i ⟨h.val * 128 + e.val, by omega⟩ : S4x128x512.Idx)) fun _ => rfl
  rw [hz, ref_key1, after0_8]
  generalize outsAt0 m c t = X at hp ⊢
  rw [← hp]
  rfl

/-- The keys of the third group. -/
theorem keys2_array (c : Dev nD) : (dats m 0 c).arrAt 9 cfg0.N
    = val_main_v47 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 9 _ (by decide +kernel) fun t _ y => ?_
  obtain ⟨q, i, h, e, hy⟩ := split_class16 y
  subst hy
  have hb := keys_block2 m c t
  rw [scratchK2_eq] at hb
  have hp := (congrFun hb _).trans ((class16_at _ _ q i h e).trans (keys_eq m c t 2 _ h e))
  rw [row_class16] at hp
  have hz := place_class16 _ t (out_places t).1.2.2 q i ⟨h.val * 128 + e.val, by omega⟩
    (((cfg0.win 9).blk t).view.emb (ix3 q i ⟨h.val * 128 + e.val, by omega⟩ : S16x32x512.Idx)) fun _ => rfl
  rw [hz, ref_key2, after0_9]
  generalize outsAt0 m c t = X at hp ⊢
  rw [← hp]
  rfl

/-- The values of the first group. -/
theorem values0_array (c : Dev nD) : (dats m 0 c).arrAt 10 cfg0.N
    = val_main_v52 (F := Ideal) (m ((c : Thread nD τ).loc main_arg0)) (m ((c : Thread nD τ).loc main_arg1))
        (m ((c : Thread nD τ).loc main_arg2)) := by
  refine (dats m 0 c).arrAt_eq_of_covers 10 _ (by decide +kernel) fun t _ y => ?_
  obtain ⟨r, h, e, hy⟩ := split_rows y
  subst hy
  have hp := (congrFun (values_block0 m c t) _).trans ((whole_at _ r _).trans (values_eq m c t 0 _ h e))
  have hz := place_rows _ t (out_places t).2.1.1 r ⟨h.val * 128 + e.val, by omega⟩
    (((cfg0.win 10).blk t).view.emb (ix3 0 r ⟨h.val * 128 + e.val, by omega⟩ : S1x512x512.Idx)) fun _ => rfl
  rw [hz, ref_value0, after0_10]
  generalize outsAt0 m c t = X at hp ⊢
  rw [← hp]
  rfl

/-- The values of the second group. -/
theorem values1_array (c : Dev nD) : (dats m 0 c).arrAt 11 cfg0.N
    = val_main_v57 (F := Ideal) (m ((c : Thread nD τ).loc main_arg0)) (m ((c : Thread nD τ).loc main_arg1))
        (m ((c : Thread nD τ).loc main_arg2)) := by
  refine (dats m 0 c).arrAt_eq_of_covers 11 _ (by decide +kernel) fun t _ y => ?_
  obtain ⟨q, i, h, e, hy⟩ := split_class4 y
  subst hy
  have hb := values_block1 m c t
  rw [scratchV1_eq] at hb
  have hp := (congrFun hb _).trans ((class4_at _ _ q i h e).trans (values_eq m c t 1 _ h e))
  rw [row_class4] at hp
  have hz := place_class4 _ t (out_places t).2.1.2.1 q i ⟨h.val * 128 + e.val, by omega⟩
    (((cfg0.win 11).blk t).view.emb (ix3 q i ⟨h.val * 128 + e.val, by omega⟩ : S4x128x512.Idx)) fun _ => rfl
  rw [hz, ref_value1, after0_11]
  generalize outsAt0 m c t = X at hp ⊢
  rw [← hp]
  rfl

/-- The values of the third group. -/
theorem values2_array (c : Dev nD) : (dats m 0 c).arrAt 12 cfg0.N
    = val_main_v62 (F := Ideal) (m ((c : Thread nD τ).loc main_arg0)) (m ((c : Thread nD τ).loc main_arg1))
        (m ((c : Thread nD τ).loc main_arg2)) := by
  refine (dats m 0 c).arrAt_eq_of_covers 12 _ (by decide +kernel) fun t _ y => ?_
  obtain ⟨q, i, h, e, hy⟩ := split_class16 y
  subst hy
  have hb := values_block2 m c t
  rw [scratchV2_eq] at hb
  have hp := (congrFun hb _).trans ((class16_at _ _ q i h e).trans (values_eq m c t 2 _ h e))
  rw [row_class16] at hp
  have hz := place_class16 _ t (out_places t).2.1.2.2 q i ⟨h.val * 128 + e.val, by omega⟩
    (((cfg0.win 12).blk t).view.emb (ix3 q i ⟨h.val * 128 + e.val, by omega⟩ : S16x32x512.Idx)) fun _ => rfl
  rw [hz, ref_value2, after0_12]
  generalize outsAt0 m c t = X at hp ⊢
  rw [← hp]
  rfl

/-- The queries of the first group. -/
theorem queries0_array (c : Dev nD) : (dats m 0 c).arrAt 13 cfg0.N
    = val_main_v117 (F := Ideal) (m ((c : Thread nD τ).loc main_arg0)) (m ((c : Thread nD τ).loc main_arg4))
        (m ((c : Thread nD τ).loc main_arg5)) (m ((c : Thread nD τ).loc main_arg6)) := by
  refine (dats m 0 c).arrAt_eq_of_covers 13 _ (by decide +kernel) fun t _ y => ?_
  obtain ⟨r, h, e, hy⟩ := split_rows y
  subst hy
  have hp := (congrFun (queries_block0 m c t) _).trans ((whole_at _ r _).trans (queries_eq m c t 0 _ h e))
  have hz := place_rows _ t (out_places t).2.2.1.1 r ⟨h.val * 128 + e.val, by omega⟩
    (((cfg0.win 13).blk t).view.emb (ix3 0 r ⟨h.val * 128 + e.val, by omega⟩ : S1x512x512.Idx)) fun _ => rfl
  rw [hz, ref_query0, ref_first, after0_13]
  generalize outsAt0 m c t = X at hp ⊢
  rw [← hp]
  rfl

/-- The queries of the second group. -/
theorem queries1_array (c : Dev nD) : (dats m 0 c).arrAt 14 cfg0.N
    = val_main_v122 (F := Ideal) (m ((c : Thread nD τ).loc main_arg0)) (m ((c : Thread nD τ).loc main_arg4))
        (m ((c : Thread nD τ).loc main_arg5)) (m ((c : Thread nD τ).loc main_arg6)) := by
  refine (dats m 0 c).arrAt_eq_of_covers 14 _ (by decide +kernel) fun t _ y => ?_
  obtain ⟨q, i, h, e, hy⟩ := split_class4 y
  subst hy
  have hb := queries_block1 m c t
  rw [scratchQ1_eq] at hb
  have hp := (congrFun hb _).trans ((class4_at _ _ q i h e).trans (queries_eq m c t 1 _ h e))
  rw [row_class4] at hp
  have hz := place_class4 _ t (out_places t).2.2.1.2.1 q i ⟨h.val * 128 + e.val, by omega⟩
    (((cfg0.win 14).blk t).view.emb (ix3 q i ⟨h.val * 128 + e.val, by omega⟩ : S4x128x512.Idx)) fun _ => rfl
  rw [hz, ref_query1, ref_second, after0_14]
  generalize outsAt0 m c t = X at hp ⊢
  rw [← hp]
  rfl

/-- The queries of the third group. -/
theorem queries2_array (c : Dev nD) : (dats m 0 c).arrAt 15 cfg0.N
    = val_main_v127 (F := Ideal) (m ((c : Thread nD τ).loc main_arg0)) (m ((c : Thread nD τ).loc main_arg4))
        (m ((c : Thread nD τ).loc main_arg5)) (m ((c : Thread nD τ).loc main_arg6)) := by
  refine (dats m 0 c).arrAt_eq_of_covers 15 _ (by decide +kernel) fun t _ y => ?_
  obtain ⟨q, i, h, e, hy⟩ := split_class16 y
  subst hy
  have hb := queries_block2 m c t
  rw [scratchQ2_eq] at hb
  have hp := (congrFun hb _).trans ((class16_at _ _ q i h e).trans (queries_eq m c t 2 _ h e))
  rw [row_class16] at hp
  have hz := place_class16 _ t (out_places t).2.2.1.2.2 q i ⟨h.val * 128 + e.val, by omega⟩
    (((cfg0.win 15).blk t).view.emb (ix3 q i ⟨h.val * 128 + e.val, by omega⟩ : S16x32x512.Idx)) fun _ => rfl
  rw [hz, ref_query2, ref_third, after0_15]
  generalize outsAt0 m c t = X at hp ⊢
  rw [← hp]
  rfl

/-- The memory queries. -/
theorem memory_array (c : Dev nD) : (dats m 0 c).arrAt 16 cfg0.N
    = val_main_v129 (F := Ideal) (m ((c : Thread nD τ).loc main_arg0)) (m ((c : Thread nD τ).loc main_arg4))
        (m ((c : Thread nD τ).loc main_arg5)) (m ((c : Thread nD τ).loc main_arg7)) := by
  refine (dats m 0 c).arrAt_eq_of_covers 16 _ (by decide +kernel) fun t _ y => ?_
  obtain ⟨r, h, e, hy⟩ := split_rows y
  subst hy
  have hp := (congrFun (memory_block m c t) _).trans ((whole_at _ r _).trans (memory_eq m c t _ h e))
  have hz := place_rows _ t (out_places t).2.2.2 r ⟨h.val * 128 + e.val, by omega⟩
    (((cfg0.win 16).blk t).view.emb (ix3 0 r ⟨h.val * 128 + e.val, by omega⟩ : S1x512x512.Idx)) fun _ => rfl
  rw [hz, ref_memory_query, ref_memory, after0_16]
  generalize outsAt0 m c t = X at hp ⊢
  rw [← hp]
  rfl

set_option maxHeartbeats 1000000 in
/-- The two programs run, and from equal arguments their ten results are equal. -/
theorem algebraic : Cert.algebraic_ProjIdeal_ProjReferenceIdeal (hProjIdeal := Cert.ProjIdeal.Gen.facts)
    (hProjReferenceIdeal := Cert.ProjReferenceIdeal.Gen.facts) := by
  intro m g m' g' _ hargs
  refine ⟨fun c => (dats m 0 c).arrAt 7 cfg0.N, fun c => (dats m 0 c).arrAt 8 cfg0.N,
    fun c => (dats m 0 c).arrAt 9 cfg0.N, fun c => (dats m 0 c).arrAt 10 cfg0.N, fun c => (dats m 0 c).arrAt 11 cfg0.N,
    fun c => (dats m 0 c).arrAt 12 cfg0.N, fun c => (dats m 0 c).arrAt 13 cfg0.N, fun c => (dats m 0 c).arrAt 14 cfg0.N,
    fun c => (dats m 0 c).arrAt 15 cfg0.N, fun c => (dats m 0 c).arrAt 16 cfg0.N,
    Value.run_blocks (F := Ideal) m g, ?_⟩
  refine (θ_run (Cert.ProjReferenceIdeal.defs (F := Ideal)) _ _).mono (fun r h c => ?_)
    (Cert.ProjReferenceIdeal.Value.run (F := Ideal) m' g')
  obtain ⟨k0, k1, k2, v0, v1, v2, q0, q1, q2, q3, hkept⟩ := h c
  obtain ⟨a0, a1, a2, a3, a4, a5, a6, a7⟩ := hargs c
  refine ⟨k0.trans ?_, k1.trans ?_, k2.trans ?_, v0.trans ?_, v1.trans ?_, v2.trans ?_, q0.trans ?_, q1.trans ?_,
    q2.trans ?_, q3.trans ?_, hkept⟩
  · rw [val_main_v37_eq, a0, a1, a2, a3]
    exact (keys0_array m c).symm
  · rw [val_main_v42_eq, a0, a1, a2, a3]
    exact (keys1_array m c).symm
  · rw [val_main_v47_eq, a0, a1, a2, a3]
    exact (keys2_array m c).symm
  · rw [val_main_v52_eq, a0, a1, a2]
    exact (values0_array m c).symm
  · rw [val_main_v57_eq, a0, a1, a2]
    exact (values1_array m c).symm
  · rw [val_main_v62_eq, a0, a1, a2]
    exact (values2_array m c).symm
  · rw [val_main_v117_eq, a0, a4, a5, a6]
    exact (queries0_array m c).symm
  · rw [val_main_v122_eq, a0, a4, a5, a6]
    exact (queries1_array m c).symm
  · rw [val_main_v127_eq, a0, a4, a5, a6]
    exact (queries2_array m c).symm
  · rw [val_main_v129_eq, a0, a4, a5, a7]
    exact (memory_array m c).symm

end Cert.ProjIdeal.RefValue

end
-- ==== Proof.MlpValue.Body.lean ====
/-
  What one grid point of the squared-ReLU feed-forward block leaves behind, as values.

  A point runs one of two cases.  At the first point of a row of 16 (case A) the block of the output starts as the
  input block, the carried scratch receives the normalised input block, and the first slab of the hidden dimension is
  added.  At the other 15 points (case B) the next slab is added to what the output block holds, over the carried
  scratch.  Every point also casts one row block of each of the four weight stacks.
-/
module

public import proofs.«01_k».proof.Proof.Gen.MlpIdeal.Value

@[expose] public section

noncomputable section

namespace Cert.MlpIdeal.RefValue

open Cert.MlpIdeal Cert.MlpIdeal.Gen Cert.MlpIdeal.Value Idealize.ShloMosaic Idealize.ShloMosaic.TcCoe
  Idealize.SL.Sem

variable {F : FTy → Type} [FloatOps F]
variable (m : (ℓ : Loc nD τ sig) → Buf (Elt F) ℓ)

variable (F) in
/-- The six components a point leaves: the five output blocks and the carried scratch. -/
abbrev State : Type := Vec F S1024x2048 .f32 × Vec F S16x8192 .bf16 × Vec F S64x2048 .bf16 ×
  Vec F S16x3584 .bf16 × Vec F S16x2048 .bf16 × Vec F S1024x2048 .bf16

/-- The origin of a matrix block. -/
theorem hz2 : (![0, 0] : Fin 2 → Nat) = fun _ => 0 := by
  funext a; match a with | 0 => rfl | 1 => rfl

/-- The origin of a three-dimensional block. -/
theorem hz3 : (![0, 0, 0] : Fin 3 → Nat) = fun _ => 0 := by
  funext a; match a with | 0 => rfl | 1 => rfl | 2 => rfl

/-- The first point of a row: the output block is the input block plus the first slab. -/
theorem first_out (c : Dev nD) (t : Fin cfg0.N) (acc : State F) (h0 : t.val % 16 = 0) :
    (stAt0 m c t.val t.isLt acc).1 = k0_pay4 (k0_pay3 (iblk m c 0 t) (iblk m c 1 t)) (iblk m c 2 t) (iblk m c 0 t)
      (iblk m c 3 t) := by
  rw [stAt0_A m c t acc h0]
  dsimp only
  unfold out0_A_8
  rw [View.read_writes_eq_canon]
  · unfold kernelRun0_A
    dsimp only
    sl_unfold_words
    rw [View.canon_cons_unit_zero (S := S1024x2048) hz2]
    simp only [View.readAt_eq_ld, (hs0_0 t).read_unread, (hs0_1 t).read_unread, (hs0_2 t).read_unread, (hs0_3 t).read_unread,
      View.ld_unit_zero (S := S1024x2048) hz2, View.ld_unit_zero (S := S2048x512) hz2, View.ld_unit_zero (S := S512x2048) hz2, View.ld_unit_zero (S := S1x2048) hz2, View.readCov_unit_zero (S := S1024x2048) _ hz2, shapeCast_self]
  · intro y; apply cover0_A_8

/-- The first point of a row: the scratch is the normalised input block. -/
theorem first_scratch (c : Dev nD) (t : Fin cfg0.N) (acc : State F) (h0 : t.val % 16 = 0) :
    (stAt0 m c t.val t.isLt acc).2.2.2.2.2 = k0_pay3 (iblk m c 0 t) (iblk m c 1 t) := by
  rw [stAt0_A m c t acc h0]
  dsimp only
  unfold sout0_A_0
  rw [View.read_writes_eq_canon]
  · unfold kernelRun0_A
    dsimp only
    sl_unfold_words
    rw [View.canon_unit_zero (S := S1024x2048) hz2]
    simp only [View.readAt_eq_ld, (hs0_0 t).read_unread, (hs0_1 t).read_unread,
      View.ld_unit_zero (S := S1024x2048) hz2, View.ld_unit_zero (S := S1x2048) hz2, View.readCov_unit_zero (S := S1024x2048) _ hz2, shapeCast_self]
  · intro y; apply scover0_A_0

/-- A later point of a row: the next slab is added to the output block, over the carried scratch. -/
theorem next_out (c : Dev nD) (t : Fin cfg0.N) (acc : State F) (h0 : ¬t.val % 16 = 0) :
    (stAt0 m c t.val t.isLt acc).1 = k0_pay4 acc.2.2.2.2.2 (iblk m c 2 t) acc.1 (iblk m c 3 t) := by
  rw [stAt0_B m c t acc h0]
  dsimp only
  unfold out0_B_8
  rw [View.read_writes_eq_canon]
  · unfold kernelRun0_B
    dsimp only
    sl_unfold_words
    rw [View.canon_unit_zero (S := S1024x2048) hz2]
    simp only [View.readAt_eq_ld, (hs0_2 t).read_unread, (hs0_3 t).read_unread, (hs0_8 t).read_unread,
      (Memref.isWhole_whole cc0_scratch0).read_unread, View.ld_unit_zero (S := S1024x2048) hz2,
      View.ld_unit_zero (S := S2048x512) hz2, View.ld_unit_zero (S := S512x2048) hz2, shapeCast_self]
  · intro y; apply cover0_B_8

/-- A later point of a row keeps the scratch. -/
theorem next_scratch (c : Dev nD) (t : Fin cfg0.N) (acc : State F) (h0 : ¬t.val % 16 = 0) :
    (stAt0 m c t.val t.isLt acc).2.2.2.2.2 = acc.2.2.2.2.2 := by
  rw [stAt0_B m c t acc h0]
  try rfl

/-- Every point casts its row block of the first stack. -/
theorem cast9 (c : Dev nD) (t : Fin cfg0.N) (acc : State F) :
    (stAt0 m c t.val t.isLt acc).2.1 = k0_pay5 (iblk m c 4 t) := by
  by_cases h0 : t.val % 16 = 0
  · rw [stAt0_A m c t acc h0]
    dsimp only
    unfold out0_A_9
    rw [View.read_writes_eq_canon]
    · unfold kernelRun0_A
      dsimp only
      sl_unfold_words
      rw [View.canon_unit_zero (S := S16x8192) hz2]
      simp only [View.readAt_eq_ld, (hs0_4 t).read_unread, View.ld_unit_zero (S := S1x16x8192) hz3]
    · intro y; apply cover0_A_9
  · rw [stAt0_B m c t acc h0]
    dsimp only
    unfold out0_B_9
    rw [View.read_writes_eq_canon]
    · unfold kernelRun0_B
      dsimp only
      sl_unfold_words
      rw [View.canon_unit_zero (S := S16x8192) hz2]
      simp only [View.readAt_eq_ld, (hs0_4 t).read_unread, View.ld_unit_zero (S := S1x16x8192) hz3]
    · intro y; apply cover0_B_9

/-- Every point casts its row block of the second stack. -/
theorem cast10 (c : Dev nD) (t : Fin cfg0.N) (acc : State F) :
    (stAt0 m c t.val t.isLt acc).2.2.1 = k0_pay6 (iblk m c 5 t) := by
  by_cases h0 : t.val % 16 = 0
  · rw [stAt0_A m c t acc h0]
    dsimp only
    unfold out0_A_10
    rw [View.read_writes_eq_canon]
    · unfold kernelRun0_A
      dsimp only
      sl_unfold_words
      rw [View.canon_unit_zero (S := S64x2048) hz2]
      simp only [View.readAt_eq_ld, (hs0_5 t).read_unread, View.ld_unit_zero (S := S1x64x2048) hz3]
    · intro y; apply cover0_A_10
  · rw [stAt0_B m c t acc h0]
    dsimp only
    unfold out0_B_10
    rw [View.read_writes_eq_canon]
    · unfold kernelRun0_B
      dsimp only
      sl_unfold_words
      rw [View.canon_unit_zero (S := S64x2048) hz2]
      simp only [View.readAt_eq_ld, (hs0_5 t).read_unread, View.ld_unit_zero (S := S1x64x2048) hz3]
    · intro y; apply cover0_B_10

/-- Every point casts its row block of the third stack. -/
theorem cast11 (c : Dev nD) (t : Fin cfg0.N) (acc : State F) :
    (stAt0 m c t.val t.isLt acc).2.2.2.1 = k0_pay1 (k0_pay7 (iblk m c 6 t)) := by
  by_cases h0 : t.val % 16 = 0
  · rw [stAt0_A m c t acc h0]
    dsimp only
    unfold out0_A_11
    rw [View.read_writes_eq_canon]
    · unfold kernelRun0_A
      dsimp only
      sl_unfold_words
      rw [View.canon_unit_zero (S := S16x3584) hz2]
      simp only [View.readAt_eq_ld, (hs0_6 t).read_unread, View.ld_unit_zero (S := S1x16x3584) hz3]
    · intro y; apply cover0_A_11
  · rw [stAt0_B m c t acc h0]
    dsimp only
    unfold out0_B_11
    rw [View.read_writes_eq_canon]
    · unfold kernelRun0_B
      dsimp only
      sl_unfold_words
      rw [View.canon_unit_zero (S := S16x3584) hz2]
      simp only [View.readAt_eq_ld, (hs0_6 t).read_unread, View.ld_unit_zero (S := S1x16x3584) hz3]
    · intro y; apply cover0_B_11

/-- Every point casts its row block of the fourth stack. -/
theorem cast12 (c : Dev nD) (t : Fin cfg0.N) (acc : State F) :
    (stAt0 m c t.val t.isLt acc).2.2.2.2.1 = k0_pay2 (iblk m c 7 t) := by
  by_cases h0 : t.val % 16 = 0
  · rw [stAt0_A m c t acc h0]
    dsimp only
    unfold out0_A_12
    rw [View.read_writes_eq_canon]
    · unfold kernelRun0_A
      dsimp only
      sl_unfold_words
      rw [View.canon_unit_zero (S := S16x2048) hz2]
      simp only [View.readAt_eq_ld, (hs0_7 t).read_unread, View.ld_unit_zero (S := S1x16x2048) hz3]
    · intro y; apply cover0_A_12
  · rw [stAt0_B m c t acc h0]
    dsimp only
    unfold out0_B_12
    rw [View.read_writes_eq_canon]
    · unfold kernelRun0_B
      dsimp only
      sl_unfold_words
      rw [View.canon_unit_zero (S := S16x2048) hz2]
      simp only [View.readAt_eq_ld, (hs0_7 t).read_unread, View.ld_unit_zero (S := S1x16x2048) hz3]
    · intro y; apply cover0_B_12

end Cert.MlpIdeal.RefValue

end
-- ==== Proof.MlpValue.Blocks.lean ====
/-
  The blocks a grid point of the feed-forward kernel reads, as entries of the arrays they are cut from.

  Point `t` of the 8 by 16 grid works on rows `1024 (t / 16) …` of the input and on hidden units `512 (t mod 16) …`;
  each of the four weight stacks is cut into 128 row blocks of its member 1, and point `t` reads block `t`.
-/
module

public import proofs.«01_k».proof.Proof.Gen.MlpIdeal.Value
public import Idealize.ShloMosaic.Lib.Pointwise
public import Idealize.ShloMosaic.Lib.Claim

@[expose] public section

noncomputable section

namespace Cert.MlpIdeal.RefValue

open Cert.MlpIdeal Cert.MlpIdeal.Gen Cert.MlpIdeal.Value Idealize.ShloMosaic Idealize.ShloMosaic.TcCoe
  Idealize.SL.Sem

variable {F : FTy → Type} [FloatOps F]
variable (m : (ℓ : Loc nD τ sig) → Buf (Elt F) ℓ)

/-- Where each input window stands at point `t`. -/
theorem places : ∀ t : Fin cfg0.N,
    (win0_0.index t (0 : Fin 2) = t.val / 16 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 16)
    ∧ (win0_3.index t (0 : Fin 2) = t.val % 16 ∧ win0_3.index t (1 : Fin 2) = 0)
    ∧ (win0_4.index t (0 : Fin 3) = 1 ∧ win0_4.index t (1 : Fin 3) = t.val ∧ win0_4.index t (2 : Fin 3) = 0)
    ∧ (win0_5.index t (0 : Fin 3) = 1 ∧ win0_5.index t (1 : Fin 3) = t.val ∧ win0_5.index t (2 : Fin 3) = 0)
    ∧ (win0_6.index t (0 : Fin 3) = 1 ∧ win0_6.index t (1 : Fin 3) = t.val ∧ win0_6.index t (2 : Fin 3) = 0)
    ∧ (win0_7.index t (0 : Fin 3) = 1 ∧ win0_7.index t (1 : Fin 3) = t.val ∧ win0_7.index t (2 : Fin 3) = 0) :=
  (by decide +kernel : ∀ t : Fin grid0.N, _)

/-- The input block: rows `1024 (t / 16) …`. -/
theorem block0 (c : Dev nD) (t : Fin cfg0.N) (r : Fin 1024) (k : Fin 2048) (R : Fin 8192)
    (hR : R.val = 1024 * (t.val / 16) + r.val) :
    (iblk m c 0 t : Vec F S1024x2048 .f32) (ix2 r k) = m ((c : Thread nD τ).loc main_arg0) (ix2 R k) := by
  obtain ⟨⟨e0, e1⟩, _⟩ := places t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 1024 + 1 * r.val = R.val; omega
  | ⟨1, _⟩ => show win0_0.index t (1 : Fin 2) * 2048 + 1 * k.val = k.val; omega

/-- The gain: one row, the same at every point. -/
theorem block1 (c : Dev nD) (t : Fin cfg0.N) (k : Fin 2048) :
    (iblk m c 1 t : Vec F S1x2048 .f32) (ix2 0 k) = m ((c : Thread nD τ).loc main_arg1) (ix1 k) := by
  obtain ⟨_, ⟨e0, e1⟩, _⟩ := places t
  unfold iblk
  rw [View.read_apply]
  show V m c main_v0 _ = _
  entry_read
  have e : (((cfg0.win 1).blk t).view.emb (ix2 0 k) : S1x2048.Idx) = ix2 0 k := by
    funext a; apply Fin.ext
    match a with
    | ⟨0, _⟩ => show win0_1.index t (0 : Fin 2) * 1 + 1 * 0 = 0; omega
    | ⟨1, _⟩ => show win0_1.index t (1 : Fin 2) * 2048 + 1 * k.val = k.val; omega
  rw [e]
  pointwise

/-- The first weight: columns `512 (t mod 16) …`. -/
theorem block2 (c : Dev nD) (t : Fin cfg0.N) (k : Fin 2048) (u : Fin 512) (U : Fin 8192)
    (hU : U.val = 512 * (t.val % 16) + u.val) :
    (iblk m c 2 t : Vec F S2048x512 .bf16) (ix2 k u) = m ((c : Thread nD τ).loc main_arg2) (ix2 k U) := by
  obtain ⟨_, _, ⟨e0, e1⟩, _⟩ := places t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 2048 + 1 * k.val = k.val; omega
  | ⟨1, _⟩ => show win0_2.index t (1 : Fin 2) * 512 + 1 * u.val = U.val; omega

/-- The second weight: rows `512 (t mod 16) …`. -/
theorem block3 (c : Dev nD) (t : Fin cfg0.N) (u : Fin 512) (d : Fin 2048) (U : Fin 8192)
    (hU : U.val = 512 * (t.val % 16) + u.val) :
    (iblk m c 3 t : Vec F S512x2048 .bf16) (ix2 u d) = m ((c : Thread nD τ).loc main_arg3) (ix2 U d) := by
  obtain ⟨_, _, _, ⟨e0, e1⟩, _⟩ := places t
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t (0 : Fin 2) * 512 + 1 * u.val = U.val; omega
  | ⟨1, _⟩ => show win0_3.index t (1 : Fin 2) * 2048 + 1 * d.val = d.val; omega

/-- The first stack: row block `t` of member 1. -/
theorem block4 (c : Dev nD) (t : Fin cfg0.N) (r : Fin 16) (k : Fin 8192) (R : Fin 2048)
    (hR : R.val = 16 * t.val + r.val) :
    (iblk m c 4 t : Vec F S1x16x8192 .f32) (ix3 0 r k) = m ((c : Thread nD τ).loc main_arg4) (ix3 1 R k) := by
  obtain ⟨_, _, _, _, ⟨e0, e1, e2⟩, _⟩ := places t
  unfold iblk
  rw [View.read_apply]
  show V m c main_arg4 _ = _
  rw [V_main_arg4]
  refine congrArg (m ((c : Thread nD τ).loc main_arg4)) (funext fun a => Fin.ext ?_)
  match a with
  | ⟨0, _⟩ => show win0_4.index t (0 : Fin 3) * 1 + 1 * 0 = 1; omega
  | ⟨1, _⟩ => show win0_4.index t (1 : Fin 3) * 16 + 1 * r.val = R.val; omega
  | ⟨2, _⟩ => show win0_4.index t (2 : Fin 3) * 8192 + 1 * k.val = k.val; omega

/-- The second stack: row block `t` of member 1. -/
theorem block5 (c : Dev nD) (t : Fin cfg0.N) (r : Fin 64) (k : Fin 2048) (R : Fin 8192)
    (hR : R.val = 64 * t.val + r.val) :
    (iblk m c 5 t : Vec F S1x64x2048 .f32) (ix3 0 r k) = m ((c : Thread nD τ).loc main_arg5) (ix3 1 R k) := by
  obtain ⟨_, _, _, _, _, ⟨e0, e1, e2⟩, _⟩ := places t
  unfold iblk
  rw [View.read_apply]
  show V m c main_arg5 _ = _
  rw [V_main_arg5]
  refine congrArg (m ((c : Thread nD τ).loc main_arg5)) (funext fun a => Fin.ext ?_)
  match a with
  | ⟨0, _⟩ => show win0_5.index t (0 : Fin 3) * 1 + 1 * 0 = 1; omega
  | ⟨1, _⟩ => show win0_5.index t (1 : Fin 3) * 64 + 1 * r.val = R.val; omega
  | ⟨2, _⟩ => show win0_5.index t (2 : Fin 3) * 2048 + 1 * k.val = k.val; omega

/-- The third stack: row block `t` of member 1. -/
theorem block6 (c : Dev nD) (t : Fin cfg0.N) (r : Fin 16) (k : Fin 3584) (R : Fin 2048)
    (hR : R.val = 16 * t.val + r.val) :
    (iblk m c 6 t : Vec F S1x16x3584 .f32) (ix3 0 r k) = m ((c : Thread nD τ).loc main_arg6) (ix3 1 R k) := by
  obtain ⟨_, _, _, _, _, _, ⟨e0, e1, e2⟩, _⟩ := places t
  unfold iblk
  rw [View.read_apply]
  show V m c main_arg6 _ = _
  rw [V_main_arg6]
  refine congrArg (m ((c : Thread nD τ).loc main_arg6)) (funext fun a => Fin.ext ?_)
  match a with
  | ⟨0, _⟩ => show win0_6.index t (0 : Fin 3) * 1 + 1 * 0 = 1; omega
  | ⟨1, _⟩ => show win0_6.index t (1 : Fin 3) * 16 + 1 * r.val = R.val; omega
  | ⟨2, _⟩ => show win0_6.index t (2 : Fin 3) * 3584 + 1 * k.val = k.val; omega

/-- The fourth stack: row block `t` of member 1. -/
theorem block7 (c : Dev nD) (t : Fin cfg0.N) (r : Fin 16) (k : Fin 2048) (R : Fin 2048)
    (hR : R.val = 16 * t.val + r.val) :
    (iblk m c 7 t : Vec F S1x16x2048 .f32) (ix3 0 r k) = m ((c : Thread nD τ).loc main_arg7) (ix3 1 R k) := by
  obtain ⟨_, _, _, _, _, _, _, ⟨e0, e1, e2⟩⟩ := places t
  unfold iblk
  rw [View.read_apply]
  show V m c main_arg7 _ = _
  rw [V_main_arg7]
  refine congrArg (m ((c : Thread nD τ).loc main_arg7)) (funext fun a => Fin.ext ?_)
  match a with
  | ⟨0, _⟩ => show win0_7.index t (0 : Fin 3) * 1 + 1 * 0 = 1; omega
  | ⟨1, _⟩ => show win0_7.index t (1 : Fin 3) * 16 + 1 * r.val = R.val; omega
  | ⟨2, _⟩ => show win0_7.index t (2 : Fin 3) * 2048 + 1 * k.val = k.val; omega

end Cert.MlpIdeal.RefValue

end
-- ==== Proof.MlpValue.Spec.lean ====
/-
  The squared-ReLU feed-forward block at one index, in the reference's words and in the kernel's payloads, over the
  extended reals: a row is divided by its root mean square, scaled by the gain, multiplied into the hidden dimension,
  clamped at zero, squared, multiplied back and added to the row.
-/
module

public import proofs.«01_k».proof.Proof.Gen.MlpIdeal.Value
public import proofs.«01_k».proof.Proof.Gen.MlpReferenceIdeal.Read
public import Idealize.ShloMosaic.Lib.Pointwise

@[expose] public section

set_option maxRecDepth 16384

noncomputable section

namespace Cert.MlpIdeal.RefValue

open Cert.MlpIdeal Cert.MlpIdeal.Gen Idealize.ShloMosaic Idealize.ShloMosaic.TcCoe

/-- The row `x` over its root mean square, times the gain: entry `k`. -/
def normed (x g : Fin 2048 → EReal) (k : Fin 2048) : EReal :=
  x k * Ideal.rsqrt (Ideal.div (∑ l : Fin 2048, x l * x l) (Ideal.ofBits .f32 0x45000000#32)
    + Ideal.ofBits .f32 0x358637BD#32) * g k

/-- One hidden unit: the normalised row against the unit's column `w`, clamped at zero and squared. -/
def hidden (h w : Fin 2048 → EReal) : EReal :=
  max (∑ k : Fin 2048, h k * w k) 0 * max (∑ k : Fin 2048, h k * w k) 0

/-- The normalised input block at an index. -/
theorem pay3_apply (x : FVec Ideal S1024x2048 .f32) (g : FVec Ideal S1x2048 .f32) (r : Fin 1024) (k : Fin 2048) :
    k0_pay3 (F := Ideal) x g (ix2 r k) = normed (fun l => x (ix2 r l)) (fun l => g (ix2 0 l)) k := by
  unfold normed
  pointwise [k0_pay3]

/-- One slab of 512 hidden units added to the output block, at an index. -/
theorem pay4_apply (h : FVec Ideal S1024x2048 .bf16) (w1 : FVec Ideal S2048x512 .bf16)
    (o : FVec Ideal S1024x2048 .f32) (w2 : FVec Ideal S512x2048 .bf16) (r : Fin 1024) (d : Fin 2048) :
    k0_pay4 (F := Ideal) h w1 o w2 (ix2 r d)
      = o (ix2 r d) + ∑ u : Fin 512, hidden (fun k => h (ix2 r k)) (fun k => w1 (ix2 k u)) * w2 (ix2 u d) := by
  unfold hidden
  pointwise [k0_pay4]

open Cert.MlpReferenceIdeal.Read in
/-- The reference's first result at an index. -/
theorem ref_apply (x : FVec Ideal S8192x2048 .f32) (g : FVec Ideal S2048 .f32) (w1 : FVec Ideal S2048x8192 .bf16)
    (w2 : FVec Ideal S8192x2048 .bf16) (r : Fin 8192) (d : Fin 2048) :
    val_main_v20 (F := Ideal) x g w1 w2 (ix2 r d)
      = x (ix2 r d) + ∑ u : Fin 8192, hidden (normed (fun l => x (ix2 r l)) (fun l => g (ix1 l)))
          (fun k => w1 (ix2 k u)) * w2 (ix2 u d) := by
  unfold hidden normed
  pointwise [val_main_v20, val_main_v19, val_main_v18, val_main_v17, val_main_v16, val_main_v15, val_main_v14,
    val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1, val_main_cst_2]

end Cert.MlpIdeal.RefValue

end
-- ==== Proof.MlpValue.Sweep.lean ====
/-
  The run of the feed-forward kernel over the grid, read at an index: after point `n` the carried scratch holds the
  normalised rows of row block `n / 16`, and the output block holds those rows plus the hidden slabs `0 … n mod 16`.
-/
module

public import proofs.«01_k».proof.Proof.MlpValue.Body
public import proofs.«01_k».proof.Proof.MlpValue.Blocks
public import proofs.«01_k».proof.Proof.MlpValue.Spec

@[expose] public section

noncomputable section

namespace Cert.MlpIdeal.RefValue

open Cert.MlpIdeal Cert.MlpIdeal.Gen Cert.MlpIdeal.Value Idealize.ShloMosaic Idealize.ShloMosaic.TcCoe
  Idealize.SL.Sem

/-- Consecutive slabs of `b` terms are one sum. -/
theorem sum_slabs (g : ℕ → EReal) (b n : ℕ) :
    ∑ s ∈ Finset.range n, ∑ u : Fin b, g (b * s + u.val) = ∑ U ∈ Finset.range (b * n), g U := by
  induction n with
  | zero => simp
  | succ n ih =>
    rw [Finset.sum_range_succ, ih, Nat.mul_succ, Finset.sum_range_add, Finset.sum_range (fun x => g (b * n + x))]

variable (m : (ℓ : Loc nD τ sig) → Buf (Elt Ideal) ℓ)

/-- The input row `R`. -/
def row (c : Dev nD) (R : Fin 8192) (k : Fin 2048) : EReal := m ((c : Thread nD τ).loc main_arg0) (ix2 R k)

/-- The normalised row `R`. -/
def nrow (c : Dev nD) (R : Fin 8192) : Fin 2048 → EReal :=
  normed (row m c R) fun l => m ((c : Thread nD τ).loc main_arg1) (ix1 l)

/-- What hidden unit `U` adds to entry `d` of row `R` (zero past the last unit). -/
def unitTerm (c : Dev nD) (R : Fin 8192) (d : Fin 2048) (U : ℕ) : EReal :=
  if h : U < 8192 then
    hidden (nrow m c R) (fun k => m ((c : Thread nD τ).loc main_arg2) (ix2 k ⟨U, h⟩))
      * m ((c : Thread nD τ).loc main_arg3) (ix2 ⟨U, h⟩ d)
  else 0

/-- At the first point of a row of points the scratch receives the normalised rows. -/
theorem pay3_row (c : Dev nD) (t : Fin cfg0.N) (r : Fin 1024) (k : Fin 2048) (R : Fin 8192)
    (hR : R.val = 1024 * (t.val / 16) + r.val) :
    k0_pay3 (F := Ideal) (iblk m c 0 t) (iblk m c 1 t) (ix2 r k) = nrow m c R k := by
  rw [pay3_apply]
  unfold nrow
  exact congrArg₂ (fun a b => normed a b k) (funext fun l => block0 m c t r l R hR) (funext fun l => block1 m c t l)

/-- One point's slab, over normalised rows. -/
theorem pay4_row (c : Dev nD) (t : Fin cfg0.N) (h : FVec Ideal S1024x2048 .bf16) (o : FVec Ideal S1024x2048 .f32)
    (r : Fin 1024) (d : Fin 2048) (R : Fin 8192) (hh : ∀ k, h (ix2 r k) = nrow m c R k) :
    k0_pay4 (F := Ideal) h (iblk m c 2 t) o (iblk m c 3 t) (ix2 r d)
      = o (ix2 r d) + ∑ u : Fin 512, unitTerm m c R d (512 * (t.val % 16) + u.val) := by
  rw [pay4_apply]
  refine congrArg (o (ix2 r d) + ·) (Finset.sum_congr rfl fun u _ => ?_)
  have hlt : 512 * (t.val % 16) + u.val < 8192 := by omega
  rw [unitTerm, dif_pos hlt]
  refine congrArg₂ (· * ·) (congrArg₂ hidden (funext hh) (funext fun k => ?_)) ?_
  · exact block2 m c t k u ⟨_, hlt⟩ rfl
  · exact block3 m c t u d ⟨_, hlt⟩ rfl

/-- The scratch after point `n`. -/
theorem scratch_at (c : Dev nD) : ∀ (n : ℕ) (hn : n < cfg0.N) (r : Fin 1024) (k : Fin 2048) (R : Fin 8192),
    R.val = 1024 * (n / 16) + r.val → (outsAt0 m c n hn).2.2.2.2.2 (ix2 r k) = nrow m c R k
  | 0, hn, r, k, R, hR => by
    rw [outsAt0_zero, first_scratch m c ⟨0, hn⟩ junk0 rfl]
    exact pay3_row m c ⟨0, hn⟩ r k R hR
  | n + 1, hn, r, k, R, hR => by
    rw [outsAt0_succ]
    by_cases h0 : (n + 1) % 16 = 0
    · rw [first_scratch m c ⟨n + 1, hn⟩ _ h0]
      exact pay3_row m c ⟨n + 1, hn⟩ r k R hR
    · rw [next_scratch m c ⟨n + 1, hn⟩ _ h0]
      exact scratch_at c n _ r k R (by omega)

/-- The output block after point `n`. -/
theorem out_at (c : Dev nD) : ∀ (n : ℕ) (hn : n < cfg0.N) (r : Fin 1024) (d : Fin 2048) (R : Fin 8192),
    R.val = 1024 * (n / 16) + r.val → (outsAt0 m c n hn).1 (ix2 r d)
      = row m c R d + ∑ s ∈ Finset.range (n % 16 + 1), ∑ u : Fin 512, unitTerm m c R d (512 * s + u.val) := by
  have first : ∀ (t : Fin cfg0.N) (acc : State Ideal) (h0 : t.val % 16 = 0) (r : Fin 1024) (d : Fin 2048)
      (R : Fin 8192), R.val = 1024 * (t.val / 16) + r.val → (stAt0 m c t.val t.isLt acc).1 (ix2 r d)
        = row m c R d + ∑ s ∈ Finset.range (t.val % 16 + 1), ∑ u : Fin 512, unitTerm m c R d (512 * s + u.val) := by
    intro t acc h0 r d R hR
    rw [first_out m c t acc h0, pay4_row m c t _ _ r d R fun k => pay3_row m c t r k R hR, h0, Finset.sum_range_one]
    exact congrArg (· + _) (block0 m c t r d R hR)
  intro n
  induction n with
  | zero => intro hn r d R hR; rw [outsAt0_zero]; exact first ⟨0, hn⟩ junk0 rfl r d R hR
  | succ n ih =>
    intro hn r d R hR
    rw [outsAt0_succ]
    by_cases h0 : (n + 1) % 16 = 0
    · exact first ⟨n + 1, hn⟩ _ h0 r d R hR
    · have hq : n / 16 = (n + 1) / 16 := by omega
      have hm : (n + 1) % 16 = n % 16 + 1 := by omega
      rw [next_out m c ⟨n + 1, hn⟩ _ h0,
        pay4_row m c ⟨n + 1, hn⟩ _ _ r d R fun k => scratch_at m c n _ r k R (by omega),
        ih _ r d R (by omega), hm, Finset.sum_range_succ _ (n % 16 + 1), add_assoc]

/-- The output block at the last point of a row of points: the whole hidden dimension is in. -/
theorem out_last (c : Dev nD) (n : ℕ) (hn : n < cfg0.N) (hl : n % 16 = 15) (r : Fin 1024) (d : Fin 2048)
    (R : Fin 8192) (hR : R.val = 1024 * (n / 16) + r.val) :
    (outsAt0 m c n hn).1 (ix2 r d) = row m c R d + ∑ U : Fin 8192,
      hidden (nrow m c R) (fun k => m ((c : Thread nD τ).loc main_arg2) (ix2 k U))
        * m ((c : Thread nD τ).loc main_arg3) (ix2 U d) := by
  rw [out_at m c n hn r d R hR, hl, sum_slabs, Finset.sum_range]
  refine congrArg (_ + ·) (Finset.sum_congr rfl fun U _ => ?_)
  rw [unitTerm, dif_pos U.isLt]

/-- Every point is one step over what some earlier state was. -/
theorem outs_step (c : Dev nD) (n : ℕ) (hn : n < cfg0.N) : ∃ acc, outsAt0 m c n hn = stAt0 m c n hn acc := by
  cases n with
  | zero => exact ⟨_, outsAt0_zero m c hn⟩
  | succ n => exact ⟨_, outsAt0_succ m c n hn⟩

end Cert.MlpIdeal.RefValue

end
-- ==== Proof.MlpValue.Final.lean ====
/-
  The five arrays the feed-forward kernel leaves are the five values of its reference.
-/
module

public import proofs.«01_k».proof.Defs
public import proofs.«01_k».proof.Proof.MlpValue.Sweep
public import proofs.«01_k».proof.Proof.Gen.MlpReferenceIdeal.Run

@[expose] public section

set_option maxRecDepth 16384

noncomputable section

namespace Cert.MlpIdeal.RefValue

open Cert.MlpIdeal Cert.MlpIdeal.Gen Cert.MlpIdeal.Value Idealize.ShloMosaic Idealize.ShloMosaic.TcCoe
  Idealize.SL.Sem
open Cert.MlpReferenceIdeal.Read

variable (m : (ℓ : Loc nD τ sig) → Buf (Elt Ideal) ℓ)

/-- The block's output. -/
theorem G8_eq (c : Dev nD) : G8 m c = val_main_v20 (F := Ideal) (m ((c : Thread nD τ).loc main_arg0))
    (m ((c : Thread nD τ).loc main_arg1)) (m ((c : Thread nD τ).loc main_arg2))
    (m ((c : Thread nD τ).loc main_arg3)) := by
  funext i
  obtain ⟨R, d, rfl⟩ : ∃ (R : Fin 8192) (d : Fin 2048), i = ix2 R d := ⟨i 0, i 1, eq_ix2 i⟩
  have hr : run8Of (ix2 R d) = R.val / 1024 := by
    show 1 * (R.val / 1024 - 0) + 1 * (d.val / 2048 - 0) = _
    omega
  have hlt : pt8Of (ix2 R d) < cfg0.N := by
    show 16 * run8Of (ix2 R d) + 15 < cfg0.N
    rw [hr, show cfg0.N = 128 from N_0]; omega
  have hpt : pt8Of (ix2 R d) = 16 * (R.val / 1024) + 15 := by show 16 * run8Of (ix2 R d) + 15 = _; rw [hr]
  have hloc : loc8Of (ix2 R d) = ix2 (⟨R.val % 1024, by omega⟩ : Fin 1024) d := by
    funext a; apply Fin.ext
    match a with
    | ⟨0, _⟩ => rfl
    | ⟨1, _⟩ => show d.val % 2048 = d.val; omega
  unfold G8
  rw [dif_pos hlt, ← outsAt0_sweep m c _ hlt, hloc,
    out_last m c _ hlt (by omega) _ d R (by show R.val = 1024 * _ + R.val % 1024; omega), ref_apply]
  rfl

/-- The first cast stack. -/
theorem G9_eq (c : Dev nD) : G9 m c = val_main_v23 (F := Ideal) (m ((c : Thread nD τ).loc main_arg4)) := by
  funext i
  obtain ⟨R, k, rfl⟩ : ∃ (R : Fin 2048) (k : Fin 8192), i = ix2 R k := ⟨i 0, i 1, eq_ix2 i⟩
  have hpt : pt9Of (ix2 R k) = R.val / 16 := by
    show 1 * (R.val / 16 - 0) + 1 * (k.val / 8192 - 0) = _
    omega
  have hlt : pt9Of (ix2 R k) < cfg0.N := by rw [hpt, show cfg0.N = 128 from N_0]; omega
  have hloc : loc9Of (ix2 R k) = ix2 (⟨R.val % 16, by omega⟩ : Fin 16) k := by
    funext a; apply Fin.ext
    match a with
    | ⟨0, _⟩ => rfl
    | ⟨1, _⟩ => show k.val % 8192 = k.val; omega
  obtain ⟨acc, hacc⟩ := outs_step m c _ hlt
  unfold G9
  rw [dif_pos hlt, ← outsAt0_sweep m c _ hlt, hloc, hacc, cast9 m c ⟨pt9Of (ix2 R k), hlt⟩ acc]
  pointwise [k0_pay5, val_main_v23, val_main_v22, val_main_v21]
  exact block4 m c ⟨pt9Of (ix2 R k), hlt⟩ _ k R (by show R.val = 16 * pt9Of (ix2 R k) + R.val % 16; omega)

/-- The second cast stack. -/
theorem G10_eq (c : Dev nD) : G10 m c = val_main_v26 (F := Ideal) (m ((c : Thread nD τ).loc main_arg5)) := by
  funext i
  obtain ⟨R, k, rfl⟩ : ∃ (R : Fin 8192) (k : Fin 2048), i = ix2 R k := ⟨i 0, i 1, eq_ix2 i⟩
  have hpt : pt10Of (ix2 R k) = R.val / 64 := by
    show 1 * (R.val / 64 - 0) + 1 * (k.val / 2048 - 0) = _
    omega
  have hlt : pt10Of (ix2 R k) < cfg0.N := by rw [hpt, show cfg0.N = 128 from N_0]; omega
  have hloc : loc10Of (ix2 R k) = ix2 (⟨R.val % 64, by omega⟩ : Fin 64) k := by
    funext a; apply Fin.ext
    match a with
    | ⟨0, _⟩ => rfl
    | ⟨1, _⟩ => show k.val % 2048 = k.val; omega
  obtain ⟨acc, hacc⟩ := outs_step m c _ hlt
  unfold G10
  rw [dif_pos hlt, ← outsAt0_sweep m c _ hlt, hloc, hacc, cast10 m c ⟨pt10Of (ix2 R k), hlt⟩ acc]
  pointwise [k0_pay6, val_main_v26, val_main_v25, val_main_v24]
  exact block5 m c ⟨pt10Of (ix2 R k), hlt⟩ _ k R (by show R.val = 64 * pt10Of (ix2 R k) + R.val % 64; omega)

/-- The third cast stack. -/
theorem G11_eq (c : Dev nD) : G11 m c = val_main_v29 (F := Ideal) (m ((c : Thread nD τ).loc main_arg6)) := by
  funext i
  obtain ⟨R, k, rfl⟩ : ∃ (R : Fin 2048) (k : Fin 3584), i = ix2 R k := ⟨i 0, i 1, eq_ix2 i⟩
  have hpt : pt11Of (ix2 R k) = R.val / 16 := by
    show 1 * (R.val / 16 - 0) + 1 * (k.val / 3584 - 0) = _
    omega
  have hlt : pt11Of (ix2 R k) < cfg0.N := by rw [hpt, show cfg0.N = 128 from N_0]; omega
  have hloc : loc11Of (ix2 R k) = ix2 (⟨R.val % 16, by omega⟩ : Fin 16) k := by
    funext a; apply Fin.ext
    match a with
    | ⟨0, _⟩ => rfl
    | ⟨1, _⟩ => show k.val % 3584 = k.val; omega
  obtain ⟨acc, hacc⟩ := outs_step m c _ hlt
  unfold G11
  rw [dif_pos hlt, ← outsAt0_sweep m c _ hlt, hloc, hacc, cast11 m c ⟨pt11Of (ix2 R k), hlt⟩ acc]
  pointwise [k0_pay1, k0_pay7, val_main_v29, val_main_v28, val_main_v27]
  exact block6 m c ⟨pt11Of (ix2 R k), hlt⟩ _ k R (by show R.val = 16 * pt11Of (ix2 R k) + R.val % 16; omega)

/-- The fourth cast stack. -/
theorem G12_eq (c : Dev nD) : G12 m c = val_main_v32 (F := Ideal) (m ((c : Thread nD τ).loc main_arg7)) := by
  funext i
  obtain ⟨R, k, rfl⟩ : ∃ (R : Fin 2048) (k : Fin 2048), i = ix2 R k := ⟨i 0, i 1, eq_ix2 i⟩
  have hpt : pt12Of (ix2 R k) = R.val / 16 := by
    show 1 * (R.val / 16 - 0) + 1 * (k.val / 2048 - 0) = _
    omega
  have hlt : pt12Of (ix2 R k) < cfg0.N := by rw [hpt, show cfg0.N = 128 from N_0]; omega
  have hloc : loc12Of (ix2 R k) = ix2 (⟨R.val % 16, by omega⟩ : Fin 16) k := by
    funext a; apply Fin.ext
    match a with
    | ⟨0, _⟩ => rfl
    | ⟨1, _⟩ => show k.val % 2048 = k.val; omega
  obtain ⟨acc, hacc⟩ := outs_step m c _ hlt
  unfold G12
  rw [dif_pos hlt, ← outsAt0_sweep m c _ hlt, hloc, hacc, cast12 m c ⟨pt12Of (ix2 R k), hlt⟩ acc]
  pointwise [k0_pay2, val_main_v32, val_main_v31, val_main_v30]
  exact block7 m c ⟨pt12Of (ix2 R k), hlt⟩ _ k R (by show R.val = 16 * pt12Of (ix2 R k) + R.val % 16; omega)

/-- The two programs run, and from equal arguments their five results are equal. -/
theorem algebraic : Cert.algebraic_MlpIdeal_MlpReferenceIdeal (hMlpIdeal := Cert.MlpIdeal.Gen.facts)
    (hMlpReferenceIdeal := Cert.MlpReferenceIdeal.Gen.facts) := by
  intro m g m' g' _ hargs
  refine ⟨fun c => G8 m c, fun c => G9 m c, fun c => G10 m c, fun c => G11 m c, fun c => G12 m c,
    Value.run (F := Ideal) m g, ?_⟩
  refine (θ_run (Cert.MlpReferenceIdeal.defs (F := Ideal)) _ _).mono (fun r h c => ?_)
    (Cert.MlpReferenceIdeal.Value.run (F := Ideal) m' g')
  obtain ⟨h0, h1, h2, h3, h4, hkept⟩ := h c
  obtain ⟨a0, a1, a2, a3, a4, a5, a6, a7⟩ := hargs c
  refine ⟨h0.trans ?_, h1.trans ?_, h2.trans ?_, h3.trans ?_, h4.trans ?_, hkept⟩
  · rw [a0, a1, a2, a3]
    exact (val_main_v20_eq (F := Ideal) _ _ _ _).trans (G8_eq m c).symm
  · rw [a4]
    exact (val_main_v23_eq (F := Ideal) _).trans (G9_eq m c).symm
  · rw [a5]
    exact (val_main_v26_eq (F := Ideal) _).trans (G10_eq m c).symm
  · rw [a6]
    exact (val_main_v29_eq (F := Ideal) _).trans (G11_eq m c).symm
  · rw [a7]
    exact (val_main_v32_eq (F := Ideal) _).trans (G12_eq m c).symm

end Cert.MlpIdeal.RefValue

end
-- ==== Proof.DilValue.Unit.lean ====
/-
  One block of dilated window attention at one index, over the extended reals: 128 query rows of one head against 256
  keys. The keys a row may not see have the score minus infinity; the row's output is the average of the values with
  the weights exp (score − largest score), and its log-sum-exp is the largest score plus the logarithm of the weights'
  sum.
-/
module

public import proofs.«01_k».proof.Proof.Gen.KernelIdeal.Value
public import Idealize.ShloMosaic.Lib.Pointwise

@[expose] public section

set_option maxRecDepth 16384

noncomputable section

namespace Cert.KernelIdeal.RefValue

open Cert.KernelIdeal Cert.KernelIdeal.Gen Idealize.ShloMosaic Idealize.ShloMosaic.TcCoe

/-- The score of key `j`: minus infinity where it is hidden, else the product of query and key, plus the bias. -/
def score (q : Fin 128 → EReal) (k : Fin 256 → Fin 128 → EReal) (b : Fin 256 → EReal) (hid : Fin 256 → Bool)
    (j : Fin 256) : EReal :=
  if hid j then ⊥ else (∑ l : Fin 128, q l * k j l) + b j

/-- The largest score of a row. -/
def top (s : Fin 256 → EReal) : EReal := Finset.univ.fold max ⊥ s

/-- The weight of key `j`. -/
def weight (s : Fin 256 → EReal) (j : Fin 256) : EReal := Ideal.exp (s j - top s)

/-- The weighted average of the values `v`. -/
def attend (s v : Fin 256 → EReal) : EReal :=
  Ideal.div (∑ j : Fin 256, weight s j * v j) (∑ j : Fin 256, weight s j)

/-- The logarithm of the sum of the exponentials of the scores. -/
def logSum (s : Fin 256 → EReal) : EReal := top s + Ideal.log (∑ j : Fin 256, weight s j)

theorem minus_infinity : Ideal.ofBits .f32 0xFF800000#32 = ⊥ := by
  simp [Ideal.ofBits, Ideal.ieee]

/-- The first sub-block's mask bit. -/
theorem mask_bit : ∀ (n : Fin 4) (j : Fin 256),
    IntOp.andi (Scalar.cmpi .eq (BitVec.ofNat 32 n.val) 0#32) (IntOp.cmpi .slt (BitVec.ofNat 32 j.val) 128#32)
      = if n.val = 0 ∧ j.val < 128 then 1#1 else 0#1 := by decide +kernel

/-- A sub-block after the first of its tile: its output. -/
theorem later_out (q : Vec Ideal S1x128x128 .bf16) (k v : Vec Ideal S1x256x128 .bf16) (b : Vec Ideal S1x128x256 .f32)
    (r e : Fin 128) :
    k0_pay38 (F := Ideal) q k v b (ix3 0 r e)
      = attend (score (fun l => q (ix3 0 r l)) (fun j l => k (ix3 0 j l)) (fun j => b (ix3 0 r j)) (fun _ => false))
          (fun j => v (ix3 0 j e)) := by
  unfold attend weight top score
  pointwise [k0_pay38, k0_pay37, k0_pay36, k0_pay35, k0_pay34]
  simp only [minus_infinity, Bool.false_eq_true, if_false]

/-- A sub-block after the first of its tile: its log-sum-exp. -/
theorem later_lse (q : Vec Ideal S1x128x128 .bf16) (k : Vec Ideal S1x256x128 .bf16) (b : Vec Ideal S1x128x256 .f32)
    (r e : Fin 128) :
    k0_pay40 (F := Ideal) (k0_pay39 q k b) (ix3 0 r e)
      = logSum (score (fun l => q (ix3 0 r l)) (fun j l => k (ix3 0 j l)) (fun j => b (ix3 0 r j))
          (fun _ => false)) := by
  unfold logSum weight top score
  pointwise [k0_pay40, k0_pay39, k0_pay37, k0_pay36, k0_pay35, k0_pay34]
  simp only [minus_infinity, Bool.false_eq_true, if_false]

/-- The keys of the first sub-block of a tile: 128 rows of the tile before, then the tile's first 128. -/
def joined (p c : Vec Ideal S1x128x128 .bf16) (j : Fin 256) (l : Fin 128) : EReal :=
  if h : j.val < 128 then p (ix3 0 ⟨j.val, h⟩ l) else c (ix3 0 ⟨j.val - 128, by omega⟩ l)

/-- The keys hidden in the first sub-block: in the first tile of the sequence, the first 128. -/
def hidden (i : grid0.Coords) (j : Fin 256) : Bool := decide ((i 1).val = 0 ∧ j.val < 128)

theorem first_score (i : grid0.Coords) (q kp kc : Vec Ideal S1x128x128 .bf16) (b : Vec Ideal S1x128x256 .f32)
    (r : Fin 128) (j : Fin 256) :
    k0_pay2 (F := Ideal) i q kp kc b (ix2 r j)
      = score (fun l => q (ix3 0 r l)) (joined kp kc) (fun j => b (ix3 0 r j)) (hidden i) j := by
  unfold score joined hidden
  pointwise [k0_pay2]
  rw [mask_bit (i 1) j]
  by_cases hm : (i 1).val = 0 ∧ j.val < 128
  · rw [if_pos hm, decide_eq_true hm, if_pos rfl]
    rfl
  · rw [if_neg hm, decide_eq_false hm, if_neg Bool.false_ne_true]
    rfl

theorem first_out (i : grid0.Coords) (q kp kc vp vc : Vec Ideal S1x128x128 .bf16) (b : Vec Ideal S1x128x256 .f32)
    (r e : Fin 128) :
    k0_pay7 (F := Ideal) (k0_pay5 i q kp kc b) (k0_pay6 i q kp kc vp vc b) (ix3 0 r e)
      = attend (score (fun l => q (ix3 0 r l)) (joined kp kc) (fun j => b (ix3 0 r j)) (hidden i))
          (fun j => joined vp vc j e) := by
  rw [show score (fun l => q (ix3 0 r l)) (joined kp kc) (fun j => b (ix3 0 r j)) (hidden i)
      = fun j => k0_pay2 (F := Ideal) i q kp kc b (ix2 r j) from
    funext fun j => (first_score i q kp kc b r j).symm]
  unfold attend weight top joined
  pointwise [k0_pay7, k0_pay6, k0_pay5, k0_pay4, k0_pay3]
  rw [minus_infinity]

theorem first_lse (i : grid0.Coords) (q kp kc : Vec Ideal S1x128x128 .bf16) (b : Vec Ideal S1x128x256 .f32)
    (r e : Fin 128) :
    k0_pay8 (F := Ideal) (k0_pay3 i q kp kc b) (k0_pay5 i q kp kc b) (ix3 0 r e)
      = logSum (score (fun l => q (ix3 0 r l)) (joined kp kc) (fun j => b (ix3 0 r j)) (hidden i)) := by
  rw [show score (fun l => q (ix3 0 r l)) (joined kp kc) (fun j => b (ix3 0 r j)) (hidden i)
      = fun j => k0_pay2 (F := Ideal) i q kp kc b (ix2 r j) from
    funext fun j => (first_score i q kp kc b r j).symm]
  unfold logSum weight top
  pointwise [k0_pay8, k0_pay5, k0_pay4, k0_pay3]
  rw [minus_infinity]

end Cert.KernelIdeal.RefValue

end
-- ==== Proof.DilValue.Pieces.lean ====
/-
  What the kernel stores in one tile, at one index. A tile is 2048 rows: 16 sub-blocks of 128 rows for each of the four
  heads, 64 stores for each output. Sub-block `n` of a tile attends to its own rows and to the 128 rows before them;
  those of the first sub-block come from the tile before.
-/
module

public import proofs.«01_k».proof.Proof.DilValue.Unit
public import Idealize.ShloMosaic.Lib.Pipeline.ValueKit.Tiles

@[expose] public section

set_option maxRecDepth 16384

noncomputable section

namespace Cert.KernelIdeal.RefValue

open Cert.KernelIdeal Cert.KernelIdeal.Gen Idealize.ShloMosaic Idealize.ShloMosaic.TcCoe

theorem inb_rows (n : Fin 16) (h : Fin 4) :
    ∀ a, (![0, n.val * 128, h.val * 128] : Fin 3 → ℕ) a + S1x128x128.size a ≤ S1x2048x512.size a := by
  intro a
  match a with
  | ⟨0, _⟩ => show 0 + 1 ≤ 1; omega
  | ⟨1, _⟩ => show n.val * 128 + 128 ≤ 2048; omega
  | ⟨2, _⟩ => show h.val * 128 + 128 ≤ 512; omega

theorem inb_pair (m : Fin 15) (h : Fin 4) :
    ∀ a, (![0, m.val * 128, h.val * 128] : Fin 3 → ℕ) a + S1x256x128.size a ≤ S1x2048x512.size a := by
  intro a
  match a with
  | ⟨0, _⟩ => show 0 + 1 ≤ 1; omega
  | ⟨1, _⟩ => show m.val * 128 + 256 ≤ 2048; omega
  | ⟨2, _⟩ => show h.val * 128 + 128 ≤ 512; omega

theorem inb_before (h : Fin 4) :
    ∀ a, (![0, 0, h.val * 128] : Fin 3 → ℕ) a + S1x128x128.size a ≤ S1x128x512.size a := by
  intro a
  match a with
  | ⟨0, _⟩ => show 0 + 1 ≤ 1; omega
  | ⟨1, _⟩ => show 0 + 128 ≤ 128; omega
  | ⟨2, _⟩ => show h.val * 128 + 128 ≤ 512; omega

theorem inb_bias (h : Fin 4) :
    ∀ a, (![h.val, 0, 0] : Fin 3 → ℕ) a + S1x128x256.size a ≤ S4x128x256.size a := by
  intro a
  match a with
  | ⟨0, _⟩ => show h.val + 1 ≤ 4; omega
  | ⟨1, _⟩ => show 0 + 128 ≤ 128; omega
  | ⟨2, _⟩ => show 0 + 256 ≤ 256; omega

/-- Sub-block `n`'s own rows of head `h`. -/
abbrev rows (n : Fin 16) (h : Fin 4) : Rect S1x2048x512 :=
  Rect.unit (s := S1x2048x512) ![0, n.val * 128, h.val * 128] S1x128x128.size (inb_rows n h)

/-- The rows of sub-blocks `m` and `m + 1`. -/
abbrev pair (m : Fin 15) (h : Fin 4) : Rect S1x2048x512 :=
  Rect.unit (s := S1x2048x512) ![0, m.val * 128, h.val * 128] S1x256x128.size (inb_pair m h)

/-- The rows of the tile before. -/
abbrev prior (h : Fin 4) : Rect S1x128x512 :=
  Rect.unit (s := S1x128x512) ![0, 0, h.val * 128] S1x128x128.size (inb_before h)

/-- Head `h`'s bias. -/
abbrev biasOf (h : Fin 4) : Rect S4x128x256 :=
  Rect.unit (s := S4x128x256) ![h.val, 0, 0] S1x128x256.size (inb_bias h)

/-- The store of the attention of sub-block `m + 1`. -/
def laterOut (x0 x1 x3 : Vec Ideal S1x2048x512 .bf16) (x5 : Vec Ideal S4x128x256 .f32) (m : Fin 15) (h : Fin 4) :
    View.Piece (Elt Ideal) S1x2048x512 .bf16 :=
  ⟨rows m.succ h, k0_pay38 (View.ld x0 (rows m.succ h)) (View.ld x1 (pair m h)) (View.ld x3 (pair m h))
    (View.ld x5 (biasOf h))⟩

/-- The store of the attention of the first sub-block. -/
def firstOut (i : grid0.Coords) (x0 x1 : Vec Ideal S1x2048x512 .bf16) (x2 : Vec Ideal S1x128x512 .bf16)
    (x3 : Vec Ideal S1x2048x512 .bf16) (x4 : Vec Ideal S1x128x512 .bf16) (x5 : Vec Ideal S4x128x256 .f32) (h : Fin 4) :
    View.Piece (Elt Ideal) S1x2048x512 .bf16 :=
  ⟨rows 0 h, k0_pay7
    (k0_pay5 i (View.ld x0 (rows 0 h)) (View.ld x2 (prior h)) (View.ld x1 (rows 0 h)) (View.ld x5 (biasOf h)))
    (k0_pay6 i (View.ld x0 (rows 0 h)) (View.ld x2 (prior h)) (View.ld x1 (rows 0 h)) (View.ld x4 (prior h))
      (View.ld x3 (rows 0 h)) (View.ld x5 (biasOf h)))⟩

/-- All the stores of the attention, the last first. -/
theorem out_pieces (i : grid0.Coords) (x0 x1 : Vec Ideal S1x2048x512 .bf16) (x2 : Vec Ideal S1x128x512 .bf16)
    (x3 : Vec Ideal S1x2048x512 .bf16) (x4 : Vec Ideal S1x128x512 .bf16) (x5 : Vec Ideal S4x128x256 .f32) :
    out0_6 (F := Ideal) i x0 x1 x2 x3 x4 x5
      = View.canon ((List.ofFn fun k : Fin 60 =>
          laterOut x0 x1 x3 x5 ⟨14 - k.val / 4, by omega⟩ ⟨3 - k.val % 4, by omega⟩)
        ++ List.ofFn fun k : Fin 4 => firstOut i x0 x1 x2 x3 x4 x5 ⟨3 - k.val, by omega⟩) := rfl

/-- The store of the log-sum-exp of sub-block `m + 1`. -/
def laterLse (x0 x1 : Vec Ideal S1x2048x512 .bf16) (x5 : Vec Ideal S4x128x256 .f32) (m : Fin 15) (h : Fin 4) :
    View.Piece (Elt Ideal) S1x2048x512 .f32 :=
  ⟨rows m.succ h, k0_pay40 (k0_pay39 (View.ld x0 (rows m.succ h)) (View.ld x1 (pair m h)) (View.ld x5 (biasOf h)))⟩

/-- The store of the log-sum-exp of the first sub-block. -/
def firstLse (i : grid0.Coords) (x0 x1 : Vec Ideal S1x2048x512 .bf16) (x2 : Vec Ideal S1x128x512 .bf16)
    (x5 : Vec Ideal S4x128x256 .f32) (h : Fin 4) : View.Piece (Elt Ideal) S1x2048x512 .f32 :=
  ⟨rows 0 h, k0_pay8
    (k0_pay3 i (View.ld x0 (rows 0 h)) (View.ld x2 (prior h)) (View.ld x1 (rows 0 h)) (View.ld x5 (biasOf h)))
    (k0_pay5 i (View.ld x0 (rows 0 h)) (View.ld x2 (prior h)) (View.ld x1 (rows 0 h)) (View.ld x5 (biasOf h)))⟩

/-- All the stores of the log-sum-exp, the last first. -/
theorem lse_pieces (i : grid0.Coords) (x0 x1 : Vec Ideal S1x2048x512 .bf16) (x2 : Vec Ideal S1x128x512 .bf16)
    (x3 : Vec Ideal S1x2048x512 .bf16) (x4 : Vec Ideal S1x128x512 .bf16) (x5 : Vec Ideal S4x128x256 .f32) :
    out0_7 (F := Ideal) i x0 x1 x2 x3 x4 x5
      = View.canon ((List.ofFn fun k : Fin 60 =>
          laterLse x0 x1 x5 ⟨14 - k.val / 4, by omega⟩ ⟨3 - k.val % 4, by omega⟩)
        ++ List.ofFn fun k : Fin 4 => firstLse i x0 x1 x2 x5 ⟨3 - k.val, by omega⟩) := rfl

/-- Stores of this layout, read at row `r` of sub-block `n` and lane `e` of head `h`: the value `v`, when that
    sub-block's store has it there. -/
theorem read_stores {t : EltTy} (later : Fin 15 → Fin 4 → S1x128x128.Idx → Elt Ideal t) (first : Fin 4 → S1x128x128.Idx → Elt Ideal t) (n : Fin 16) (h : Fin 4)
    (r e : Fin 128) (v : Elt Ideal t)
    (hl : ∀ m : Fin 15, n = m.succ → later m h (ix3 0 r e) = v) (hf : n = 0 → first h (ix3 0 r e) = v) :
    View.canon ((List.ofFn fun k : Fin 60 => (⟨rows (Fin.succ ⟨14 - k.val / 4, by omega⟩) ⟨3 - k.val % 4, by omega⟩,
          later ⟨14 - k.val / 4, by omega⟩ ⟨3 - k.val % 4, by omega⟩⟩ : View.Piece (Elt Ideal) S1x2048x512 t))
        ++ List.ofFn fun k : Fin 4 => (⟨rows 0 ⟨3 - k.val, by omega⟩, first ⟨3 - k.val, by omega⟩⟩ :
          View.Piece (Elt Ideal) S1x2048x512 t))
      (ix3 0 ⟨n.val * 128 + r.val, by omega⟩ ⟨h.val * 128 + e.val, by omega⟩) = v := by
  have hn := n.isLt
  have hh := h.isLt
  have hr := r.isLt
  have he := e.isLt
  refine View.canon_eq_of_allAt _ _ v ?_ ?_
  · by_cases h0 : n.val = 0
    · refine ⟨_, List.mem_append_right _ (List.mem_ofFn.mpr ⟨⟨3 - h.val, by omega⟩, rfl⟩), (Rect.mem_set_unit (inb := inb_rows _ _)).mpr ?_⟩
      intro a
      match a with
      | ⟨0, _⟩ => show 0 ≤ 0 ∧ 0 < 0 + 1; omega
      | ⟨1, _⟩ => show 0 * 128 ≤ n.val * 128 + r.val ∧ n.val * 128 + r.val < 0 * 128 + 128; omega
      | ⟨2, _⟩ =>
        show (3 - (3 - h.val)) * 128 ≤ h.val * 128 + e.val ∧ h.val * 128 + e.val < (3 - (3 - h.val)) * 128 + 128
        omega
    · refine ⟨_, List.mem_append_left _ (List.mem_ofFn.mpr ⟨⟨(15 - n.val) * 4 + (3 - h.val), by omega⟩, rfl⟩),
        (Rect.mem_set_unit (inb := inb_rows _ _)).mpr ?_⟩
      intro a
      match a with
      | ⟨0, _⟩ => show 0 ≤ 0 ∧ 0 < 0 + 1; omega
      | ⟨1, _⟩ =>
        show (14 - ((15 - n.val) * 4 + (3 - h.val)) / 4 + 1) * 128 ≤ n.val * 128 + r.val
          ∧ n.val * 128 + r.val < (14 - ((15 - n.val) * 4 + (3 - h.val)) / 4 + 1) * 128 + 128
        omega
      | ⟨2, _⟩ =>
        show (3 - ((15 - n.val) * 4 + (3 - h.val)) % 4) * 128 ≤ h.val * 128 + e.val
          ∧ h.val * 128 + e.val < (3 - ((15 - n.val) * 4 + (3 - h.val)) % 4) * 128 + 128
        omega
  · intro p hp x hx
    rcases List.mem_append.mp hp with hp | hp
    · obtain ⟨k, rfl⟩ := List.mem_ofFn.mp hp
      have hk := k.isLt
      have e1 : (x 1).val < 128 := (x 1).isLt
      have e2 : (x 2).val < 128 := (x 2).isLt
      have h1 : (14 - k.val / 4 + 1) * 128 + 1 * (x 1).val = n.val * 128 + r.val := congrArg (fun i => (i 1).val) hx
      have h2 : (3 - k.val % 4) * 128 + 1 * (x 2).val = h.val * 128 + e.val := congrArg (fun i => (i 2).val) hx
      have hhk : (⟨3 - k.val % 4, by omega⟩ : Fin 4) = h := Fin.ext (by show 3 - k.val % 4 = h.val; omega)
      have hnk : n = Fin.succ (⟨14 - k.val / 4, by omega⟩ : Fin 15) :=
        Fin.ext (by show n.val = 14 - k.val / 4 + 1; omega)
      have hxx : x = ix3 0 r e := funext fun a => Fin.ext (by
        match a with
        | ⟨0, _⟩ => have : (x 0).val < 1 := (x 0).isLt; show (x 0).val = 0; omega
        | ⟨1, _⟩ => show (x 1).val = r.val; omega
        | ⟨2, _⟩ => show (x 2).val = e.val; omega)
      exact (congr (congrArg (later _) hhk) hxx).trans (hl _ hnk)
    · obtain ⟨k, rfl⟩ := List.mem_ofFn.mp hp
      have hk := k.isLt
      have e1 : (x 1).val < 128 := (x 1).isLt
      have e2 : (x 2).val < 128 := (x 2).isLt
      have h1 : 0 * 128 + 1 * (x 1).val = n.val * 128 + r.val := congrArg (fun i => (i 1).val) hx
      have h2 : (3 - k.val) * 128 + 1 * (x 2).val = h.val * 128 + e.val := congrArg (fun i => (i 2).val) hx
      have hhk : (⟨3 - k.val, by omega⟩ : Fin 4) = h := Fin.ext (by show 3 - k.val = h.val; omega)
      have hxx : x = ix3 0 r e := funext fun a => Fin.ext (by
        match a with
        | ⟨0, _⟩ => have : (x 0).val < 1 := (x 0).isLt; show (x 0).val = 0; omega
        | ⟨1, _⟩ => show (x 1).val = r.val; omega
        | ⟨2, _⟩ => show (x 2).val = e.val; omega)
      have h0 : n = 0 := Fin.ext (by show n.val = 0; omega)
      exact (congr (congrArg first hhk) hxx).trans (hf h0)

/-- The keys (or values) sub-block `n` of a tile sees: the tile's rows `c`, after the last 128 rows `p` of the tile
    before. -/
def tileKeys (p : Vec Ideal S1x128x512 .bf16) (c : Vec Ideal S1x2048x512 .bf16) (n : Fin 16) (h : Fin 4) (j : Fin 256)
    (l : Fin 128) : EReal :=
  if hj : 128 ≤ n.val * 128 + j.val then c (ix3 0 ⟨n.val * 128 + j.val - 128, by omega⟩ ⟨h.val * 128 + l.val, by omega⟩)
  else p (ix3 0 ⟨j.val, by omega⟩ ⟨h.val * 128 + l.val, by omega⟩)

/-- The keys hidden from sub-block `n`: those before the sequence's start. -/
def tileHidden (i : grid0.Coords) (n : Fin 16) (j : Fin 256) : Bool :=
  decide ((i 1).val = 0 ∧ n.val * 128 + j.val < 128)

/-- The scores of row `r` of sub-block `n`, head `h`, from the tile's blocks. -/
def tileScore (i : grid0.Coords) (x0 x1 : Vec Ideal S1x2048x512 .bf16) (x2 : Vec Ideal S1x128x512 .bf16)
    (x5 : Vec Ideal S4x128x256 .f32) (n : Fin 16) (h : Fin 4) (r : Fin 128) : Fin 256 → EReal :=
  score (fun l => x0 (ix3 0 ⟨n.val * 128 + r.val, by omega⟩ ⟨h.val * 128 + l.val, by omega⟩)) (tileKeys x2 x1 n h)
    (fun j => x5 (ix3 h r j)) (tileHidden i n)

theorem ld_rows (x : Vec Ideal S1x2048x512 .bf16) (n : Fin 16) (h : Fin 4) (r l : Fin 128) :
    View.ld x (rows n h) (ix3 0 r l) = x (ix3 0 ⟨n.val * 128 + r.val, by omega⟩ ⟨h.val * 128 + l.val, by omega⟩) :=
  View.ld_unit_apply_of x _ _ _ _ _ fun a => match a with
    | ⟨0, _⟩ => rfl
    | ⟨1, _⟩ => rfl
    | ⟨2, _⟩ => rfl

theorem ld_bias (x : Vec Ideal S4x128x256 .f32) (h : Fin 4) (r : Fin 128) (j : Fin 256) :
    View.ld x (biasOf h) (ix3 0 r j) = x (ix3 h r j) :=
  View.ld_unit_apply_of x _ _ _ _ _ fun a => match a with
    | ⟨0, _⟩ => rfl
    | ⟨1, _⟩ => (Nat.zero_add _).symm
    | ⟨2, _⟩ => (Nat.zero_add _).symm

theorem ld_pair (p : Vec Ideal S1x128x512 .bf16) (c : Vec Ideal S1x2048x512 .bf16) (m : Fin 15) (h : Fin 4) (j : Fin 256)
    (l : Fin 128) : View.ld c (pair m h) (ix3 0 j l) = tileKeys p c m.succ h j l := by
  unfold tileKeys
  have hj : 128 ≤ m.succ.val * 128 + j.val := by show 128 ≤ (m.val + 1) * 128 + j.val; omega
  rw [dif_pos hj]
  refine View.ld_unit_apply_of c _ _ _ _ _ fun a => ?_
  match a with
  | ⟨0, _⟩ => rfl
  | ⟨1, _⟩ => show (m.val + 1) * 128 + j.val - 128 = m.val * 128 + j.val; omega
  | ⟨2, _⟩ => rfl

theorem ld_joined (p : Vec Ideal S1x128x512 .bf16) (c : Vec Ideal S1x2048x512 .bf16) (h : Fin 4) (j : Fin 256)
    (l : Fin 128) : joined (View.ld p (prior h)) (View.ld c (rows 0 h)) j l = tileKeys p c 0 h j l := by
  unfold joined tileKeys
  by_cases hj : j.val < 128
  · have hj' : ¬ 128 ≤ (0 : Fin 16).val * 128 + j.val := by show ¬ 128 ≤ 0 * 128 + j.val; omega
    rw [dif_pos hj, dif_neg hj']
    refine View.ld_unit_apply_of p _ _ _ _ _ fun a => ?_
    match a with
    | ⟨0, _⟩ => rfl
    | ⟨1, _⟩ => exact (Nat.zero_add _).symm
    | ⟨2, _⟩ => rfl
  · have hj' : 128 ≤ (0 : Fin 16).val * 128 + j.val := by show 128 ≤ 0 * 128 + j.val; omega
    rw [dif_neg hj, dif_pos hj']
    refine View.ld_unit_apply_of c _ _ _ _ _ fun a => ?_
    match a with
    | ⟨0, _⟩ => rfl
    | ⟨1, _⟩ => show 0 * 128 + j.val - 128 = 0 * 128 + (j.val - 128); omega
    | ⟨2, _⟩ => rfl

theorem later_tileScore (i : grid0.Coords) (x0 x1 : Vec Ideal S1x2048x512 .bf16) (x2 : Vec Ideal S1x128x512 .bf16)
    (x5 : Vec Ideal S4x128x256 .f32) (m : Fin 15) (h : Fin 4) (r : Fin 128) :
    score (fun l => View.ld x0 (rows m.succ h) (ix3 0 r l)) (fun j l => View.ld x1 (pair m h) (ix3 0 j l))
      (fun j => View.ld x5 (biasOf h) (ix3 0 r j)) (fun _ => false) = tileScore i x0 x1 x2 x5 m.succ h r := by
  have hh : (fun _ => false) = tileHidden i m.succ := funext fun j =>
    (decide_eq_false (fun hc => by have : (m.val + 1) * 128 + j.val < 128 := hc.2; omega)).symm
  unfold tileScore
  rw [← hh, funext fun l => ld_rows x0 m.succ h r l, funext fun j => funext fun l => ld_pair x2 x1 m h j l,
    funext fun j => ld_bias x5 h r j]

theorem first_tileScore (i : grid0.Coords) (x0 x1 : Vec Ideal S1x2048x512 .bf16) (x2 : Vec Ideal S1x128x512 .bf16)
    (x5 : Vec Ideal S4x128x256 .f32) (h : Fin 4) (r : Fin 128) :
    score (fun l => View.ld x0 (rows 0 h) (ix3 0 r l)) (joined (View.ld x2 (prior h)) (View.ld x1 (rows 0 h)))
      (fun j => View.ld x5 (biasOf h) (ix3 0 r j)) (hidden i) = tileScore i x0 x1 x2 x5 0 h r := by
  have hh : hidden i = tileHidden i 0 := funext fun j => by
    unfold hidden tileHidden
    exact decide_eq_decide.mpr (by show _ ∧ j.val < 128 ↔ _ ∧ 0 * 128 + j.val < 128; omega)
  unfold tileScore
  rw [hh, funext fun l => ld_rows x0 0 h r l, funext fun j => funext fun l => ld_joined x2 x1 h j l,
    funext fun j => ld_bias x5 h r j]

/-- The tile's attention output at one index. -/
theorem tile_out (i : grid0.Coords) (x0 x1 : Vec Ideal S1x2048x512 .bf16) (x2 : Vec Ideal S1x128x512 .bf16)
    (x3 : Vec Ideal S1x2048x512 .bf16) (x4 : Vec Ideal S1x128x512 .bf16) (x5 : Vec Ideal S4x128x256 .f32) (n : Fin 16)
    (h : Fin 4) (r e : Fin 128) :
    out0_6 (F := Ideal) i x0 x1 x2 x3 x4 x5
        (ix3 0 ⟨n.val * 128 + r.val, by omega⟩ ⟨h.val * 128 + e.val, by omega⟩)
      = attend (tileScore i x0 x1 x2 x5 n h r) (fun j => tileKeys x4 x3 n h j e) := by
  rw [out_pieces]
  refine read_stores (fun m h => (laterOut x0 x1 x3 x5 m h).2) (fun h => (firstOut i x0 x1 x2 x3 x4 x5 h).2) n h r e _
    (fun m hm => ?_) (fun h0 => ?_)
  · subst hm
    refine (later_out _ _ _ _ r e).trans ?_
    rw [later_tileScore i x0 x1 x2 x5 m h r, funext fun j => ld_pair x4 x3 m h j e]
  · subst h0
    refine (first_out i _ _ _ _ _ _ r e).trans ?_
    rw [first_tileScore i x0 x1 x2 x5 h r, funext fun j => ld_joined x4 x3 h j e]

/-- The tile's log-sum-exp at one index. -/
theorem tile_lse (i : grid0.Coords) (x0 x1 : Vec Ideal S1x2048x512 .bf16) (x2 : Vec Ideal S1x128x512 .bf16)
    (x3 : Vec Ideal S1x2048x512 .bf16) (x4 : Vec Ideal S1x128x512 .bf16) (x5 : Vec Ideal S4x128x256 .f32) (n : Fin 16)
    (h : Fin 4) (r e : Fin 128) :
    out0_7 (F := Ideal) i x0 x1 x2 x3 x4 x5
        (ix3 0 ⟨n.val * 128 + r.val, by omega⟩ ⟨h.val * 128 + e.val, by omega⟩)
      = logSum (tileScore i x0 x1 x2 x5 n h r) := by
  rw [lse_pieces]
  refine read_stores (fun m h => (laterLse x0 x1 x5 m h).2) (fun h => (firstLse i x0 x1 x2 x5 h).2) n h r e _
    (fun m hm => ?_) (fun h0 => ?_)
  · subst hm
    refine (later_lse _ _ _ r e).trans ?_
    rw [later_tileScore i x0 x1 x2 x5 m h r]
  · subst h0
    refine (first_lse i _ _ _ _ r e).trans ?_
    rw [first_tileScore i x0 x1 x2 x5 h r]

end Cert.KernelIdeal.RefValue

end
-- ==== Proof.DilValue.Ref.lean ====
/-
  The reference's dilated attention at one index, in the words of Proof/DilValue/Unit.lean.
-/
module

public import proofs.«01_k».proof.Proof.DilValue.Unit
public import proofs.«01_k».proof.Proof.Gen.ReferenceIdeal.Read

@[expose] public section

set_option maxRecDepth 16384

noncomputable section

namespace Cert.KernelIdeal.RefValue

open Cert.ReferenceIdeal Cert.ReferenceIdeal.Read Idealize.ShloMosaic Idealize.ShloMosaic.TcCoe

/-- The keys (or values) block `n` reads, of head `h`: the block before it (zeros before the first), then its own. -/
def window (x : FVec Ideal S1x8192x512 .bf16) (n : Fin 64) (h : Fin 4) (j : Fin 256) (l : Fin 128) : EReal :=
  if hj : 128 ≤ n.val * 128 + j.val then x (ix3 0 ⟨n.val * 128 + j.val - 128, by omega⟩ ⟨h.val * 128 + l.val, by omega⟩)
  else 0

theorem zero_word : (FloatOps.sitofp (F := Ideal) .f32 (0#32 : BitVec 32) : Ideal .f32) = (0 : EReal) := by
  show (((0#32 : BitVec 32).toInt : ℝ) : EReal) = 0
  simp

theorem window_own (x : FVec Ideal S1x8192x512 .bf16) (n : Fin 64) (h : Fin 4) (j : Fin 256) (l : Fin 128) (R : Fin 8192)
    (C : Fin 512) (hj : 128 ≤ n.val * 128 + j.val) (hR : R.val + 128 = n.val * 128 + j.val)
    (hC : C.val = h.val * 128 + l.val) : x (ix3 0 R C) = window x n h j l := by
  unfold window
  rw [dif_pos hj]
  have h1 : R = ⟨n.val * 128 + j.val - 128, by omega⟩ := Fin.ext (by show R.val = n.val * 128 + j.val - 128; omega)
  have h2 : C = ⟨h.val * 128 + l.val, by omega⟩ := Fin.ext hC
  rw [h1, h2]

theorem window_zero (x : FVec Ideal S1x8192x512 .bf16) (n : Fin 64) (h : Fin 4) (j : Fin 256) (l : Fin 128)
    (hj : ¬ 128 ≤ n.val * 128 + j.val) : window x n h j l = 0 := by
  unfold window
  rw [dif_neg hj]

/-- Reading one block with the block before it, zeros before the first: the shape both lemmas below come to. -/
theorem window_read (x : FVec Ideal S1x8192x512 .bf16) (n : Fin 64) (h : Fin 4) (j : Fin 256) (l : Fin 128) :
    (if hj : j.val < 128 then
      (if hn : (1 ≤ n.val ∧ n.val - 1 < 64) ∧ j.val < 128 then
        x (ix3 0 ⟨(n.val - 1) * 128 + j.val, by omega⟩ ⟨h.val * 128 + l.val, by omega⟩)
        else FloatOps.sitofp (F := Ideal) .f32 (0#32 : BitVec 32))
      else x (ix3 0 ⟨n.val * 128 + (j.val - 128), by omega⟩ ⟨h.val * 128 + l.val, by omega⟩)) = window x n h j l := by
  by_cases hj : j.val < 128
  · rw [dif_pos hj]
    by_cases hn : 1 ≤ n.val
    · rw [dif_pos ⟨⟨hn, by omega⟩, hj⟩]
      exact window_own x n h j l _ _ (by omega) (by show (n.val - 1) * 128 + j.val + 128 = _; omega) rfl
    · rw [dif_neg (fun hc => hn hc.1.1), window_zero x n h j l (by omega)]
      exact zero_word
  · rw [dif_neg hj]
    exact window_own x n h j l _ _ (by omega) (by show n.val * 128 + (j.val - 128) + 128 = _; omega) rfl

theorem keys_apply (x : FVec Ideal S1x8192x512 .bf16) (n : Fin 64) (h : Fin 4) (j : Fin 256) (l : Fin 128) :
    val_main_v7 (F := Ideal) x (ix5 0 n j h l) = window x n h j l := by
  rw [← window_read]
  pointwise [val_main_v7, val_main_v6, val_main_v5, val_main_v4, val_main_call0_v0, val_main_c, val_main_v1]

theorem values_apply (x : FVec Ideal S1x8192x512 .bf16) (n : Fin 64) (h : Fin 4) (j : Fin 256) (l : Fin 128) :
    val_main_v11 (F := Ideal) x (ix5 0 n j h l) = window x n h j l := by
  rw [← window_read]
  pointwise [val_main_v11, val_main_v10, val_main_v9, val_main_v8, val_main_call1_v0, val_main_c_0, val_main_v2]

/-- The reference's mask: the keys before the sequence's start. -/
def before (n : Fin 64) (j : Fin 256) : Bool := decide (n.val * 128 + j.val < 128)

theorem valid_bit : ∀ (n : Fin 64) (j : Fin 256),
    IntOp.cmpi .sge (IntOp.subi (IntOp.addi (IntOp.muli (BitVec.ofNat 32 n.val) 128#32) (BitVec.ofNat 32 j.val))
      128#32) 0#32 = if before n j then 0#1 else 1#1 := by decide +kernel

/-- The masked scores. -/
theorem scores_apply (q k : FVec Ideal S1x8192x512 .bf16) (b : FVec Ideal S12x128x256 .f32) (n : Fin 64) (h : Fin 4)
    (r : Fin 128) (j : Fin 256) :
    val_main_v31 (F := Ideal) q k b (ix5 0 n h r j)
      = score (fun l => q (ix3 0 ⟨n.val * 128 + r.val, by omega⟩ ⟨h.val * 128 + l.val, by omega⟩)) (window k n h)
          (fun j => b (ix3 ⟨h.val, by omega⟩ r j)) (before n) j := by
  unfold score
  simp only [← keys_apply]
  pointwise [val_main_v31, val_main_call2_v2, val_main_call2_v1, val_main_call2_v0, val_main_cst, val_main_v30,
    val_main_v29, val_main_v28, val_main_v27, val_main_v26, val_main_v12, val_main_v3, val_main_v0, val_main_v25,
    val_main_v24, val_main_c_3, val_main_v23, val_main_v22, val_main_c_2, val_main_v21, val_main_v20,
    val_main_v19, val_main_v18, val_main_v17, val_main_c_1, val_main_v16, val_main_v15, val_main_v14, val_main_v13]
  rw [valid_bit n j]
  by_cases hm : before n j = true
  · rw [if_pos hm, if_pos hm]
    exact minus_infinity
  · rw [if_neg hm, if_neg hm]
    rfl

end Cert.KernelIdeal.RefValue

end
-- ==== Proof.DilValue.Rows.lean ====
/-
  The reference's two results at one index: the row's softmax over the scores of Proof/DilValue/Ref.lean.
-/
module

public import proofs.«01_k».proof.Proof.DilValue.Ref

@[expose] public section

set_option maxRecDepth 16384

noncomputable section

namespace Cert.KernelIdeal.RefValue

open Cert.ReferenceIdeal Cert.ReferenceIdeal.Read Idealize.ShloMosaic Idealize.ShloMosaic.TcCoe

/-- The scores of one query row. -/
def rowScore (q k : FVec Ideal S1x8192x512 .bf16) (b : FVec Ideal S12x128x256 .f32) (n : Fin 64) (h : Fin 4)
    (r : Fin 128) : Fin 256 → EReal :=
  score (fun l => q (ix3 0 ⟨n.val * 128 + r.val, by omega⟩ ⟨h.val * 128 + l.val, by omega⟩)) (window k n h)
    (fun j => b (ix3 ⟨h.val, by omega⟩ r j)) (before n)

theorem row_score (q k : FVec Ideal S1x8192x512 .bf16) (b : FVec Ideal S12x128x256 .f32) (n : Fin 64) (h : Fin 4)
    (r : Fin 128) : (fun j => val_main_v31 (F := Ideal) q k b (ix5 0 n h r j)) = rowScore q k b n h r :=
  funext fun j => scores_apply q k b n h r j

/-- The largest score. -/
theorem max_apply (q k : FVec Ideal S1x8192x512 .bf16) (b : FVec Ideal S12x128x256 .f32) (n : Fin 64) (h : Fin 4)
    (r : Fin 128) : val_main_v32 (F := Ideal) q k b (ix4 0 n h r) = top (rowScore q k b n h r) := by
  rw [← row_score]
  unfold top
  pointwise [val_main_v32, val_main_cst_4]
  simp only [minus_infinity]

/-- The weight of one key. -/
theorem weight_apply (q k : FVec Ideal S1x8192x512 .bf16) (b : FVec Ideal S12x128x256 .f32) (n : Fin 64) (h : Fin 4)
    (r : Fin 128) (j : Fin 256) :
    val_main_v36 (F := Ideal) q k b (ix5 0 n h r j) = weight (rowScore q k b n h r) j := by
  unfold weight
  rw [← max_apply, ← row_score]
  pointwise [val_main_v36, val_main_v35, val_main_v34, val_main_v33]

/-- The sum of the weights. -/
theorem total_apply (q k : FVec Ideal S1x8192x512 .bf16) (b : FVec Ideal S12x128x256 .f32) (n : Fin 64) (h : Fin 4)
    (r : Fin 128) :
    val_main_v37 (F := Ideal) q k b (ix4 0 n h r) = ∑ j : Fin 256, weight (rowScore q k b n h r) j := by
  simp only [← weight_apply]
  pointwise [val_main_v37, val_main_cst_5]

/-- The attention output, at row `r` of block `n`, head `h`, lane `e`. -/
theorem ref_out (q k v : FVec Ideal S1x8192x512 .bf16) (b : FVec Ideal S12x128x256 .f32) (n : Fin 64) (h : Fin 4)
    (r e : Fin 128) :
    val_main_v49 (F := Ideal) q k v b (ix3 0 ⟨n.val * 128 + r.val, by omega⟩ ⟨h.val * 128 + e.val, by omega⟩)
      = attend (rowScore q k b n h r) (fun j => window v n h j e) := by
  unfold attend
  rw [← total_apply]
  simp only [← weight_apply, ← values_apply]
  pointwise [val_main_v49, val_main_v48, val_main_v43, val_main_v42, val_main_v41, val_main_v40, val_main_v39,
    val_main_v38]
  simp only [mul_comm]

/-- The largest score, without its axis of one. -/
theorem max_flat (q k : FVec Ideal S1x8192x512 .bf16) (b : FVec Ideal S12x128x256 .f32) (n : Fin 64) (h : Fin 4)
    (r : Fin 128) : val_main_v44 (F := Ideal) q k b (ix4 0 n h r) = val_main_v32 (F := Ideal) q k b (ix4 0 n h r) := by
  rw [val_main_v44_apply, val_main_v33_apply]
  refine congrArg (val_main_v32 (F := Ideal) q k b) (funext fun a => Fin.ext ?_)
  have hn := n.isLt
  have hh := h.isLt
  have hr := r.isLt
  match a with
  | ⟨0, _⟩ => rfl
  | ⟨1, _⟩ =>
    show (((0 * 64 + n.val) * 4 + h.val) * 128 + r.val) / 512 % 64 = n.val
    omega
  | ⟨2, _⟩ =>
    show (((0 * 64 + n.val) * 4 + h.val) * 128 + r.val) / 128 % 4 = h.val
    omega
  | ⟨3, _⟩ =>
    show (((0 * 64 + n.val) * 4 + h.val) * 128 + r.val) / 1 % 128 = r.val
    omega

theorem lse_row (q k : FVec Ideal S1x8192x512 .bf16) (b : FVec Ideal S12x128x256 .f32) (n : Fin 64) (h : Fin 4)
    (r : Fin 128) : val_main_v46 (F := Ideal) q k b (ix4 0 n h r) = logSum (rowScore q k b n h r) := by
  unfold logSum
  rw [val_main_v46_apply, max_flat, val_main_v45_apply, total_apply, max_apply]
  rfl

/-- The log-sum-exp, at the same index. -/
theorem ref_lse (q k : FVec Ideal S1x8192x512 .bf16) (b : FVec Ideal S12x128x256 .f32) (n : Fin 64) (h : Fin 4)
    (r e : Fin 128) :
    val_main_v52 (F := Ideal) q k b (ix3 0 ⟨n.val * 128 + r.val, by omega⟩ ⟨h.val * 128 + e.val, by omega⟩)
      = logSum (rowScore q k b n h r) := by
  rw [← lse_row]
  pointwise [val_main_v52, val_main_v51, val_main_v50, val_main_v47]

end Cert.KernelIdeal.RefValue

end
-- ==== Proof.DilValue.Final.lean ====
/-
  The two arrays the dilated attention kernel leaves are the two values of its reference.
-/
module

public import proofs.«01_k».proof.Defs
public import proofs.«01_k».proof.Proof.DilValue.Pieces
public import proofs.«01_k».proof.Proof.DilValue.Rows
public import proofs.«01_k».proof.Proof.Gen.KernelIdeal.Value
public import Idealize.ShloMosaic.Lib.Claim
public import Idealize.ShloMosaic.Lib.Pipeline.ValueKit.Geometry

@[expose] public section

set_option maxRecDepth 16384

noncomputable section

namespace Cert.KernelIdeal.RefValue

open Cert.KernelIdeal Cert.KernelIdeal.Gen Cert.KernelIdeal.Value Idealize.ShloMosaic Idealize.ShloMosaic.TcCoe
  Idealize.SL.Sem
open Cert.ReferenceIdeal.Read

/-- Hidden keys do not count in the scores. -/
theorem score_congr (q : Fin 128 → EReal) (k k' : Fin 256 → Fin 128 → EReal) (b : Fin 256 → EReal) (hid : Fin 256 → Bool)
    (h : ∀ j, hid j = false → ∀ l, k j l = k' j l) : score q k b hid = score q k' b hid := by
  funext j
  unfold score
  by_cases hj : hid j = true
  · rw [if_pos hj, if_pos hj]
  · rw [if_neg hj, if_neg hj, funext fun l => h j (by simpa using hj) l]

/-- A hidden key has the weight zero. -/
theorem weight_hidden (q : Fin 128 → EReal) (k : Fin 256 → Fin 128 → EReal) (b : Fin 256 → EReal) (hid : Fin 256 → Bool)
    (j : Fin 256) (hj : hid j = true) : weight (score q k b hid) j = 0 := by
  unfold weight
  rw [show score q k b hid j = ⊥ from if_pos hj, EReal.bot_sub]
  rfl

/-- Hidden values do not count in the average. -/
theorem attend_congr (q : Fin 128 → EReal) (k : Fin 256 → Fin 128 → EReal) (b : Fin 256 → EReal) (hid : Fin 256 → Bool)
    (v v' : Fin 256 → EReal) (h : ∀ j, hid j = false → v j = v' j) :
    attend (score q k b hid) v = attend (score q k b hid) v' := by
  unfold attend
  refine congrArg (fun s => Ideal.div s _) (Finset.sum_congr rfl fun j _ => ?_)
  by_cases hj : hid j = true
  · rw [weight_hidden q k b hid j hj, zero_mul, zero_mul]
  · rw [h j (by simpa using hj)]

variable (m : (ℓ : Loc nD τ sig) → Buf (Elt Ideal) ℓ)

/-- Where each window stands at point `t`. -/
theorem places : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = 16 * t.val - 1 ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 3) = 0 ∧ win0_4.index t (1 : Fin 3) = 16 * t.val - 1 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = t.val ∧ win0_6.index t (2 : Fin 3) = 0)
    ∧ (win0_7.index t (0 : Fin 3) = 0 ∧ win0_7.index t (1 : Fin 3) = t.val ∧ win0_7.index t (2 : Fin 3) = 0)
    ∧ (grid0.coords t 1).val = t.val :=
  (by decide +kernel : ∀ t : Fin grid0.N, _)

theorem point_lt (t : Fin cfg0.N) : t.val < 4 := lt_of_lt_of_eq t.isLt N_0

/-- The queries. -/
theorem block_q (c : Dev nD) (t : Fin cfg0.N) (r : Fin 2048) (k : Fin 512) (R : Fin 8192) (hR : R.val = t.val * 2048 + r.val) :
    (iblk m c 0 t : Vec Ideal S1x2048x512 .bf16) (ix3 0 r k) = m ((c : Thread nD τ).loc main_arg0) (ix3 0 R k) := by
  obtain ⟨⟨e0, e1, e2⟩, _⟩ := places t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * 0 = 0; omega
  | ⟨1, _⟩ => show win0_0.index t (1 : Fin 3) * 2048 + 1 * r.val = R.val; omega
  | ⟨2, _⟩ => show win0_0.index t (2 : Fin 3) * 512 + 1 * k.val = k.val; omega

/-- The keys of the tile's own rows. -/
theorem block_k (c : Dev nD) (t : Fin cfg0.N) (r : Fin 2048) (k : Fin 512) (R : Fin 8192) (hR : R.val = t.val * 2048 + r.val) :
    (iblk m c 1 t : Vec Ideal S1x2048x512 .bf16) (ix3 0 r k) = m ((c : Thread nD τ).loc main_arg1) (ix3 0 R k) := by
  obtain ⟨_, ⟨e0, e1, e2⟩, _⟩ := places t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 3) * 1 + 1 * 0 = 0; omega
  | ⟨1, _⟩ => show win0_1.index t (1 : Fin 3) * 2048 + 1 * r.val = R.val; omega
  | ⟨2, _⟩ => show win0_1.index t (2 : Fin 3) * 512 + 1 * k.val = k.val; omega

/-- The keys of the 128 rows before the tile. -/
theorem block_kp (c : Dev nD) (t : Fin cfg0.N) (r : Fin 128) (k : Fin 512) (R : Fin 8192)
    (hR : R.val = (16 * t.val - 1) * 128 + r.val) :
    (iblk m c 2 t : Vec Ideal S1x128x512 .bf16) (ix3 0 r k) = m ((c : Thread nD τ).loc main_arg1) (ix3 0 R k) := by
  obtain ⟨_, _, ⟨e0, e1, e2⟩, _⟩ := places t
  unfold iblk
  rw [View.read_apply]
  show V m c main_arg1 _ = _
  rw [V_main_arg1]
  refine congrArg (m ((c : Thread nD τ).loc main_arg1)) (funext fun a => Fin.ext ?_)
  match a with
  | ⟨0, _⟩ => show win0_2.index t (0 : Fin 3) * 1 + 1 * 0 = 0; omega
  | ⟨1, _⟩ => show win0_2.index t (1 : Fin 3) * 128 + 1 * r.val = R.val; omega
  | ⟨2, _⟩ => show win0_2.index t (2 : Fin 3) * 512 + 1 * k.val = k.val; omega

/-- The values of the tile's own rows. -/
theorem block_v (c : Dev nD) (t : Fin cfg0.N) (r : Fin 2048) (k : Fin 512) (R : Fin 8192) (hR : R.val = t.val * 2048 + r.val) :
    (iblk m c 3 t : Vec Ideal S1x2048x512 .bf16) (ix3 0 r k) = m ((c : Thread nD τ).loc main_arg2) (ix3 0 R k) := by
  obtain ⟨_, _, _, ⟨e0, e1, e2⟩, _⟩ := places t
  unfold iblk
  rw [View.read_apply]
  show V m c main_arg2 _ = _
  rw [V_main_arg2]
  refine congrArg (m ((c : Thread nD τ).loc main_arg2)) (funext fun a => Fin.ext ?_)
  match a with
  | ⟨0, _⟩ => show win0_3.index t (0 : Fin 3) * 1 + 1 * 0 = 0; omega
  | ⟨1, _⟩ => show win0_3.index t (1 : Fin 3) * 2048 + 1 * r.val = R.val; omega
  | ⟨2, _⟩ => show win0_3.index t (2 : Fin 3) * 512 + 1 * k.val = k.val; omega

/-- The values of the 128 rows before the tile. -/
theorem block_vp (c : Dev nD) (t : Fin cfg0.N) (r : Fin 128) (k : Fin 512) (R : Fin 8192)
    (hR : R.val = (16 * t.val - 1) * 128 + r.val) :
    (iblk m c 4 t : Vec Ideal S1x128x512 .bf16) (ix3 0 r k) = m ((c : Thread nD τ).loc main_arg2) (ix3 0 R k) := by
  obtain ⟨_, _, _, _, ⟨e0, e1, e2⟩, _⟩ := places t
  unfold iblk
  rw [View.read_apply]
  show V m c main_arg2 _ = _
  rw [V_main_arg2]
  refine congrArg (m ((c : Thread nD τ).loc main_arg2)) (funext fun a => Fin.ext ?_)
  match a with
  | ⟨0, _⟩ => show win0_4.index t (0 : Fin 3) * 1 + 1 * 0 = 0; omega
  | ⟨1, _⟩ => show win0_4.index t (1 : Fin 3) * 128 + 1 * r.val = R.val; omega
  | ⟨2, _⟩ => show win0_4.index t (2 : Fin 3) * 512 + 1 * k.val = k.val; omega

/-- The bias: the first four of its twelve planes. -/
theorem block_b (c : Dev nD) (t : Fin cfg0.N) (h : Fin 4) (r : Fin 128) (j : Fin 256) :
    (iblk m c 5 t : Vec Ideal S4x128x256 .f32) (ix3 h r j)
      = m ((c : Thread nD τ).loc main_arg3) (ix3 (⟨h.val, by omega⟩ : Fin 12) r j) := by
  obtain ⟨_, _, _, _, _, ⟨e0, e1, e2⟩, _⟩ := places t
  unfold iblk
  rw [View.read_apply]
  show V m c main_arg3 _ = _
  rw [V_main_arg3]
  refine congrArg (m ((c : Thread nD τ).loc main_arg3)) (funext fun a => Fin.ext ?_)
  match a with
  | ⟨0, _⟩ => show win0_5.index t (0 : Fin 3) * 4 + 1 * h.val = h.val; omega
  | ⟨1, _⟩ => show win0_5.index t (1 : Fin 3) * 128 + 1 * r.val = r.val; omega
  | ⟨2, _⟩ => show win0_5.index t (2 : Fin 3) * 256 + 1 * j.val = j.val; omega

/-- The sequence's block number `n` of tile `t`. -/
def whole (t : Fin cfg0.N) (n : Fin 16) : Fin 64 := ⟨t.val * 16 + n.val, by have := point_lt t; omega⟩

theorem hidden_eq (t : Fin cfg0.N) (n : Fin 16) : tileHidden (grid0.coords t) n = before (whole t n) := by
  obtain ⟨_, _, _, _, _, _, _, _, e⟩ := places t
  funext j
  unfold tileHidden before
  rw [e]
  exact decide_eq_decide.mpr (by show _ ↔ (t.val * 16 + n.val) * 128 + j.val < 128; omega)

/-- A tile's keys are the sequence's, where they are not hidden: for any array cut as the keys and the values are. -/
theorem tileKeys_eq (t : Fin cfg0.N) (x : FVec Ideal S1x8192x512 .bf16) (p : Vec Ideal S1x128x512 .bf16)
    (k : Vec Ideal S1x2048x512 .bf16)
    (hk : ∀ (r : Fin 2048) (l : Fin 512) (R : Fin 8192), R.val = t.val * 2048 + r.val → k (ix3 0 r l) = x (ix3 0 R l))
    (hp : ∀ (r : Fin 128) (l : Fin 512) (R : Fin 8192), R.val = (16 * t.val - 1) * 128 + r.val →
      p (ix3 0 r l) = x (ix3 0 R l))
    (n : Fin 16) (h : Fin 4) (j : Fin 256) (hj : before (whole t n) j = false) (l : Fin 128) :
    tileKeys p k n h j l = window x (whole t n) h j l := by
  have ht := point_lt t
  have hw : ¬ (t.val * 16 + n.val) * 128 + j.val < 128 := of_decide_eq_false hj
  have hw' : 128 ≤ (whole t n).val * 128 + j.val := by show 128 ≤ (t.val * 16 + n.val) * 128 + j.val; omega
  unfold tileKeys
  by_cases hc : 128 ≤ n.val * 128 + j.val
  · rw [dif_pos hc, hk _ _ ⟨(t.val * 16 + n.val) * 128 + j.val - 128, by omega⟩
      (by show (t.val * 16 + n.val) * 128 + j.val - 128 = t.val * 2048 + (n.val * 128 + j.val - 128); omega)]
    exact window_own x _ h j l _ _ hw' (by
      show (t.val * 16 + n.val) * 128 + j.val - 128 + 128 = (t.val * 16 + n.val) * 128 + j.val; omega) rfl
  · rw [dif_neg hc, hp _ _ ⟨(t.val * 16 + n.val) * 128 + j.val - 128, by omega⟩
      (by show (t.val * 16 + n.val) * 128 + j.val - 128 = (16 * t.val - 1) * 128 + j.val; omega)]
    exact window_own x _ h j l _ _ hw' (by
      show (t.val * 16 + n.val) * 128 + j.val - 128 + 128 = (t.val * 16 + n.val) * 128 + j.val; omega) rfl

/-- The scores of a tile's row are the sequence's. -/
theorem tileScore_eq (c : Dev nD) (t : Fin cfg0.N) (n : Fin 16) (h : Fin 4) (r : Fin 128) :
    tileScore (grid0.coords t) (iblk m c 0 t) (iblk m c 1 t) (iblk m c 2 t) (iblk m c 5 t) n h r
      = rowScore (m ((c : Thread nD τ).loc main_arg0)) (m ((c : Thread nD τ).loc main_arg1))
          (m ((c : Thread nD τ).loc main_arg3)) (whole t n) h r := by
  have ht := point_lt t
  unfold tileScore rowScore
  rw [hidden_eq, funext fun l : Fin 128 => block_q m c t ⟨n.val * 128 + r.val, by omega⟩ ⟨h.val * 128 + l.val, by omega⟩
      ⟨(whole t n).val * 128 + r.val, by omega⟩ (by
        show (t.val * 16 + n.val) * 128 + r.val = t.val * 2048 + (n.val * 128 + r.val); omega),
    funext fun j => block_b m c t h r j]
  exact score_congr _ _ _ _ _ fun j hj l =>
    tileKeys_eq t _ _ _ (block_k m c t) (block_kp m c t) n h j hj l

/-- A tile's index, by sub-block, row, head and lane. -/
theorem split_index (y : S1x2048x512.Idx) : ∃ (n : Fin 16) (r : Fin 128) (h : Fin 4) (e : Fin 128),
    y = ix3 0 ⟨n.val * 128 + r.val, by omega⟩ ⟨h.val * 128 + e.val, by omega⟩ := by
  have h0 : (y 0).val < 1 := (y 0).isLt
  have h1 : (y 1).val < 2048 := (y 1).isLt
  have h2 : (y 2).val < 512 := (y 2).isLt
  refine ⟨⟨(y 1).val / 128, by omega⟩, ⟨(y 1).val % 128, by omega⟩, ⟨(y 2).val / 128, by omega⟩,
    ⟨(y 2).val % 128, by omega⟩, funext fun a => Fin.ext ?_⟩
  match a with
  | ⟨0, _⟩ => show (y 0).val = 0; omega
  | ⟨1, _⟩ => show (y 1).val = (y 1).val / 128 * 128 + (y 1).val % 128; omega
  | ⟨2, _⟩ => show (y 2).val = (y 2).val / 128 * 128 + (y 2).val % 128; omega

/-- The attention array. -/
theorem out_eq (c : Dev nD) : (dats m 0 c).arrAt 6 cfg0.N
    = val_main_v49 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t _ y => ?_
  have ht := point_lt t
  obtain ⟨n, r, h, e, hy⟩ := split_index y
  obtain ⟨_, _, _, _, _, _, ⟨e0, e1, e2⟩, _⟩ := places t
  have hemb : (((cfg0.win 6).blk t).view.emb y : S1x8192x512.Idx)
      = ix3 0 ⟨(whole t n).val * 128 + r.val, by omega⟩ ⟨h.val * 128 + e.val, by omega⟩ := by
    subst hy
    funext a; apply Fin.ext
    match a with
    | ⟨0, _⟩ => show win0_6.index t (0 : Fin 3) * 1 + 1 * 0 = 0; omega
    | ⟨1, _⟩ =>
      show win0_6.index t (1 : Fin 3) * 2048 + 1 * (n.val * 128 + r.val) = (t.val * 16 + n.val) * 128 + r.val; omega
    | ⟨2, _⟩ => show win0_6.index t (2 : Fin 3) * 512 + 1 * (h.val * 128 + e.val) = h.val * 128 + e.val; omega
  rw [hemb, ref_out, after0_6]
  subst hy
  refine (tile_out (grid0.coords t) _ _ _ _ _ _ n h r e).trans ?_
  rw [tileScore_eq]
  exact attend_congr _ _ _ _ _ _ fun j hj => tileKeys_eq t _ _ _ (block_v m c t) (block_vp m c t) n h j hj e

/-- The log-sum-exp array. -/
theorem lse_eq (c : Dev nD) : (dats m 0 c).arrAt 7 cfg0.N
    = val_main_v52 (F := Ideal) (m ((c : Thread nD τ).loc main_arg0)) (m ((c : Thread nD τ).loc main_arg1))
        (m ((c : Thread nD τ).loc main_arg3)) := by
  refine (dats m 0 c).arrAt_eq_of_covers 7 _ (by decide +kernel) fun t _ y => ?_
  have ht := point_lt t
  obtain ⟨n, r, h, e, hy⟩ := split_index y
  obtain ⟨_, _, _, _, _, _, _, ⟨e0, e1, e2⟩, _⟩ := places t
  have hemb : (((cfg0.win 7).blk t).view.emb y : S1x8192x512.Idx)
      = ix3 0 ⟨(whole t n).val * 128 + r.val, by omega⟩ ⟨h.val * 128 + e.val, by omega⟩ := by
    subst hy
    funext a; apply Fin.ext
    match a with
    | ⟨0, _⟩ => show win0_7.index t (0 : Fin 3) * 1 + 1 * 0 = 0; omega
    | ⟨1, _⟩ =>
      show win0_7.index t (1 : Fin 3) * 2048 + 1 * (n.val * 128 + r.val) = (t.val * 16 + n.val) * 128 + r.val; omega
    | ⟨2, _⟩ => show win0_7.index t (2 : Fin 3) * 512 + 1 * (h.val * 128 + e.val) = h.val * 128 + e.val; omega
  rw [hemb, ref_lse, after0_7]
  subst hy
  refine (tile_lse (grid0.coords t) _ _ _ _ _ _ n h r e).trans ?_
  rw [tileScore_eq]

/-- The two programs run, and from equal arguments their two results are equal. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => (dats m 0 c).arrAt 6 cfg0.N, fun c => (dats m 0 c).arrAt 7 cfg0.N, Value.run_blocks (F := Ideal) m g, ?_⟩
  refine (θ_run (Cert.ReferenceIdeal.defs (F := Ideal)) _ _).mono (fun r h c => ?_)
    (Cert.ReferenceIdeal.Value.run (F := Ideal) m' g')
  obtain ⟨h0, h1, hkept⟩ := h c
  obtain ⟨a0, a1, a2, a3⟩ := hargs c
  refine ⟨h0.trans ?_, h1.trans ?_, hkept⟩
  · rw [val_main_v49_eq, a0, a1, a2, a3]
    exact (out_eq m c).symm
  · rw [val_main_v52_eq, a0, a1, a3]
    exact (lse_eq m c).symm

end Cert.KernelIdeal.RefValue

end
-- ==== Proof.lean ====
/-
  The certificate assembled: the generated frames, the references' frames (Proof/References.lean), the one named
  constant, and the value claims (Proof/DilValue, Proof/MlpValue, Proof/OutValue,
  Proof/ProjValue, Proof/KvValue).
-/
module

public import proofs.«01_k».proof.Defs
public import proofs.«01_k».proof.Proof.Gen.Kernel.Frame
public import proofs.«01_k».proof.Proof.Gen.KernelIdeal.Frame
public import proofs.«01_k».proof.Proof.Gen.Mlp.Frame
public import proofs.«01_k».proof.Proof.References
public import proofs.«01_k».proof.Proof.Gen.OutA.Frame
public import proofs.«01_k».proof.Proof.OutValue.Final
public import proofs.«01_k».proof.Proof.Gen.ProjQ.Frame
public import proofs.«01_k».proof.Proof.ProjValue.Final
public import proofs.«01_k».proof.Proof.Gen.Proj.Frame
public import proofs.«01_k».proof.Proof.KvValue.Final
public import proofs.«01_k».proof.Proof.MlpValue.Final
public import proofs.«01_k».proof.Proof.DilValue.Final

@[expose] public section

noncomputable section

namespace Cert.Proof

open Idealize.ShloMosaic

theorem claim : Cert.Claim :=
  ⟨Cert.Kernel.Gen.facts, Cert.KernelIdeal.Gen.facts, Cert.ReferenceIdeal.Gen.facts, Cert.Mlp.Gen.facts,
    Cert.MlpIdeal.Gen.facts, Cert.MlpReferenceIdeal.Gen.facts, Cert.OutA.Gen.facts, Cert.OutAIdeal.Gen.facts,
    Cert.OutAReferenceIdeal.Gen.facts, Cert.ProjQ.Gen.facts, Cert.ProjQIdeal.Gen.facts,
    Cert.ProjQReferenceIdeal.Gen.facts, Cert.Proj.Gen.facts, Cert.ProjIdeal.Gen.facts,
    Cert.ProjReferenceIdeal.Gen.facts, Cert.Pre_finite_scores.Gen.facts,
    fun m ρ _ => Cert.Kernel.Gen.frame m ρ, fun m ρ _ => Cert.KernelIdeal.Gen.frame m ρ, frame_reference,
    fun m ρ _ => Cert.Mlp.Gen.frame m ρ, fun m ρ _ => Cert.MlpIdeal.Gen.frame m ρ, frame_mlp_reference,
    fun m ρ _ => Cert.OutA.Gen.frame m ρ, fun m ρ _ => Cert.OutAIdeal.Gen.frame m ρ,
    fun m ρ _ => Cert.OutAIdeal.Gen.frame m ρ, fun m ρ _ => frame_out_reference m ρ trivial,
    fun m ρ _ => frame_out_reference m ρ trivial,
    fun m ρ _ => Cert.ProjQ.Gen.frame m ρ, fun m ρ _ => Cert.ProjQIdeal.Gen.frame m ρ, frame_proj_reference,
    fun m ρ _ => Cert.Proj.Gen.frame m ρ, fun m ρ _ => Cert.ProjIdeal.Gen.frame m ρ, frame_proj_kv_reference,
    IdealRules.named_const.statement Cert.KernelIdeal.κ "mask" .f32 0xF149F2CA#32 ⊥ rfl,
    Cert.KernelIdeal.RefValue.algebraic, trivial, Cert.MlpIdeal.RefValue.algebraic, trivial,
    Cert.OutAIdeal.RefValue.algebraic, trivial, Cert.ProjQIdeal.RefValue.algebraic, trivial,
    Cert.ProjIdeal.RefValue.algebraic⟩

end Cert.Proof

end
